-- ==== Defs.lean ====
def Pre_MlpDownBwd (m : (ℓ : Loc Cert.MlpDownBwd.nD Cert.MlpDownBwd.τ Cert.MlpDownBwd.sig) → Buf (Elt Bits) ℓ) : Prop :=
  True

def Pre_MlpDownBwdIdeal (m : (ℓ : Loc Cert.MlpDownBwdIdeal.nD Cert.MlpDownBwdIdeal.τ Cert.MlpDownBwdIdeal.sig) → Buf (Elt Ideal) ℓ) : Prop :=
  True

def Pre_MlpDownBwdRefIdeal (m : (ℓ : Loc Cert.MlpDownBwdRefIdeal.nD Cert.MlpDownBwdRefIdeal.τ Cert.MlpDownBwdRefIdeal.sig) → Buf (Elt Ideal) ℓ) : Prop :=
  True

def Pre_MlpDownWgrad (m : (ℓ : Loc Cert.MlpDownWgrad.nD Cert.MlpDownWgrad.τ Cert.MlpDownWgrad.sig) → Buf (Elt Bits) ℓ) : Prop :=
  True

def Pre_MlpDownWgradIdeal (m : (ℓ : Loc Cert.MlpDownWgradIdeal.nD Cert.MlpDownWgradIdeal.τ Cert.MlpDownWgradIdeal.sig) → Buf (Elt Ideal) ℓ) : Prop :=
  True

def Pre_MlpDownWgradRefIdeal (m : (ℓ : Loc Cert.MlpDownWgradRefIdeal.nD Cert.MlpDownWgradRefIdeal.τ Cert.MlpDownWgradRefIdeal.sig) → Buf (Elt Ideal) ℓ) : Prop :=
  True

def Pre_MlpUpBwd (m : (ℓ : Loc Cert.MlpUpBwd.nD Cert.MlpUpBwd.τ Cert.MlpUpBwd.sig) → Buf (Elt Bits) ℓ) : Prop :=
  True

def Pre_MlpUpBwdIdeal (m : (ℓ : Loc Cert.MlpUpBwdIdeal.nD Cert.MlpUpBwdIdeal.τ Cert.MlpUpBwdIdeal.sig) → Buf (Elt Ideal) ℓ) : Prop :=
  True

def Pre_MlpUpBwdRefIdeal (m : (ℓ : Loc Cert.MlpUpBwdRefIdeal.nD Cert.MlpUpBwdRefIdeal.τ Cert.MlpUpBwdRefIdeal.sig) → Buf (Elt Ideal) ℓ) : Prop :=
  True

def Pre_MlpUpWgrad (m : (ℓ : Loc Cert.MlpUpWgrad.nD Cert.MlpUpWgrad.τ Cert.MlpUpWgrad.sig) → Buf (Elt Bits) ℓ) : Prop :=
  True

def Pre_MlpUpWgradIdeal (m : (ℓ : Loc Cert.MlpUpWgradIdeal.nD Cert.MlpUpWgradIdeal.τ Cert.MlpUpWgradIdeal.sig) → Buf (Elt Ideal) ℓ) : Prop :=
  True

def Pre_MlpUpWgradRefIdeal (m : (ℓ : Loc Cert.MlpUpWgradRefIdeal.nD Cert.MlpUpWgradRefIdeal.τ Cert.MlpUpWgradRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_BranchBwdA (m : (ℓ : Loc Cert.BranchBwdA.nD Cert.BranchBwdA.τ Cert.BranchBwdA.sig) → Buf (Elt Bits) ℓ) : Prop :=
  True

def Pre_BranchBwdAIdeal (m : (ℓ : Loc Cert.BranchBwdAIdeal.nD Cert.BranchBwdAIdeal.τ Cert.BranchBwdAIdeal.sig) → Buf (Elt Ideal) ℓ) : Prop :=
  True

def Pre_BranchBwdARefIdeal (m : (ℓ : Loc Cert.BranchBwdARefIdeal.nD Cert.BranchBwdARefIdeal.τ Cert.BranchBwdARefIdeal.sig) → Buf (Elt Ideal) ℓ) : Prop :=
  True

def Pre_BranchBwd (m : (ℓ : Loc Cert.BranchBwd.nD Cert.BranchBwd.τ Cert.BranchBwd.sig) → Buf (Elt Bits) ℓ) : Prop :=
  True

def Pre_BranchBwdIdeal (m : (ℓ : Loc Cert.BranchBwdIdeal.nD Cert.BranchBwdIdeal.τ Cert.BranchBwdIdeal.sig) → Buf (Elt Ideal) ℓ) : Prop :=
  True

def Pre_BranchBwdRefIdeal (m : (ℓ : Loc Cert.BranchBwdRefIdeal.nD Cert.BranchBwdRefIdeal.τ Cert.BranchBwdRefIdeal.sig) → Buf (Elt Ideal) ℓ) : Prop :=
  True

def Pre_BranchWgrad (m : (ℓ : Loc Cert.BranchWgrad.nD Cert.BranchWgrad.τ Cert.BranchWgrad.sig) → Buf (Elt Bits) ℓ) : Prop :=
  True

def Pre_BranchWgradIdeal (m : (ℓ : Loc Cert.BranchWgradIdeal.nD Cert.BranchWgradIdeal.τ Cert.BranchWgradIdeal.sig) → Buf (Elt Ideal) ℓ) : Prop :=
  True

def Pre_BranchWgradRefIdeal (m : (ℓ : Loc Cert.BranchWgradRefIdeal.nD Cert.BranchWgradRefIdeal.τ Cert.BranchWgradRefIdeal.sig) → Buf (Elt Ideal) ℓ) : Prop :=
  True

def Pre_ProjWgrad (m : (ℓ : Loc Cert.ProjWgrad.nD Cert.ProjWgrad.τ Cert.ProjWgrad.sig) → Buf (Elt Bits) ℓ) : Prop :=
  True

def Pre_ProjWgradIdeal (m : (ℓ : Loc Cert.ProjWgradIdeal.nD Cert.ProjWgradIdeal.τ Cert.ProjWgradIdeal.sig) → Buf (Elt Ideal) ℓ) : Prop :=
  True

def Pre_ProjWgradRefIdeal (m : (ℓ : Loc Cert.ProjWgradRefIdeal.nD Cert.ProjWgradRefIdeal.τ Cert.ProjWgradRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_LnInBwd (m : (ℓ : Loc Cert.LnInBwd.nD Cert.LnInBwd.τ Cert.LnInBwd.sig) → Buf (Elt Bits) ℓ) : Prop :=
  True

def Pre_LnInBwdIdeal (m : (ℓ : Loc Cert.LnInBwdIdeal.nD Cert.LnInBwdIdeal.τ Cert.LnInBwdIdeal.sig) → Buf (Elt Ideal) ℓ) : Prop :=
  True

def Pre_LnInBwdRefIdeal (m : (ℓ : Loc Cert.LnInBwdRefIdeal.nD Cert.LnInBwdRefIdeal.τ Cert.LnInBwdRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_BranchProj (m : (ℓ : Loc Cert.BranchProj.nD Cert.BranchProj.τ Cert.BranchProj.sig) → Buf (Elt Bits) ℓ) : Prop :=
  True

def Pre_BranchProjIdeal (m : (ℓ : Loc Cert.BranchProjIdeal.nD Cert.BranchProjIdeal.τ Cert.BranchProjIdeal.sig) → Buf (Elt Ideal) ℓ) : Prop :=
  True

def Pre_BranchProjRefIdeal (m : (ℓ : Loc Cert.BranchProjRefIdeal.nD Cert.BranchProjRefIdeal.τ Cert.BranchProjRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_OutProjLn (m : (ℓ : Loc Cert.OutProjLn.nD Cert.OutProjLn.τ Cert.OutProjLn.sig) → Buf (Elt Bits) ℓ) : Prop :=
  True

def Pre_OutProjLnIdeal (m : (ℓ : Loc Cert.OutProjLnIdeal.nD Cert.OutProjLnIdeal.τ Cert.OutProjLnIdeal.sig) → Buf (Elt Ideal) ℓ) : Prop :=
  True

def Pre_OutProjLnRefIdeal (m : (ℓ : Loc Cert.OutProjLnRefIdeal.nD Cert.OutProjLnRefIdeal.τ Cert.OutProjLnRefIdeal.sig) → Buf (Elt Ideal) ℓ) : Prop :=
  True

def Pre_MlpDownLn (m : (ℓ : Loc Cert.MlpDownLn.nD Cert.MlpDownLn.τ Cert.MlpDownLn.sig) → Buf (Elt Bits) ℓ) : Prop :=
  True

def Pre_MlpDownLnIdeal (m : (ℓ : Loc Cert.MlpDownLnIdeal.nD Cert.MlpDownLnIdeal.τ Cert.MlpDownLnIdeal.sig) → Buf (Elt Ideal) ℓ) : Prop :=
  True

def Pre_MlpDownLnRefIdeal (m : (ℓ : Loc Cert.MlpDownLnRefIdeal.nD Cert.MlpDownLnRefIdeal.τ Cert.MlpDownLnRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInRefIdeal (m : (ℓ : Loc Cert.LnInRefIdeal.nD Cert.LnInRefIdeal.τ Cert.LnInRefIdeal.sig) → Buf (Elt Ideal) ℓ) : Prop :=
  True

def Pre_Normgate (m : (ℓ : Loc Cert.Normgate.nD Cert.Normgate.τ Cert.Normgate.sig) → Buf (Elt Bits) ℓ) : Prop :=
  True

def Pre_NormgateIdeal (m : (ℓ : Loc Cert.NormgateIdeal.nD Cert.NormgateIdeal.τ Cert.NormgateIdeal.sig) → Buf (Elt Ideal) ℓ) : Prop :=
  True

def Pre_NormgateRefIdeal (m : (ℓ : Loc Cert.NormgateRefIdeal.nD Cert.NormgateRefIdeal.τ Cert.NormgateRefIdeal.sig) → Buf (Elt Ideal) ℓ) : Prop :=
  True

def quiescent_MlpDownBwd [hMlpDownBwd : Cert.MlpDownBwd.Facts] : Prop :=
  ∀ (m : (ℓ : Loc Cert.MlpDownBwd.nD Cert.MlpDownBwd.τ Cert.MlpDownBwd.sig) → Buf (Elt Bits) ℓ) (g : Dev Cert.MlpDownBwd.nD → PrngReg), Pre_MlpDownBwd m →
    θ_run (Cert.MlpDownBwd.defs (F := Bits)) (onTc (τ := Cert.MlpDownBwd.τ) (Cert.MlpDownBwd.main (F := Bits))) ⟨m, fun _ => 0, g⟩ (fun r => (∀ c : Dev Cert.MlpDownBwd.nD,
      r.2.mem ((c.tc : Thread Cert.MlpDownBwd.nD Cert.MlpDownBwd.τ).loc Cert.MlpDownBwd.main_arg0) = m ((c.tc : Thread Cert.MlpDownBwd.nD Cert.MlpDownBwd.τ).loc Cert.MlpDownBwd.main_arg0)
      ∧ r.2.mem ((c.tc : Thread Cert.MlpDownBwd.nD Cert.MlpDownBwd.τ).loc Cert.MlpDownBwd.main_arg1) = m ((c.tc : Thread Cert.MlpDownBwd.nD Cert.MlpDownBwd.τ).loc Cert.MlpDownBwd.main_arg1)
      ∧ r.2.mem ((c.tc : Thread Cert.MlpDownBwd.nD Cert.MlpDownBwd.τ).loc Cert.MlpDownBwd.main_arg2) = m ((c.tc : Thread Cert.MlpDownBwd.nD Cert.MlpDownBwd.τ).loc Cert.MlpDownBwd.main_arg2))
      ∧ r.2.sem = fun _ => 0)

def quiescent_MlpDownBwdIdeal [hMlpDownBwdIdeal : Cert.MlpDownBwdIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg), Pre_MlpDownBwdIdeal m →
    θ_run (Cert.MlpDownBwdIdeal.defs (F := Ideal)) (onTc (τ := Cert.MlpDownBwdIdeal.τ) (Cert.MlpDownBwdIdeal.main (F := Ideal))) ⟨m, fun _ => 0, g⟩ (fun r => (∀ c : Dev Cert.MlpDownBwdIdeal.nD,
      r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
      ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
      ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2))
      ∧ r.2.sem = fun _ => 0)

def quiescent_MlpDownBwdRefIdeal [hMlpDownBwdRefIdeal : Cert.MlpDownBwdRefIdeal.Facts] : Prop :=
  ∀ (m : (ℓ : Loc Cert.MlpDownBwdRefIdeal.nD Cert.MlpDownBwdRefIdeal.τ Cert.MlpDownBwdRefIdeal.sig) → Buf (Elt Ideal) ℓ) (g : Dev Cert.MlpDownBwdRefIdeal.nD → PrngReg), Pre_MlpDownBwdRefIdeal m →
    θ_run (Cert.MlpDownBwdRefIdeal.defs (F := Ideal)) (onTc (τ := Cert.MlpDownBwdRefIdeal.τ) (Cert.MlpDownBwdRefIdeal.main (F := Ideal))) ⟨m, fun _ => 0, g⟩ (fun r => (∀ c : Dev Cert.MlpDownBwdRefIdeal.nD,
      r.2.mem ((c.tc : Thread Cert.MlpDownBwdRefIdeal.nD Cert.MlpDownBwdRefIdeal.τ).loc Cert.MlpDownBwdRefIdeal.main_arg0) = m ((c.tc : Thread Cert.MlpDownBwdRefIdeal.nD Cert.MlpDownBwdRefIdeal.τ).loc Cert.MlpDownBwdRefIdeal.main_arg0)
      ∧ r.2.mem ((c.tc : Thread Cert.MlpDownBwdRefIdeal.nD Cert.MlpDownBwdRefIdeal.τ).loc Cert.MlpDownBwdRefIdeal.main_arg1) = m ((c.tc : Thread Cert.MlpDownBwdRefIdeal.nD Cert.MlpDownBwdRefIdeal.τ).loc Cert.MlpDownBwdRefIdeal.main_arg1)
      ∧ r.2.mem ((c.tc : Thread Cert.MlpDownBwdRefIdeal.nD Cert.MlpDownBwdRefIdeal.τ).loc Cert.MlpDownBwdRefIdeal.main_arg2) = m ((c.tc : Thread Cert.MlpDownBwdRefIdeal.nD Cert.MlpDownBwdRefIdeal.τ).loc Cert.MlpDownBwdRefIdeal.main_arg2))
      ∧ r.2.sem = fun _ => 0)

def quiescent_MlpDownWgrad [hMlpDownWgrad : Cert.MlpDownWgrad.Facts] : Prop :=
  ∀ (m : (ℓ : Loc Cert.MlpDownWgrad.nD Cert.MlpDownWgrad.τ Cert.MlpDownWgrad.sig) → Buf (Elt Bits) ℓ) (g : Dev Cert.MlpDownWgrad.nD → PrngReg), Pre_MlpDownWgrad m →
    θ_run (Cert.MlpDownWgrad.defs (F := Bits)) (onTc (τ := Cert.MlpDownWgrad.τ) (Cert.MlpDownWgrad.main (F := Bits))) ⟨m, fun _ => 0, g⟩ (fun r => (∀ c : Dev Cert.MlpDownWgrad.nD,
      r.2.mem ((c.tc : Thread Cert.MlpDownWgrad.nD Cert.MlpDownWgrad.τ).loc Cert.MlpDownWgrad.main_arg0) = m ((c.tc : Thread Cert.MlpDownWgrad.nD Cert.MlpDownWgrad.τ).loc Cert.MlpDownWgrad.main_arg0)
      ∧ r.2.mem ((c.tc : Thread Cert.MlpDownWgrad.nD Cert.MlpDownWgrad.τ).loc Cert.MlpDownWgrad.main_arg1) = m ((c.tc : Thread Cert.MlpDownWgrad.nD Cert.MlpDownWgrad.τ).loc Cert.MlpDownWgrad.main_arg1))
      ∧ r.2.sem = fun _ => 0)

def quiescent_MlpDownWgradIdeal [hMlpDownWgradIdeal : Cert.MlpDownWgradIdeal.Facts] : Prop :=
  ∀ (m : (ℓ : Loc Cert.MlpDownWgradIdeal.nD Cert.MlpDownWgradIdeal.τ Cert.MlpDownWgradIdeal.sig) → Buf (Elt Ideal) ℓ) (g : Dev Cert.MlpDownWgradIdeal.nD → PrngReg), Pre_MlpDownWgradIdeal m →
    θ_run (Cert.MlpDownWgradIdeal.defs (F := Ideal)) (onTc (τ := Cert.MlpDownWgradIdeal.τ) (Cert.MlpDownWgradIdeal.main (F := Ideal))) ⟨m, fun _ => 0, g⟩ (fun r => (∀ c : Dev Cert.MlpDownWgradIdeal.nD,
      r.2.mem ((c.tc : Thread Cert.MlpDownWgradIdeal.nD Cert.MlpDownWgradIdeal.τ).loc Cert.MlpDownWgradIdeal.main_arg0) = m ((c.tc : Thread Cert.MlpDownWgradIdeal.nD Cert.MlpDownWgradIdeal.τ).loc Cert.MlpDownWgradIdeal.main_arg0)
      ∧ r.2.mem ((c.tc : Thread Cert.MlpDownWgradIdeal.nD Cert.MlpDownWgradIdeal.τ).loc Cert.MlpDownWgradIdeal.main_arg1) = m ((c.tc : Thread Cert.MlpDownWgradIdeal.nD Cert.MlpDownWgradIdeal.τ).loc Cert.MlpDownWgradIdeal.main_arg1))
      ∧ r.2.sem = fun _ => 0)

def quiescent_MlpDownWgradRefIdeal [hMlpDownWgradRefIdeal : Cert.MlpDownWgradRefIdeal.Facts] : Prop :=
  ∀ (m : (ℓ : Loc Cert.MlpDownWgradRefIdeal.nD Cert.MlpDownWgradRefIdeal.τ Cert.MlpDownWgradRefIdeal.sig) → Buf (Elt Ideal) ℓ) (g : Dev Cert.MlpDownWgradRefIdeal.nD → PrngReg), Pre_MlpDownWgradRefIdeal m →
    θ_run (Cert.MlpDownWgradRefIdeal.defs (F := Ideal)) (onTc (τ := Cert.MlpDownWgradRefIdeal.τ) (Cert.MlpDownWgradRefIdeal.main (F := Ideal))) ⟨m, fun _ => 0, g⟩ (fun r => (∀ c : Dev Cert.MlpDownWgradRefIdeal.nD,
      r.2.mem ((c.tc : Thread Cert.MlpDownWgradRefIdeal.nD Cert.MlpDownWgradRefIdeal.τ).loc Cert.MlpDownWgradRefIdeal.main_arg0) = m ((c.tc : Thread Cert.MlpDownWgradRefIdeal.nD Cert.MlpDownWgradRefIdeal.τ).loc Cert.MlpDownWgradRefIdeal.main_arg0)
      ∧ r.2.mem ((c.tc : Thread Cert.MlpDownWgradRefIdeal.nD Cert.MlpDownWgradRefIdeal.τ).loc Cert.MlpDownWgradRefIdeal.main_arg1) = m ((c.tc : Thread Cert.MlpDownWgradRefIdeal.nD Cert.MlpDownWgradRefIdeal.τ).loc Cert.MlpDownWgradRefIdeal.main_arg1))
      ∧ r.2.sem = fun _ => 0)

def quiescent_MlpUpBwd [hMlpUpBwd : Cert.MlpUpBwd.Facts] : Prop :=
  ∀ (m : (ℓ : Loc Cert.MlpUpBwd.nD Cert.MlpUpBwd.τ Cert.MlpUpBwd.sig) → Buf (Elt Bits) ℓ) (g : Dev Cert.MlpUpBwd.nD → PrngReg), Pre_MlpUpBwd m →
    θ_run (Cert.MlpUpBwd.defs (F := Bits)) (onTc (τ := Cert.MlpUpBwd.τ) (Cert.MlpUpBwd.main (F := Bits))) ⟨m, fun _ => 0, g⟩ (fun r => (∀ c : Dev Cert.MlpUpBwd.nD,
      r.2.mem ((c.tc : Thread Cert.MlpUpBwd.nD Cert.MlpUpBwd.τ).loc Cert.MlpUpBwd.main_arg0) = m ((c.tc : Thread Cert.MlpUpBwd.nD Cert.MlpUpBwd.τ).loc Cert.MlpUpBwd.main_arg0)
      ∧ r.2.mem ((c.tc : Thread Cert.MlpUpBwd.nD Cert.MlpUpBwd.τ).loc Cert.MlpUpBwd.main_arg1) = m ((c.tc : Thread Cert.MlpUpBwd.nD Cert.MlpUpBwd.τ).loc Cert.MlpUpBwd.main_arg1)
      ∧ r.2.mem ((c.tc : Thread Cert.MlpUpBwd.nD Cert.MlpUpBwd.τ).loc Cert.MlpUpBwd.main_arg2) = m ((c.tc : Thread Cert.MlpUpBwd.nD Cert.MlpUpBwd.τ).loc Cert.MlpUpBwd.main_arg2))
      ∧ r.2.sem = fun _ => 0)

def quiescent_MlpUpBwdIdeal [hMlpUpBwdIdeal : Cert.MlpUpBwdIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg), Pre_MlpUpBwdIdeal m →
    θ_run (Cert.MlpUpBwdIdeal.defs (F := Ideal)) (onTc (τ := Cert.MlpUpBwdIdeal.τ) (Cert.MlpUpBwdIdeal.main (F := Ideal))) ⟨m, fun _ => 0, g⟩ (fun r => (∀ c : Dev Cert.MlpUpBwdIdeal.nD,
      r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
      ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
      ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2))
      ∧ r.2.sem = fun _ => 0)

def quiescent_MlpUpBwdRefIdeal [hMlpUpBwdRefIdeal : Cert.MlpUpBwdRefIdeal.Facts] : Prop :=
  ∀ (m : (ℓ : Loc Cert.MlpUpBwdRefIdeal.nD Cert.MlpUpBwdRefIdeal.τ Cert.MlpUpBwdRefIdeal.sig) → Buf (Elt Ideal) ℓ) (g : Dev Cert.MlpUpBwdRefIdeal.nD → PrngReg), Pre_MlpUpBwdRefIdeal m →
    θ_run (Cert.MlpUpBwdRefIdeal.defs (F := Ideal)) (onTc (τ := Cert.MlpUpBwdRefIdeal.τ) (Cert.MlpUpBwdRefIdeal.main (F := Ideal))) ⟨m, fun _ => 0, g⟩ (fun r => (∀ c : Dev Cert.MlpUpBwdRefIdeal.nD,
      r.2.mem ((c.tc : Thread Cert.MlpUpBwdRefIdeal.nD Cert.MlpUpBwdRefIdeal.τ).loc Cert.MlpUpBwdRefIdeal.main_arg0) = m ((c.tc : Thread Cert.MlpUpBwdRefIdeal.nD Cert.MlpUpBwdRefIdeal.τ).loc Cert.MlpUpBwdRefIdeal.main_arg0)
      ∧ r.2.mem ((c.tc : Thread Cert.MlpUpBwdRefIdeal.nD Cert.MlpUpBwdRefIdeal.τ).loc Cert.MlpUpBwdRefIdeal.main_arg1) = m ((c.tc : Thread Cert.MlpUpBwdRefIdeal.nD Cert.MlpUpBwdRefIdeal.τ).loc Cert.MlpUpBwdRefIdeal.main_arg1)
      ∧ r.2.mem ((c.tc : Thread Cert.MlpUpBwdRefIdeal.nD Cert.MlpUpBwdRefIdeal.τ).loc Cert.MlpUpBwdRefIdeal.main_arg2) = m ((c.tc : Thread Cert.MlpUpBwdRefIdeal.nD Cert.MlpUpBwdRefIdeal.τ).loc Cert.MlpUpBwdRefIdeal.main_arg2))
      ∧ r.2.sem = fun _ => 0)

def quiescent_MlpUpWgrad [hMlpUpWgrad : Cert.MlpUpWgrad.Facts] : Prop :=
  ∀ (m : (ℓ : Loc Cert.MlpUpWgrad.nD Cert.MlpUpWgrad.τ Cert.MlpUpWgrad.sig) → Buf (Elt Bits) ℓ) (g : Dev Cert.MlpUpWgrad.nD → PrngReg), Pre_MlpUpWgrad m →
    θ_run (Cert.MlpUpWgrad.defs (F := Bits)) (onTc (τ := Cert.MlpUpWgrad.τ) (Cert.MlpUpWgrad.main (F := Bits))) ⟨m, fun _ => 0, g⟩ (fun r => (∀ c : Dev Cert.MlpUpWgrad.nD,
      r.2.mem ((c.tc : Thread Cert.MlpUpWgrad.nD Cert.MlpUpWgrad.τ).loc Cert.MlpUpWgrad.main_arg0) = m ((c.tc : Thread Cert.MlpUpWgrad.nD Cert.MlpUpWgrad.τ).loc Cert.MlpUpWgrad.main_arg0)
      ∧ r.2.mem ((c.tc : Thread Cert.MlpUpWgrad.nD Cert.MlpUpWgrad.τ).loc Cert.MlpUpWgrad.main_arg1) = m ((c.tc : Thread Cert.MlpUpWgrad.nD Cert.MlpUpWgrad.τ).loc Cert.MlpUpWgrad.main_arg1))
      ∧ r.2.sem = fun _ => 0)

def quiescent_MlpUpWgradIdeal [hMlpUpWgradIdeal : Cert.MlpUpWgradIdeal.Facts] : Prop :=
  ∀ (m : (ℓ : Loc Cert.MlpUpWgradIdeal.nD Cert.MlpUpWgradIdeal.τ Cert.MlpUpWgradIdeal.sig) → Buf (Elt Ideal) ℓ) (g : Dev Cert.MlpUpWgradIdeal.nD → PrngReg), Pre_MlpUpWgradIdeal m →
    θ_run (Cert.MlpUpWgradIdeal.defs (F := Ideal)) (onTc (τ := Cert.MlpUpWgradIdeal.τ) (Cert.MlpUpWgradIdeal.main (F := Ideal))) ⟨m, fun _ => 0, g⟩ (fun r => (∀ c : Dev Cert.MlpUpWgradIdeal.nD,
      r.2.mem ((c.tc : Thread Cert.MlpUpWgradIdeal.nD Cert.MlpUpWgradIdeal.τ).loc Cert.MlpUpWgradIdeal.main_arg0) = m ((c.tc : Thread Cert.MlpUpWgradIdeal.nD Cert.MlpUpWgradIdeal.τ).loc Cert.MlpUpWgradIdeal.main_arg0)
      ∧ r.2.mem ((c.tc : Thread Cert.MlpUpWgradIdeal.nD Cert.MlpUpWgradIdeal.τ).loc Cert.MlpUpWgradIdeal.main_arg1) = m ((c.tc : Thread Cert.MlpUpWgradIdeal.nD Cert.MlpUpWgradIdeal.τ).loc Cert.MlpUpWgradIdeal.main_arg1))
      ∧ r.2.sem = fun _ => 0)

def quiescent_MlpUpWgradRefIdeal [hMlpUpWgradRefIdeal : Cert.MlpUpWgradRefIdeal.Facts] : Prop :=
  ∀ (m : (ℓ : Loc Cert.MlpUpWgradRefIdeal.nD Cert.MlpUpWgradRefIdeal.τ Cert.MlpUpWgradRefIdeal.sig) → Buf (Elt Ideal) ℓ) (g : Dev Cert.MlpUpWgradRefIdeal.nD → PrngReg), Pre_MlpUpWgradRefIdeal m →
    θ_run (Cert.MlpUpWgradRefIdeal.defs (F := Ideal)) (onTc (τ := Cert.MlpUpWgradRefIdeal.τ) (Cert.MlpUpWgradRefIdeal.main (F := Ideal))) ⟨m, fun _ => 0, g⟩ (fun r => (∀ c : Dev Cert.MlpUpWgradRefIdeal.nD,
      r.2.mem ((c.tc : Thread Cert.MlpUpWgradRefIdeal.nD Cert.MlpUpWgradRefIdeal.τ).loc Cert.MlpUpWgradRefIdeal.main_arg0) = m ((c.tc : Thread Cert.MlpUpWgradRefIdeal.nD Cert.MlpUpWgradRefIdeal.τ).loc Cert.MlpUpWgradRefIdeal.main_arg0)
      ∧ r.2.mem ((c.tc : Thread Cert.MlpUpWgradRefIdeal.nD Cert.MlpUpWgradRefIdeal.τ).loc Cert.MlpUpWgradRefIdeal.main_arg1) = m ((c.tc : Thread Cert.MlpUpWgradRefIdeal.nD Cert.MlpUpWgradRefIdeal.τ).loc Cert.MlpUpWgradRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_BranchBwdA [hBranchBwdA : Cert.BranchBwdA.Facts] : Prop :=
  ∀ (m : (ℓ : Loc Cert.BranchBwdA.nD Cert.BranchBwdA.τ Cert.BranchBwdA.sig) → Buf (Elt Bits) ℓ) (g : Dev Cert.BranchBwdA.nD → PrngReg), Pre_BranchBwdA m →
    θ_run (Cert.BranchBwdA.defs (F := Bits)) (onTc (τ := Cert.BranchBwdA.τ) (Cert.BranchBwdA.main (F := Bits))) ⟨m, fun _ => 0, g⟩ (fun r => (∀ c : Dev Cert.BranchBwdA.nD,
      r.2.mem ((c.tc : Thread Cert.BranchBwdA.nD Cert.BranchBwdA.τ).loc Cert.BranchBwdA.main_arg0) = m ((c.tc : Thread Cert.BranchBwdA.nD Cert.BranchBwdA.τ).loc Cert.BranchBwdA.main_arg0)
      ∧ r.2.mem ((c.tc : Thread Cert.BranchBwdA.nD Cert.BranchBwdA.τ).loc Cert.BranchBwdA.main_arg1) = m ((c.tc : Thread Cert.BranchBwdA.nD Cert.BranchBwdA.τ).loc Cert.BranchBwdA.main_arg1))
      ∧ r.2.sem = fun _ => 0)

def quiescent_BranchBwdAIdeal [hBranchBwdAIdeal : Cert.BranchBwdAIdeal.Facts] : Prop :=
  ∀ (m : (ℓ : Loc Cert.BranchBwdAIdeal.nD Cert.BranchBwdAIdeal.τ Cert.BranchBwdAIdeal.sig) → Buf (Elt Ideal) ℓ) (g : Dev Cert.BranchBwdAIdeal.nD → PrngReg), Pre_BranchBwdAIdeal m →
    θ_run (Cert.BranchBwdAIdeal.defs (F := Ideal)) (onTc (τ := Cert.BranchBwdAIdeal.τ) (Cert.BranchBwdAIdeal.main (F := Ideal))) ⟨m, fun _ => 0, g⟩ (fun r => (∀ c : Dev Cert.BranchBwdAIdeal.nD,
      r.2.mem ((c.tc : Thread Cert.BranchBwdAIdeal.nD Cert.BranchBwdAIdeal.τ).loc Cert.BranchBwdAIdeal.main_arg0) = m ((c.tc : Thread Cert.BranchBwdAIdeal.nD Cert.BranchBwdAIdeal.τ).loc Cert.BranchBwdAIdeal.main_arg0)
      ∧ r.2.mem ((c.tc : Thread Cert.BranchBwdAIdeal.nD Cert.BranchBwdAIdeal.τ).loc Cert.BranchBwdAIdeal.main_arg1) = m ((c.tc : Thread Cert.BranchBwdAIdeal.nD Cert.BranchBwdAIdeal.τ).loc Cert.BranchBwdAIdeal.main_arg1))
      ∧ r.2.sem = fun _ => 0)

def quiescent_BranchBwdARefIdeal [hBranchBwdARefIdeal : Cert.BranchBwdARefIdeal.Facts] : Prop :=
  ∀ (m : (ℓ : Loc Cert.BranchBwdARefIdeal.nD Cert.BranchBwdARefIdeal.τ Cert.BranchBwdARefIdeal.sig) → Buf (Elt Ideal) ℓ) (g : Dev Cert.BranchBwdARefIdeal.nD → PrngReg), Pre_BranchBwdARefIdeal m →
    θ_run (Cert.BranchBwdARefIdeal.defs (F := Ideal)) (onTc (τ := Cert.BranchBwdARefIdeal.τ) (Cert.BranchBwdARefIdeal.main (F := Ideal))) ⟨m, fun _ => 0, g⟩ (fun r => (∀ c : Dev Cert.BranchBwdARefIdeal.nD,
      r.2.mem ((c.tc : Thread Cert.BranchBwdARefIdeal.nD Cert.BranchBwdARefIdeal.τ).loc Cert.BranchBwdARefIdeal.main_arg0) = m ((c.tc : Thread Cert.BranchBwdARefIdeal.nD Cert.BranchBwdARefIdeal.τ).loc Cert.BranchBwdARefIdeal.main_arg0)
      ∧ r.2.mem ((c.tc : Thread Cert.BranchBwdARefIdeal.nD Cert.BranchBwdARefIdeal.τ).loc Cert.BranchBwdARefIdeal.main_arg1) = m ((c.tc : Thread Cert.BranchBwdARefIdeal.nD Cert.BranchBwdARefIdeal.τ).loc Cert.BranchBwdARefIdeal.main_arg1))
      ∧ r.2.sem = fun _ => 0)

def quiescent_BranchBwd [hBranchBwd : Cert.BranchBwd.Facts] : Prop :=
  ∀ (m : (ℓ : Loc Cert.BranchBwd.nD Cert.BranchBwd.τ Cert.BranchBwd.sig) → Buf (Elt Bits) ℓ) (g : Dev Cert.BranchBwd.nD → PrngReg), Pre_BranchBwd m →
    θ_run (Cert.BranchBwd.defs (F := Bits)) (onTc (τ := Cert.BranchBwd.τ) (Cert.BranchBwd.main (F := Bits))) ⟨m, fun _ => 0, g⟩ (fun r => (∀ c : Dev Cert.BranchBwd.nD,
      r.2.mem ((c.tc : Thread Cert.BranchBwd.nD Cert.BranchBwd.τ).loc Cert.BranchBwd.main_arg0) = m ((c.tc : Thread Cert.BranchBwd.nD Cert.BranchBwd.τ).loc Cert.BranchBwd.main_arg0)
      ∧ r.2.mem ((c.tc : Thread Cert.BranchBwd.nD Cert.BranchBwd.τ).loc Cert.BranchBwd.main_arg1) = m ((c.tc : Thread Cert.BranchBwd.nD Cert.BranchBwd.τ).loc Cert.BranchBwd.main_arg1))
      ∧ r.2.sem = fun _ => 0)

def quiescent_BranchBwdIdeal [hBranchBwdIdeal : Cert.BranchBwdIdeal.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg), Pre_BranchBwdIdeal m →
    θ_run (Cert.BranchBwdIdeal.defs (F := Ideal)) (onTc (τ := Cert.BranchBwdIdeal.τ) (Cert.BranchBwdIdeal.main (F := Ideal))) ⟨m, fun _ => 0, g⟩ (fun r => (∀ c : Dev Cert.BranchBwdIdeal.nD,
      r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
      ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1))
      ∧ r.2.sem = fun _ => 0)

def quiescent_BranchBwdRefIdeal [hBranchBwdRefIdeal : Cert.BranchBwdRefIdeal.Facts] : Prop :=
  ∀ (m : (ℓ : Loc Cert.BranchBwdRefIdeal.nD Cert.BranchBwdRefIdeal.τ Cert.BranchBwdRefIdeal.sig) → Buf (Elt Ideal) ℓ) (g : Dev Cert.BranchBwdRefIdeal.nD → PrngReg), Pre_BranchBwdRefIdeal m →
    θ_run (Cert.BranchBwdRefIdeal.defs (F := Ideal)) (onTc (τ := Cert.BranchBwdRefIdeal.τ) (Cert.BranchBwdRefIdeal.main (F := Ideal))) ⟨m, fun _ => 0, g⟩ (fun r => (∀ c : Dev Cert.BranchBwdRefIdeal.nD,
      r.2.mem ((c.tc : Thread Cert.BranchBwdRefIdeal.nD Cert.BranchBwdRefIdeal.τ).loc Cert.BranchBwdRefIdeal.main_arg0) = m ((c.tc : Thread Cert.BranchBwdRefIdeal.nD Cert.BranchBwdRefIdeal.τ).loc Cert.BranchBwdRefIdeal.main_arg0)
      ∧ r.2.mem ((c.tc : Thread Cert.BranchBwdRefIdeal.nD Cert.BranchBwdRefIdeal.τ).loc Cert.BranchBwdRefIdeal.main_arg1) = m ((c.tc : Thread Cert.BranchBwdRefIdeal.nD Cert.BranchBwdRefIdeal.τ).loc Cert.BranchBwdRefIdeal.main_arg1))
      ∧ r.2.sem = fun _ => 0)

def quiescent_BranchWgrad [hBranchWgrad : Cert.BranchWgrad.Facts] : Prop :=
  ∀ (m : (ℓ : Loc Cert.BranchWgrad.nD Cert.BranchWgrad.τ Cert.BranchWgrad.sig) → Buf (Elt Bits) ℓ) (g : Dev Cert.BranchWgrad.nD → PrngReg), Pre_BranchWgrad m →
    θ_run (Cert.BranchWgrad.defs (F := Bits)) (onTc (τ := Cert.BranchWgrad.τ) (Cert.BranchWgrad.main (F := Bits))) ⟨m, fun _ => 0, g⟩ (fun r => (∀ c : Dev Cert.BranchWgrad.nD,
      r.2.mem ((c.tc : Thread Cert.BranchWgrad.nD Cert.BranchWgrad.τ).loc Cert.BranchWgrad.main_arg0) = m ((c.tc : Thread Cert.BranchWgrad.nD Cert.BranchWgrad.τ).loc Cert.BranchWgrad.main_arg0)
      ∧ r.2.mem ((c.tc : Thread Cert.BranchWgrad.nD Cert.BranchWgrad.τ).loc Cert.BranchWgrad.main_arg1) = m ((c.tc : Thread Cert.BranchWgrad.nD Cert.BranchWgrad.τ).loc Cert.BranchWgrad.main_arg1))
      ∧ r.2.sem = fun _ => 0)

def quiescent_BranchWgradIdeal [hBranchWgradIdeal : Cert.BranchWgradIdeal.Facts] : Prop :=
  ∀ (m : (ℓ : Loc Cert.BranchWgradIdeal.nD Cert.BranchWgradIdeal.τ Cert.BranchWgradIdeal.sig) → Buf (Elt Ideal) ℓ) (g : Dev Cert.BranchWgradIdeal.nD → PrngReg), Pre_BranchWgradIdeal m →
    θ_run (Cert.BranchWgradIdeal.defs (F := Ideal)) (onTc (τ := Cert.BranchWgradIdeal.τ) (Cert.BranchWgradIdeal.main (F := Ideal))) ⟨m, fun _ => 0, g⟩ (fun r => (∀ c : Dev Cert.BranchWgradIdeal.nD,
      r.2.mem ((c.tc : Thread Cert.BranchWgradIdeal.nD Cert.BranchWgradIdeal.τ).loc Cert.BranchWgradIdeal.main_arg0) = m ((c.tc : Thread Cert.BranchWgradIdeal.nD Cert.BranchWgradIdeal.τ).loc Cert.BranchWgradIdeal.main_arg0)
      ∧ r.2.mem ((c.tc : Thread Cert.BranchWgradIdeal.nD Cert.BranchWgradIdeal.τ).loc Cert.BranchWgradIdeal.main_arg1) = m ((c.tc : Thread Cert.BranchWgradIdeal.nD Cert.BranchWgradIdeal.τ).loc Cert.BranchWgradIdeal.main_arg1))
      ∧ r.2.sem = fun _ => 0)

def quiescent_BranchWgradRefIdeal [hBranchWgradRefIdeal : Cert.BranchWgradRefIdeal.Facts] : Prop :=
  ∀ (m : (ℓ : Loc Cert.BranchWgradRefIdeal.nD Cert.BranchWgradRefIdeal.τ Cert.BranchWgradRefIdeal.sig) → Buf (Elt Ideal) ℓ) (g : Dev Cert.BranchWgradRefIdeal.nD → PrngReg), Pre_BranchWgradRefIdeal m →
    θ_run (Cert.BranchWgradRefIdeal.defs (F := Ideal)) (onTc (τ := Cert.BranchWgradRefIdeal.τ) (Cert.BranchWgradRefIdeal.main (F := Ideal))) ⟨m, fun _ => 0, g⟩ (fun r => (∀ c : Dev Cert.BranchWgradRefIdeal.nD,
      r.2.mem ((c.tc : Thread Cert.BranchWgradRefIdeal.nD Cert.BranchWgradRefIdeal.τ).loc Cert.BranchWgradRefIdeal.main_arg0) = m ((c.tc : Thread Cert.BranchWgradRefIdeal.nD Cert.BranchWgradRefIdeal.τ).loc Cert.BranchWgradRefIdeal.main_arg0)
      ∧ r.2.mem ((c.tc : Thread Cert.BranchWgradRefIdeal.nD Cert.BranchWgradRefIdeal.τ).loc Cert.BranchWgradRefIdeal.main_arg1) = m ((c.tc : Thread Cert.BranchWgradRefIdeal.nD Cert.BranchWgradRefIdeal.τ).loc Cert.BranchWgradRefIdeal.main_arg1))
      ∧ r.2.sem = fun _ => 0)

def quiescent_ProjWgrad [hProjWgrad : Cert.ProjWgrad.Facts] : Prop :=
  ∀ (m : (ℓ : Loc Cert.ProjWgrad.nD Cert.ProjWgrad.τ Cert.ProjWgrad.sig) → Buf (Elt Bits) ℓ) (g : Dev Cert.ProjWgrad.nD → PrngReg), Pre_ProjWgrad m →
    θ_run (Cert.ProjWgrad.defs (F := Bits)) (onTc (τ := Cert.ProjWgrad.τ) (Cert.ProjWgrad.main (F := Bits))) ⟨m, fun _ => 0, g⟩ (fun r => (∀ c : Dev Cert.ProjWgrad.nD,
      r.2.mem ((c.tc : Thread Cert.ProjWgrad.nD Cert.ProjWgrad.τ).loc Cert.ProjWgrad.main_arg0) = m ((c.tc : Thread Cert.ProjWgrad.nD Cert.ProjWgrad.τ).loc Cert.ProjWgrad.main_arg0)
      ∧ r.2.mem ((c.tc : Thread Cert.ProjWgrad.nD Cert.ProjWgrad.τ).loc Cert.ProjWgrad.main_arg1) = m ((c.tc : Thread Cert.ProjWgrad.nD Cert.ProjWgrad.τ).loc Cert.ProjWgrad.main_arg1))
      ∧ r.2.sem = fun _ => 0)

def quiescent_ProjWgradIdeal [hProjWgradIdeal : Cert.ProjWgradIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg), Pre_ProjWgradIdeal m →
    θ_run (Cert.ProjWgradIdeal.defs (F := Ideal)) (onTc (τ := Cert.ProjWgradIdeal.τ) (Cert.ProjWgradIdeal.main (F := Ideal))) ⟨m, fun _ => 0, g⟩ (fun r => (∀ c : Dev Cert.ProjWgradIdeal.nD,
      r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
      ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1))
      ∧ r.2.sem = fun _ => 0)

def quiescent_ProjWgradRefIdeal [hProjWgradRefIdeal : Cert.ProjWgradRefIdeal.Facts] : Prop :=
  ∀ (m : (ℓ : Loc Cert.ProjWgradRefIdeal.nD Cert.ProjWgradRefIdeal.τ Cert.ProjWgradRefIdeal.sig) → Buf (Elt Ideal) ℓ) (g : Dev Cert.ProjWgradRefIdeal.nD → PrngReg), Pre_ProjWgradRefIdeal m →
    θ_run (Cert.ProjWgradRefIdeal.defs (F := Ideal)) (onTc (τ := Cert.ProjWgradRefIdeal.τ) (Cert.ProjWgradRefIdeal.main (F := Ideal))) ⟨m, fun _ => 0, g⟩ (fun r => (∀ c : Dev Cert.ProjWgradRefIdeal.nD,
      r.2.mem ((c.tc : Thread Cert.ProjWgradRefIdeal.nD Cert.ProjWgradRefIdeal.τ).loc Cert.ProjWgradRefIdeal.main_arg0) = m ((c.tc : Thread Cert.ProjWgradRefIdeal.nD Cert.ProjWgradRefIdeal.τ).loc Cert.ProjWgradRefIdeal.main_arg0)
      ∧ r.2.mem ((c.tc : Thread Cert.ProjWgradRefIdeal.nD Cert.ProjWgradRefIdeal.τ).loc Cert.ProjWgradRefIdeal.main_arg1) = m ((c.tc : Thread Cert.ProjWgradRefIdeal.nD Cert.ProjWgradRefIdeal.τ).loc Cert.ProjWgradRefIdeal.main_arg1))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_LnInBwd [hLnInBwd : Cert.LnInBwd.Facts] : Prop :=
  ∀ (m : (ℓ : Loc Cert.LnInBwd.nD Cert.LnInBwd.τ Cert.LnInBwd.sig) → Buf (Elt Bits) ℓ) (g : Dev Cert.LnInBwd.nD → PrngReg), Pre_LnInBwd m →
    θ_run (Cert.LnInBwd.defs (F := Bits)) (onTc (τ := Cert.LnInBwd.τ) (Cert.LnInBwd.main (F := Bits))) ⟨m, fun _ => 0, g⟩ (fun r => (∀ c : Dev Cert.LnInBwd.nD,
      r.2.mem ((c.tc : Thread Cert.LnInBwd.nD Cert.LnInBwd.τ).loc Cert.LnInBwd.main_arg0) = m ((c.tc : Thread Cert.LnInBwd.nD Cert.LnInBwd.τ).loc Cert.LnInBwd.main_arg0)
      ∧ r.2.mem ((c.tc : Thread Cert.LnInBwd.nD Cert.LnInBwd.τ).loc Cert.LnInBwd.main_arg1) = m ((c.tc : Thread Cert.LnInBwd.nD Cert.LnInBwd.τ).loc Cert.LnInBwd.main_arg1)
      ∧ r.2.mem ((c.tc : Thread Cert.LnInBwd.nD Cert.LnInBwd.τ).loc Cert.LnInBwd.main_arg2) = m ((c.tc : Thread Cert.LnInBwd.nD Cert.LnInBwd.τ).loc Cert.LnInBwd.main_arg2)
      ∧ r.2.mem ((c.tc : Thread Cert.LnInBwd.nD Cert.LnInBwd.τ).loc Cert.LnInBwd.main_arg3) = m ((c.tc : Thread Cert.LnInBwd.nD Cert.LnInBwd.τ).loc Cert.LnInBwd.main_arg3))
      ∧ r.2.sem = fun _ => 0)

def quiescent_LnInBwdIdeal [hLnInBwdIdeal : Cert.LnInBwdIdeal.Facts] : Prop :=
  ∀ (m : (ℓ : Loc Cert.LnInBwdIdeal.nD Cert.LnInBwdIdeal.τ Cert.LnInBwdIdeal.sig) → Buf (Elt Ideal) ℓ) (g : Dev Cert.LnInBwdIdeal.nD → PrngReg), Pre_LnInBwdIdeal m →
    θ_run (Cert.LnInBwdIdeal.defs (F := Ideal)) (onTc (τ := Cert.LnInBwdIdeal.τ) (Cert.LnInBwdIdeal.main (F := Ideal))) ⟨m, fun _ => 0, g⟩ (fun r => (∀ c : Dev Cert.LnInBwdIdeal.nD,
      r.2.mem ((c.tc : Thread Cert.LnInBwdIdeal.nD Cert.LnInBwdIdeal.τ).loc Cert.LnInBwdIdeal.main_arg0) = m ((c.tc : Thread Cert.LnInBwdIdeal.nD Cert.LnInBwdIdeal.τ).loc Cert.LnInBwdIdeal.main_arg0)
      ∧ r.2.mem ((c.tc : Thread Cert.LnInBwdIdeal.nD Cert.LnInBwdIdeal.τ).loc Cert.LnInBwdIdeal.main_arg1) = m ((c.tc : Thread Cert.LnInBwdIdeal.nD Cert.LnInBwdIdeal.τ).loc Cert.LnInBwdIdeal.main_arg1)
      ∧ r.2.mem ((c.tc : Thread Cert.LnInBwdIdeal.nD Cert.LnInBwdIdeal.τ).loc Cert.LnInBwdIdeal.main_arg2) = m ((c.tc : Thread Cert.LnInBwdIdeal.nD Cert.LnInBwdIdeal.τ).loc Cert.LnInBwdIdeal.main_arg2)
      ∧ r.2.mem ((c.tc : Thread Cert.LnInBwdIdeal.nD Cert.LnInBwdIdeal.τ).loc Cert.LnInBwdIdeal.main_arg3) = m ((c.tc : Thread Cert.LnInBwdIdeal.nD Cert.LnInBwdIdeal.τ).loc Cert.LnInBwdIdeal.main_arg3))
      ∧ r.2.sem = fun _ => 0)

def quiescent_LnInBwdRefIdeal [hLnInBwdRefIdeal : Cert.LnInBwdRefIdeal.Facts] : Prop :=
  ∀ (m : (ℓ : Loc Cert.LnInBwdRefIdeal.nD Cert.LnInBwdRefIdeal.τ Cert.LnInBwdRefIdeal.sig) → Buf (Elt Ideal) ℓ) (g : Dev Cert.LnInBwdRefIdeal.nD → PrngReg), Pre_LnInBwdRefIdeal m →
    θ_run (Cert.LnInBwdRefIdeal.defs (F := Ideal)) (onTc (τ := Cert.LnInBwdRefIdeal.τ) (Cert.LnInBwdRefIdeal.main (F := Ideal))) ⟨m, fun _ => 0, g⟩ (fun r => (∀ c : Dev Cert.LnInBwdRefIdeal.nD,
      r.2.mem ((c.tc : Thread Cert.LnInBwdRefIdeal.nD Cert.LnInBwdRefIdeal.τ).loc Cert.LnInBwdRefIdeal.main_arg0) = m ((c.tc : Thread Cert.LnInBwdRefIdeal.nD Cert.LnInBwdRefIdeal.τ).loc Cert.LnInBwdRefIdeal.main_arg0)
      ∧ r.2.mem ((c.tc : Thread Cert.LnInBwdRefIdeal.nD Cert.LnInBwdRefIdeal.τ).loc Cert.LnInBwdRefIdeal.main_arg1) = m ((c.tc : Thread Cert.LnInBwdRefIdeal.nD Cert.LnInBwdRefIdeal.τ).loc Cert.LnInBwdRefIdeal.main_arg1)
      ∧ r.2.mem ((c.tc : Thread Cert.LnInBwdRefIdeal.nD Cert.LnInBwdRefIdeal.τ).loc Cert.LnInBwdRefIdeal.main_arg2) = m ((c.tc : Thread Cert.LnInBwdRefIdeal.nD Cert.LnInBwdRefIdeal.τ).loc Cert.LnInBwdRefIdeal.main_arg2)
      ∧ r.2.mem ((c.tc : Thread Cert.LnInBwdRefIdeal.nD Cert.LnInBwdRefIdeal.τ).loc Cert.LnInBwdRefIdeal.main_arg3) = m ((c.tc : Thread Cert.LnInBwdRefIdeal.nD Cert.LnInBwdRefIdeal.τ).loc Cert.LnInBwdRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_BranchProj [hBranchProj : Cert.BranchProj.Facts] : Prop :=
  ∀ (m : (ℓ : Loc Cert.BranchProj.nD Cert.BranchProj.τ Cert.BranchProj.sig) → Buf (Elt Bits) ℓ) (g : Dev Cert.BranchProj.nD → PrngReg), Pre_BranchProj m →
    θ_run (Cert.BranchProj.defs (F := Bits)) (onTc (τ := Cert.BranchProj.τ) (Cert.BranchProj.main (F := Bits))) ⟨m, fun _ => 0, g⟩ (fun r => (∀ c : Dev Cert.BranchProj.nD,
      r.2.mem ((c.tc : Thread Cert.BranchProj.nD Cert.BranchProj.τ).loc Cert.BranchProj.main_arg0) = m ((c.tc : Thread Cert.BranchProj.nD Cert.BranchProj.τ).loc Cert.BranchProj.main_arg0)
      ∧ r.2.mem ((c.tc : Thread Cert.BranchProj.nD Cert.BranchProj.τ).loc Cert.BranchProj.main_arg1) = m ((c.tc : Thread Cert.BranchProj.nD Cert.BranchProj.τ).loc Cert.BranchProj.main_arg1))
      ∧ r.2.sem = fun _ => 0)

def quiescent_BranchProjIdeal [hBranchProjIdeal : Cert.BranchProjIdeal.Facts] : Prop :=
  ∀ (m : (ℓ : Loc Cert.BranchProjIdeal.nD Cert.BranchProjIdeal.τ Cert.BranchProjIdeal.sig) → Buf (Elt Ideal) ℓ) (g : Dev Cert.BranchProjIdeal.nD → PrngReg), Pre_BranchProjIdeal m →
    θ_run (Cert.BranchProjIdeal.defs (F := Ideal)) (onTc (τ := Cert.BranchProjIdeal.τ) (Cert.BranchProjIdeal.main (F := Ideal))) ⟨m, fun _ => 0, g⟩ (fun r => (∀ c : Dev Cert.BranchProjIdeal.nD,
      r.2.mem ((c.tc : Thread Cert.BranchProjIdeal.nD Cert.BranchProjIdeal.τ).loc Cert.BranchProjIdeal.main_arg0) = m ((c.tc : Thread Cert.BranchProjIdeal.nD Cert.BranchProjIdeal.τ).loc Cert.BranchProjIdeal.main_arg0)
      ∧ r.2.mem ((c.tc : Thread Cert.BranchProjIdeal.nD Cert.BranchProjIdeal.τ).loc Cert.BranchProjIdeal.main_arg1) = m ((c.tc : Thread Cert.BranchProjIdeal.nD Cert.BranchProjIdeal.τ).loc Cert.BranchProjIdeal.main_arg1))
      ∧ r.2.sem = fun _ => 0)

def quiescent_BranchProjRefIdeal [hBranchProjRefIdeal : Cert.BranchProjRefIdeal.Facts] : Prop :=
  ∀ (m : (ℓ : Loc Cert.BranchProjRefIdeal.nD Cert.BranchProjRefIdeal.τ Cert.BranchProjRefIdeal.sig) → Buf (Elt Ideal) ℓ) (g : Dev Cert.BranchProjRefIdeal.nD → PrngReg), Pre_BranchProjRefIdeal m →
    θ_run (Cert.BranchProjRefIdeal.defs (F := Ideal)) (onTc (τ := Cert.BranchProjRefIdeal.τ) (Cert.BranchProjRefIdeal.main (F := Ideal))) ⟨m, fun _ => 0, g⟩ (fun r => (∀ c : Dev Cert.BranchProjRefIdeal.nD,
      r.2.mem ((c.tc : Thread Cert.BranchProjRefIdeal.nD Cert.BranchProjRefIdeal.τ).loc Cert.BranchProjRefIdeal.main_arg0) = m ((c.tc : Thread Cert.BranchProjRefIdeal.nD Cert.BranchProjRefIdeal.τ).loc Cert.BranchProjRefIdeal.main_arg0)
      ∧ r.2.mem ((c.tc : Thread Cert.BranchProjRefIdeal.nD Cert.BranchProjRefIdeal.τ).loc Cert.BranchProjRefIdeal.main_arg1) = m ((c.tc : Thread Cert.BranchProjRefIdeal.nD Cert.BranchProjRefIdeal.τ).loc Cert.BranchProjRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_OutProjLn [hOutProjLn : Cert.OutProjLn.Facts] : Prop :=
  ∀ (m : (ℓ : Loc Cert.OutProjLn.nD Cert.OutProjLn.τ Cert.OutProjLn.sig) → Buf (Elt Bits) ℓ) (g : Dev Cert.OutProjLn.nD → PrngReg), Pre_OutProjLn m →
    θ_run (Cert.OutProjLn.defs (F := Bits)) (onTc (τ := Cert.OutProjLn.τ) (Cert.OutProjLn.main (F := Bits))) ⟨m, fun _ => 0, g⟩ (fun r => (∀ c : Dev Cert.OutProjLn.nD,
      r.2.mem ((c.tc : Thread Cert.OutProjLn.nD Cert.OutProjLn.τ).loc Cert.OutProjLn.main_arg0) = m ((c.tc : Thread Cert.OutProjLn.nD Cert.OutProjLn.τ).loc Cert.OutProjLn.main_arg0)
      ∧ r.2.mem ((c.tc : Thread Cert.OutProjLn.nD Cert.OutProjLn.τ).loc Cert.OutProjLn.main_arg1) = m ((c.tc : Thread Cert.OutProjLn.nD Cert.OutProjLn.τ).loc Cert.OutProjLn.main_arg1)
      ∧ r.2.mem ((c.tc : Thread Cert.OutProjLn.nD Cert.OutProjLn.τ).loc Cert.OutProjLn.main_arg2) = m ((c.tc : Thread Cert.OutProjLn.nD Cert.OutProjLn.τ).loc Cert.OutProjLn.main_arg2)
      ∧ r.2.mem ((c.tc : Thread Cert.OutProjLn.nD Cert.OutProjLn.τ).loc Cert.OutProjLn.main_arg3) = m ((c.tc : Thread Cert.OutProjLn.nD Cert.OutProjLn.τ).loc Cert.OutProjLn.main_arg3)
      ∧ r.2.mem ((c.tc : Thread Cert.OutProjLn.nD Cert.OutProjLn.τ).loc Cert.OutProjLn.main_arg4) = m ((c.tc : Thread Cert.OutProjLn.nD Cert.OutProjLn.τ).loc Cert.OutProjLn.main_arg4))
      ∧ r.2.sem = fun _ => 0)

def quiescent_OutProjLnIdeal [hOutProjLnIdeal : Cert.OutProjLnIdeal.Facts] : Prop :=
  ∀ (m : (ℓ : Loc Cert.OutProjLnIdeal.nD Cert.OutProjLnIdeal.τ Cert.OutProjLnIdeal.sig) → Buf (Elt Ideal) ℓ) (g : Dev Cert.OutProjLnIdeal.nD → PrngReg), Pre_OutProjLnIdeal m →
    θ_run (Cert.OutProjLnIdeal.defs (F := Ideal)) (onTc (τ := Cert.OutProjLnIdeal.τ) (Cert.OutProjLnIdeal.main (F := Ideal))) ⟨m, fun _ => 0, g⟩ (fun r => (∀ c : Dev Cert.OutProjLnIdeal.nD,
      r.2.mem ((c.tc : Thread Cert.OutProjLnIdeal.nD Cert.OutProjLnIdeal.τ).loc Cert.OutProjLnIdeal.main_arg0) = m ((c.tc : Thread Cert.OutProjLnIdeal.nD Cert.OutProjLnIdeal.τ).loc Cert.OutProjLnIdeal.main_arg0)
      ∧ r.2.mem ((c.tc : Thread Cert.OutProjLnIdeal.nD Cert.OutProjLnIdeal.τ).loc Cert.OutProjLnIdeal.main_arg1) = m ((c.tc : Thread Cert.OutProjLnIdeal.nD Cert.OutProjLnIdeal.τ).loc Cert.OutProjLnIdeal.main_arg1)
      ∧ r.2.mem ((c.tc : Thread Cert.OutProjLnIdeal.nD Cert.OutProjLnIdeal.τ).loc Cert.OutProjLnIdeal.main_arg2) = m ((c.tc : Thread Cert.OutProjLnIdeal.nD Cert.OutProjLnIdeal.τ).loc Cert.OutProjLnIdeal.main_arg2)
      ∧ r.2.mem ((c.tc : Thread Cert.OutProjLnIdeal.nD Cert.OutProjLnIdeal.τ).loc Cert.OutProjLnIdeal.main_arg3) = m ((c.tc : Thread Cert.OutProjLnIdeal.nD Cert.OutProjLnIdeal.τ).loc Cert.OutProjLnIdeal.main_arg3)
      ∧ r.2.mem ((c.tc : Thread Cert.OutProjLnIdeal.nD Cert.OutProjLnIdeal.τ).loc Cert.OutProjLnIdeal.main_arg4) = m ((c.tc : Thread Cert.OutProjLnIdeal.nD Cert.OutProjLnIdeal.τ).loc Cert.OutProjLnIdeal.main_arg4))
      ∧ r.2.sem = fun _ => 0)

def quiescent_OutProjLnRefIdeal [hOutProjLnRefIdeal : Cert.OutProjLnRefIdeal.Facts] : Prop :=
  ∀ (m : (ℓ : Loc Cert.OutProjLnRefIdeal.nD Cert.OutProjLnRefIdeal.τ Cert.OutProjLnRefIdeal.sig) → Buf (Elt Ideal) ℓ) (g : Dev Cert.OutProjLnRefIdeal.nD → PrngReg), Pre_OutProjLnRefIdeal m →
    θ_run (Cert.OutProjLnRefIdeal.defs (F := Ideal)) (onTc (τ := Cert.OutProjLnRefIdeal.τ) (Cert.OutProjLnRefIdeal.main (F := Ideal))) ⟨m, fun _ => 0, g⟩ (fun r => (∀ c : Dev Cert.OutProjLnRefIdeal.nD,
      r.2.mem ((c.tc : Thread Cert.OutProjLnRefIdeal.nD Cert.OutProjLnRefIdeal.τ).loc Cert.OutProjLnRefIdeal.main_arg0) = m ((c.tc : Thread Cert.OutProjLnRefIdeal.nD Cert.OutProjLnRefIdeal.τ).loc Cert.OutProjLnRefIdeal.main_arg0)
      ∧ r.2.mem ((c.tc : Thread Cert.OutProjLnRefIdeal.nD Cert.OutProjLnRefIdeal.τ).loc Cert.OutProjLnRefIdeal.main_arg1) = m ((c.tc : Thread Cert.OutProjLnRefIdeal.nD Cert.OutProjLnRefIdeal.τ).loc Cert.OutProjLnRefIdeal.main_arg1)
      ∧ r.2.mem ((c.tc : Thread Cert.OutProjLnRefIdeal.nD Cert.OutProjLnRefIdeal.τ).loc Cert.OutProjLnRefIdeal.main_arg2) = m ((c.tc : Thread Cert.OutProjLnRefIdeal.nD Cert.OutProjLnRefIdeal.τ).loc Cert.OutProjLnRefIdeal.main_arg2)
      ∧ r.2.mem ((c.tc : Thread Cert.OutProjLnRefIdeal.nD Cert.OutProjLnRefIdeal.τ).loc Cert.OutProjLnRefIdeal.main_arg3) = m ((c.tc : Thread Cert.OutProjLnRefIdeal.nD Cert.OutProjLnRefIdeal.τ).loc Cert.OutProjLnRefIdeal.main_arg3)
      ∧ r.2.mem ((c.tc : Thread Cert.OutProjLnRefIdeal.nD Cert.OutProjLnRefIdeal.τ).loc Cert.OutProjLnRefIdeal.main_arg4) = m ((c.tc : Thread Cert.OutProjLnRefIdeal.nD Cert.OutProjLnRefIdeal.τ).loc Cert.OutProjLnRefIdeal.main_arg4))
      ∧ r.2.sem = fun _ => 0)

def quiescent_MlpDownLn [hMlpDownLn : Cert.MlpDownLn.Facts] : Prop :=
  ∀ (m : (ℓ : Loc Cert.MlpDownLn.nD Cert.MlpDownLn.τ Cert.MlpDownLn.sig) → Buf (Elt Bits) ℓ) (g : Dev Cert.MlpDownLn.nD → PrngReg), Pre_MlpDownLn m →
    θ_run (Cert.MlpDownLn.defs (F := Bits)) (onTc (τ := Cert.MlpDownLn.τ) (Cert.MlpDownLn.main (F := Bits))) ⟨m, fun _ => 0, g⟩ (fun r => (∀ c : Dev Cert.MlpDownLn.nD,
      r.2.mem ((c.tc : Thread Cert.MlpDownLn.nD Cert.MlpDownLn.τ).loc Cert.MlpDownLn.main_arg0) = m ((c.tc : Thread Cert.MlpDownLn.nD Cert.MlpDownLn.τ).loc Cert.MlpDownLn.main_arg0)
      ∧ r.2.mem ((c.tc : Thread Cert.MlpDownLn.nD Cert.MlpDownLn.τ).loc Cert.MlpDownLn.main_arg1) = m ((c.tc : Thread Cert.MlpDownLn.nD Cert.MlpDownLn.τ).loc Cert.MlpDownLn.main_arg1)
      ∧ r.2.mem ((c.tc : Thread Cert.MlpDownLn.nD Cert.MlpDownLn.τ).loc Cert.MlpDownLn.main_arg2) = m ((c.tc : Thread Cert.MlpDownLn.nD Cert.MlpDownLn.τ).loc Cert.MlpDownLn.main_arg2)
      ∧ r.2.mem ((c.tc : Thread Cert.MlpDownLn.nD Cert.MlpDownLn.τ).loc Cert.MlpDownLn.main_arg3) = m ((c.tc : Thread Cert.MlpDownLn.nD Cert.MlpDownLn.τ).loc Cert.MlpDownLn.main_arg3)
      ∧ r.2.mem ((c.tc : Thread Cert.MlpDownLn.nD Cert.MlpDownLn.τ).loc Cert.MlpDownLn.main_arg4) = m ((c.tc : Thread Cert.MlpDownLn.nD Cert.MlpDownLn.τ).loc Cert.MlpDownLn.main_arg4))
      ∧ r.2.sem = fun _ => 0)

def quiescent_MlpDownLnIdeal [hMlpDownLnIdeal : Cert.MlpDownLnIdeal.Facts] : Prop :=
  ∀ (m : (ℓ : Loc Cert.MlpDownLnIdeal.nD Cert.MlpDownLnIdeal.τ Cert.MlpDownLnIdeal.sig) → Buf (Elt Ideal) ℓ) (g : Dev Cert.MlpDownLnIdeal.nD → PrngReg), Pre_MlpDownLnIdeal m →
    θ_run (Cert.MlpDownLnIdeal.defs (F := Ideal)) (onTc (τ := Cert.MlpDownLnIdeal.τ) (Cert.MlpDownLnIdeal.main (F := Ideal))) ⟨m, fun _ => 0, g⟩ (fun r => (∀ c : Dev Cert.MlpDownLnIdeal.nD,
      r.2.mem ((c.tc : Thread Cert.MlpDownLnIdeal.nD Cert.MlpDownLnIdeal.τ).loc Cert.MlpDownLnIdeal.main_arg0) = m ((c.tc : Thread Cert.MlpDownLnIdeal.nD Cert.MlpDownLnIdeal.τ).loc Cert.MlpDownLnIdeal.main_arg0)
      ∧ r.2.mem ((c.tc : Thread Cert.MlpDownLnIdeal.nD Cert.MlpDownLnIdeal.τ).loc Cert.MlpDownLnIdeal.main_arg1) = m ((c.tc : Thread Cert.MlpDownLnIdeal.nD Cert.MlpDownLnIdeal.τ).loc Cert.MlpDownLnIdeal.main_arg1)
      ∧ r.2.mem ((c.tc : Thread Cert.MlpDownLnIdeal.nD Cert.MlpDownLnIdeal.τ).loc Cert.MlpDownLnIdeal.main_arg2) = m ((c.tc : Thread Cert.MlpDownLnIdeal.nD Cert.MlpDownLnIdeal.τ).loc Cert.MlpDownLnIdeal.main_arg2)
      ∧ r.2.mem ((c.tc : Thread Cert.MlpDownLnIdeal.nD Cert.MlpDownLnIdeal.τ).loc Cert.MlpDownLnIdeal.main_arg3) = m ((c.tc : Thread Cert.MlpDownLnIdeal.nD Cert.MlpDownLnIdeal.τ).loc Cert.MlpDownLnIdeal.main_arg3)
      ∧ r.2.mem ((c.tc : Thread Cert.MlpDownLnIdeal.nD Cert.MlpDownLnIdeal.τ).loc Cert.MlpDownLnIdeal.main_arg4) = m ((c.tc : Thread Cert.MlpDownLnIdeal.nD Cert.MlpDownLnIdeal.τ).loc Cert.MlpDownLnIdeal.main_arg4))
      ∧ r.2.sem = fun _ => 0)

def quiescent_MlpDownLnRefIdeal [hMlpDownLnRefIdeal : Cert.MlpDownLnRefIdeal.Facts] : Prop :=
  ∀ (m : (ℓ : Loc Cert.MlpDownLnRefIdeal.nD Cert.MlpDownLnRefIdeal.τ Cert.MlpDownLnRefIdeal.sig) → Buf (Elt Ideal) ℓ) (g : Dev Cert.MlpDownLnRefIdeal.nD → PrngReg), Pre_MlpDownLnRefIdeal m →
    θ_run (Cert.MlpDownLnRefIdeal.defs (F := Ideal)) (onTc (τ := Cert.MlpDownLnRefIdeal.τ) (Cert.MlpDownLnRefIdeal.main (F := Ideal))) ⟨m, fun _ => 0, g⟩ (fun r => (∀ c : Dev Cert.MlpDownLnRefIdeal.nD,
      r.2.mem ((c.tc : Thread Cert.MlpDownLnRefIdeal.nD Cert.MlpDownLnRefIdeal.τ).loc Cert.MlpDownLnRefIdeal.main_arg0) = m ((c.tc : Thread Cert.MlpDownLnRefIdeal.nD Cert.MlpDownLnRefIdeal.τ).loc Cert.MlpDownLnRefIdeal.main_arg0)
      ∧ r.2.mem ((c.tc : Thread Cert.MlpDownLnRefIdeal.nD Cert.MlpDownLnRefIdeal.τ).loc Cert.MlpDownLnRefIdeal.main_arg1) = m ((c.tc : Thread Cert.MlpDownLnRefIdeal.nD Cert.MlpDownLnRefIdeal.τ).loc Cert.MlpDownLnRefIdeal.main_arg1)
      ∧ r.2.mem ((c.tc : Thread Cert.MlpDownLnRefIdeal.nD Cert.MlpDownLnRefIdeal.τ).loc Cert.MlpDownLnRefIdeal.main_arg2) = m ((c.tc : Thread Cert.MlpDownLnRefIdeal.nD Cert.MlpDownLnRefIdeal.τ).loc Cert.MlpDownLnRefIdeal.main_arg2)
      ∧ r.2.mem ((c.tc : Thread Cert.MlpDownLnRefIdeal.nD Cert.MlpDownLnRefIdeal.τ).loc Cert.MlpDownLnRefIdeal.main_arg3) = m ((c.tc : Thread Cert.MlpDownLnRefIdeal.nD Cert.MlpDownLnRefIdeal.τ).loc Cert.MlpDownLnRefIdeal.main_arg3)
      ∧ r.2.mem ((c.tc : Thread Cert.MlpDownLnRefIdeal.nD Cert.MlpDownLnRefIdeal.τ).loc Cert.MlpDownLnRefIdeal.main_arg4) = m ((c.tc : Thread Cert.MlpDownLnRefIdeal.nD Cert.MlpDownLnRefIdeal.τ).loc Cert.MlpDownLnRefIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_LnInRefIdeal [hLnInRefIdeal : Cert.LnInRefIdeal.Facts] : Prop :=
  ∀ (m : (ℓ : Loc Cert.LnInRefIdeal.nD Cert.LnInRefIdeal.τ Cert.LnInRefIdeal.sig) → Buf (Elt Ideal) ℓ) (g : Dev Cert.LnInRefIdeal.nD → PrngReg), Pre_LnInRefIdeal m →
    θ_run (Cert.LnInRefIdeal.defs (F := Ideal)) (onTc (τ := Cert.LnInRefIdeal.τ) (Cert.LnInRefIdeal.main (F := Ideal))) ⟨m, fun _ => 0, g⟩ (fun r => (∀ c : Dev Cert.LnInRefIdeal.nD,
      r.2.mem ((c.tc : Thread Cert.LnInRefIdeal.nD Cert.LnInRefIdeal.τ).loc Cert.LnInRefIdeal.main_arg0) = m ((c.tc : Thread Cert.LnInRefIdeal.nD Cert.LnInRefIdeal.τ).loc Cert.LnInRefIdeal.main_arg0)
      ∧ r.2.mem ((c.tc : Thread Cert.LnInRefIdeal.nD Cert.LnInRefIdeal.τ).loc Cert.LnInRefIdeal.main_arg1) = m ((c.tc : Thread Cert.LnInRefIdeal.nD Cert.LnInRefIdeal.τ).loc Cert.LnInRefIdeal.main_arg1)
      ∧ r.2.mem ((c.tc : Thread Cert.LnInRefIdeal.nD Cert.LnInRefIdeal.τ).loc Cert.LnInRefIdeal.main_arg2) = m ((c.tc : Thread Cert.LnInRefIdeal.nD Cert.LnInRefIdeal.τ).loc Cert.LnInRefIdeal.main_arg2))
      ∧ r.2.sem = fun _ => 0)

def quiescent_Normgate [hNormgate : Cert.Normgate.Facts] : Prop :=
  ∀ (m : (ℓ : Loc Cert.Normgate.nD Cert.Normgate.τ Cert.Normgate.sig) → Buf (Elt Bits) ℓ) (g : Dev Cert.Normgate.nD → PrngReg), Pre_Normgate m →
    θ_run (Cert.Normgate.defs (F := Bits)) (onTc (τ := Cert.Normgate.τ) (Cert.Normgate.main (F := Bits))) ⟨m, fun _ => 0, g⟩ (fun r => (∀ c : Dev Cert.Normgate.nD,
      r.2.mem ((c.tc : Thread Cert.Normgate.nD Cert.Normgate.τ).loc Cert.Normgate.main_arg0) = m ((c.tc : Thread Cert.Normgate.nD Cert.Normgate.τ).loc Cert.Normgate.main_arg0)
      ∧ r.2.mem ((c.tc : Thread Cert.Normgate.nD Cert.Normgate.τ).loc Cert.Normgate.main_arg1) = m ((c.tc : Thread Cert.Normgate.nD Cert.Normgate.τ).loc Cert.Normgate.main_arg1)
      ∧ r.2.mem ((c.tc : Thread Cert.Normgate.nD Cert.Normgate.τ).loc Cert.Normgate.main_arg2) = m ((c.tc : Thread Cert.Normgate.nD Cert.Normgate.τ).loc Cert.Normgate.main_arg2)
      ∧ r.2.mem ((c.tc : Thread Cert.Normgate.nD Cert.Normgate.τ).loc Cert.Normgate.main_arg3) = m ((c.tc : Thread Cert.Normgate.nD Cert.Normgate.τ).loc Cert.Normgate.main_arg3))
      ∧ r.2.sem = fun _ => 0)

def quiescent_NormgateIdeal [hNormgateIdeal : Cert.NormgateIdeal.Facts] : Prop :=
  ∀ (m : (ℓ : Loc Cert.NormgateIdeal.nD Cert.NormgateIdeal.τ Cert.NormgateIdeal.sig) → Buf (Elt Ideal) ℓ) (g : Dev Cert.NormgateIdeal.nD → PrngReg), Pre_NormgateIdeal m →
    θ_run (Cert.NormgateIdeal.defs (F := Ideal)) (onTc (τ := Cert.NormgateIdeal.τ) (Cert.NormgateIdeal.main (F := Ideal))) ⟨m, fun _ => 0, g⟩ (fun r => (∀ c : Dev Cert.NormgateIdeal.nD,
      r.2.mem ((c.tc : Thread Cert.NormgateIdeal.nD Cert.NormgateIdeal.τ).loc Cert.NormgateIdeal.main_arg0) = m ((c.tc : Thread Cert.NormgateIdeal.nD Cert.NormgateIdeal.τ).loc Cert.NormgateIdeal.main_arg0)
      ∧ r.2.mem ((c.tc : Thread Cert.NormgateIdeal.nD Cert.NormgateIdeal.τ).loc Cert.NormgateIdeal.main_arg1) = m ((c.tc : Thread Cert.NormgateIdeal.nD Cert.NormgateIdeal.τ).loc Cert.NormgateIdeal.main_arg1)
      ∧ r.2.mem ((c.tc : Thread Cert.NormgateIdeal.nD Cert.NormgateIdeal.τ).loc Cert.NormgateIdeal.main_arg2) = m ((c.tc : Thread Cert.NormgateIdeal.nD Cert.NormgateIdeal.τ).loc Cert.NormgateIdeal.main_arg2)
      ∧ r.2.mem ((c.tc : Thread Cert.NormgateIdeal.nD Cert.NormgateIdeal.τ).loc Cert.NormgateIdeal.main_arg3) = m ((c.tc : Thread Cert.NormgateIdeal.nD Cert.NormgateIdeal.τ).loc Cert.NormgateIdeal.main_arg3))
      ∧ r.2.sem = fun _ => 0)

def quiescent_NormgateRefIdeal [hNormgateRefIdeal : Cert.NormgateRefIdeal.Facts] : Prop :=
  ∀ (m : (ℓ : Loc Cert.NormgateRefIdeal.nD Cert.NormgateRefIdeal.τ Cert.NormgateRefIdeal.sig) → Buf (Elt Ideal) ℓ) (g : Dev Cert.NormgateRefIdeal.nD → PrngReg), Pre_NormgateRefIdeal m →
    θ_run (Cert.NormgateRefIdeal.defs (F := Ideal)) (onTc (τ := Cert.NormgateRefIdeal.τ) (Cert.NormgateRefIdeal.main (F := Ideal))) ⟨m, fun _ => 0, g⟩ (fun r => (∀ c : Dev Cert.NormgateRefIdeal.nD,
      r.2.mem ((c.tc : Thread Cert.NormgateRefIdeal.nD Cert.NormgateRefIdeal.τ).loc Cert.NormgateRefIdeal.main_arg0) = m ((c.tc : Thread Cert.NormgateRefIdeal.nD Cert.NormgateRefIdeal.τ).loc Cert.NormgateRefIdeal.main_arg0)
      ∧ r.2.mem ((c.tc : Thread Cert.NormgateRefIdeal.nD Cert.NormgateRefIdeal.τ).loc Cert.NormgateRefIdeal.main_arg1) = m ((c.tc : Thread Cert.NormgateRefIdeal.nD Cert.NormgateRefIdeal.τ).loc Cert.NormgateRefIdeal.main_arg1)
      ∧ r.2.mem ((c.tc : Thread Cert.NormgateRefIdeal.nD Cert.NormgateRefIdeal.τ).loc Cert.NormgateRefIdeal.main_arg2) = m ((c.tc : Thread Cert.NormgateRefIdeal.nD Cert.NormgateRefIdeal.τ).loc Cert.NormgateRefIdeal.main_arg2)
      ∧ r.2.mem ((c.tc : Thread Cert.NormgateRefIdeal.nD Cert.NormgateRefIdeal.τ).loc Cert.NormgateRefIdeal.main_arg3) = m ((c.tc : Thread Cert.NormgateRefIdeal.nD Cert.NormgateRefIdeal.τ).loc Cert.NormgateRefIdeal.main_arg3))
      ∧ r.2.sem = fun _ => 0)

def preserves_MlpDownBwd_MlpDownBwdIdeal : Prop :=
  True

def algebraic_MlpDownBwdIdeal_MlpDownBwdRefIdeal [hMlpDownBwdIdeal : Cert.MlpDownBwdIdeal.Facts] [hMlpDownBwdRefIdeal : Cert.MlpDownBwdRefIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg)
    (m' : (ℓ : Loc Cert.MlpDownBwdRefIdeal.nD Cert.MlpDownBwdRefIdeal.τ Cert.MlpDownBwdRefIdeal.sig) → Buf (Elt Ideal) ℓ) (g' : Dev Cert.MlpDownBwdRefIdeal.nD → PrngReg), Pre_MlpDownBwdIdeal m →
    (∀ c : Dev Cert.MlpDownBwdIdeal.nD,
      m' ((c.tc : Thread Cert.MlpDownBwdRefIdeal.nD Cert.MlpDownBwdRefIdeal.τ).loc Cert.MlpDownBwdRefIdeal.main_arg0) = m ((c.tc : Thread Cert.MlpDownBwdIdeal.nD Cert.MlpDownBwdIdeal.τ).loc Cert.MlpDownBwdIdeal.main_arg0)
      ∧ m' ((c.tc : Thread Cert.MlpDownBwdRefIdeal.nD Cert.MlpDownBwdRefIdeal.τ).loc Cert.MlpDownBwdRefIdeal.main_arg1) = m ((c.tc : Thread Cert.MlpDownBwdIdeal.nD Cert.MlpDownBwdIdeal.τ).loc Cert.MlpDownBwdIdeal.main_arg1)
      ∧ m' ((c.tc : Thread Cert.MlpDownBwdRefIdeal.nD Cert.MlpDownBwdRefIdeal.τ).loc Cert.MlpDownBwdRefIdeal.main_arg2) = m ((c.tc : Thread Cert.MlpDownBwdIdeal.nD Cert.MlpDownBwdIdeal.τ).loc Cert.MlpDownBwdIdeal.main_arg2)) →
    ∃ (v0 : (c : Dev Cert.MlpDownBwdIdeal.nD) → Buf (Elt Ideal) ((c.tc : Thread Cert.MlpDownBwdIdeal.nD Cert.MlpDownBwdIdeal.τ).loc Cert.MlpDownBwdIdeal.main_v0)),
      θ_run (Cert.MlpDownBwdIdeal.defs (F := Ideal)) (onTc (τ := Cert.MlpDownBwdIdeal.τ) (Cert.MlpDownBwdIdeal.main (F := Ideal))) ⟨m, fun _ => 0, g⟩ (fun r => ∀ c : Dev Cert.MlpDownBwdIdeal.nD,
          r.2.mem ((c.tc : Thread Cert.MlpDownBwdIdeal.nD Cert.MlpDownBwdIdeal.τ).loc Cert.MlpDownBwdIdeal.main_v0) = v0 c
          ∧ r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
          ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
          ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2))
      ∧ θ_run (Cert.MlpDownBwdRefIdeal.defs (F := Ideal)) (onTc (τ := Cert.MlpDownBwdRefIdeal.τ) (Cert.MlpDownBwdRefIdeal.main (F := Ideal))) ⟨m', fun _ => 0, g'⟩ (fun r => ∀ c : Dev Cert.MlpDownBwdRefIdeal.nD,
          r.2.mem ((c.tc : Thread Cert.MlpDownBwdRefIdeal.nD Cert.MlpDownBwdRefIdeal.τ).loc Cert.MlpDownBwdRefIdeal.main_v14) = v0 c
          ∧ r.2.mem ((c.tc : Thread Cert.MlpDownBwdRefIdeal.nD Cert.MlpDownBwdRefIdeal.τ).loc Cert.MlpDownBwdRefIdeal.main_arg0) = m' ((c.tc : Thread Cert.MlpDownBwdRefIdeal.nD Cert.MlpDownBwdRefIdeal.τ).loc Cert.MlpDownBwdRefIdeal.main_arg0)
          ∧ r.2.mem ((c.tc : Thread Cert.MlpDownBwdRefIdeal.nD Cert.MlpDownBwdRefIdeal.τ).loc Cert.MlpDownBwdRefIdeal.main_arg1) = m' ((c.tc : Thread Cert.MlpDownBwdRefIdeal.nD Cert.MlpDownBwdRefIdeal.τ).loc Cert.MlpDownBwdRefIdeal.main_arg1)
          ∧ r.2.mem ((c.tc : Thread Cert.MlpDownBwdRefIdeal.nD Cert.MlpDownBwdRefIdeal.τ).loc Cert.MlpDownBwdRefIdeal.main_arg2) = m' ((c.tc : Thread Cert.MlpDownBwdRefIdeal.nD Cert.MlpDownBwdRefIdeal.τ).loc Cert.MlpDownBwdRefIdeal.main_arg2))

def preserves_MlpDownWgrad_MlpDownWgradIdeal : Prop :=
  True

def algebraic_MlpDownWgradIdeal_MlpDownWgradRefIdeal [hMlpDownWgradIdeal : Cert.MlpDownWgradIdeal.Facts] [hMlpDownWgradRefIdeal : Cert.MlpDownWgradRefIdeal.Facts] : Prop :=
  ∀ (m : (ℓ : Loc Cert.MlpDownWgradIdeal.nD Cert.MlpDownWgradIdeal.τ Cert.MlpDownWgradIdeal.sig) → Buf (Elt Ideal) ℓ) (g : Dev Cert.MlpDownWgradIdeal.nD → PrngReg)
    (m' : (ℓ : Loc Cert.MlpDownWgradRefIdeal.nD Cert.MlpDownWgradRefIdeal.τ Cert.MlpDownWgradRefIdeal.sig) → Buf (Elt Ideal) ℓ) (g' : Dev Cert.MlpDownWgradRefIdeal.nD → PrngReg), Pre_MlpDownWgradIdeal m →
    (∀ c : Dev Cert.MlpDownWgradIdeal.nD,
      m' ((c.tc : Thread Cert.MlpDownWgradRefIdeal.nD Cert.MlpDownWgradRefIdeal.τ).loc Cert.MlpDownWgradRefIdeal.main_arg0) = m ((c.tc : Thread Cert.MlpDownWgradIdeal.nD Cert.MlpDownWgradIdeal.τ).loc Cert.MlpDownWgradIdeal.main_arg0)
      ∧ m' ((c.tc : Thread Cert.MlpDownWgradRefIdeal.nD Cert.MlpDownWgradRefIdeal.τ).loc Cert.MlpDownWgradRefIdeal.main_arg1) = m ((c.tc : Thread Cert.MlpDownWgradIdeal.nD Cert.MlpDownWgradIdeal.τ).loc Cert.MlpDownWgradIdeal.main_arg1)) →
    ∃ (v0 : (c : Dev Cert.MlpDownWgradIdeal.nD) → Buf (Elt Ideal) ((c.tc : Thread Cert.MlpDownWgradIdeal.nD Cert.MlpDownWgradIdeal.τ).loc Cert.MlpDownWgradIdeal.main_v0)),
      θ_run (Cert.MlpDownWgradIdeal.defs (F := Ideal)) (onTc (τ := Cert.MlpDownWgradIdeal.τ) (Cert.MlpDownWgradIdeal.main (F := Ideal))) ⟨m, fun _ => 0, g⟩ (fun r => ∀ c : Dev Cert.MlpDownWgradIdeal.nD,
          r.2.mem ((c.tc : Thread Cert.MlpDownWgradIdeal.nD Cert.MlpDownWgradIdeal.τ).loc Cert.MlpDownWgradIdeal.main_v0) = v0 c
          ∧ r.2.mem ((c.tc : Thread Cert.MlpDownWgradIdeal.nD Cert.MlpDownWgradIdeal.τ).loc Cert.MlpDownWgradIdeal.main_arg0) = m ((c.tc : Thread Cert.MlpDownWgradIdeal.nD Cert.MlpDownWgradIdeal.τ).loc Cert.MlpDownWgradIdeal.main_arg0)
          ∧ r.2.mem ((c.tc : Thread Cert.MlpDownWgradIdeal.nD Cert.MlpDownWgradIdeal.τ).loc Cert.MlpDownWgradIdeal.main_arg1) = m ((c.tc : Thread Cert.MlpDownWgradIdeal.nD Cert.MlpDownWgradIdeal.τ).loc Cert.MlpDownWgradIdeal.main_arg1))
      ∧ θ_run (Cert.MlpDownWgradRefIdeal.defs (F := Ideal)) (onTc (τ := Cert.MlpDownWgradRefIdeal.τ) (Cert.MlpDownWgradRefIdeal.main (F := Ideal))) ⟨m', fun _ => 0, g'⟩ (fun r => ∀ c : Dev Cert.MlpDownWgradRefIdeal.nD,
          r.2.mem ((c.tc : Thread Cert.MlpDownWgradRefIdeal.nD Cert.MlpDownWgradRefIdeal.τ).loc Cert.MlpDownWgradRefIdeal.main_v6) = v0 c
          ∧ r.2.mem ((c.tc : Thread Cert.MlpDownWgradRefIdeal.nD Cert.MlpDownWgradRefIdeal.τ).loc Cert.MlpDownWgradRefIdeal.main_arg0) = m' ((c.tc : Thread Cert.MlpDownWgradRefIdeal.nD Cert.MlpDownWgradRefIdeal.τ).loc Cert.MlpDownWgradRefIdeal.main_arg0)
          ∧ r.2.mem ((c.tc : Thread Cert.MlpDownWgradRefIdeal.nD Cert.MlpDownWgradRefIdeal.τ).loc Cert.MlpDownWgradRefIdeal.main_arg1) = m' ((c.tc : Thread Cert.MlpDownWgradRefIdeal.nD Cert.MlpDownWgradRefIdeal.τ).loc Cert.MlpDownWgradRefIdeal.main_arg1))

def preserves_MlpUpBwd_MlpUpBwdIdeal : Prop :=
  True

def algebraic_MlpUpBwdIdeal_MlpUpBwdRefIdeal [hMlpUpBwdIdeal : Cert.MlpUpBwdIdeal.Facts] [hMlpUpBwdRefIdeal : Cert.MlpUpBwdRefIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg)
    (m' : (ℓ : Loc Cert.MlpUpBwdRefIdeal.nD Cert.MlpUpBwdRefIdeal.τ Cert.MlpUpBwdRefIdeal.sig) → Buf (Elt Ideal) ℓ) (g' : Dev Cert.MlpUpBwdRefIdeal.nD → PrngReg), Pre_MlpUpBwdIdeal m →
    (∀ c : Dev Cert.MlpUpBwdIdeal.nD,
      m' ((c.tc : Thread Cert.MlpUpBwdRefIdeal.nD Cert.MlpUpBwdRefIdeal.τ).loc Cert.MlpUpBwdRefIdeal.main_arg0) = m ((c.tc : Thread Cert.MlpUpBwdIdeal.nD Cert.MlpUpBwdIdeal.τ).loc Cert.MlpUpBwdIdeal.main_arg0)
      ∧ m' ((c.tc : Thread Cert.MlpUpBwdRefIdeal.nD Cert.MlpUpBwdRefIdeal.τ).loc Cert.MlpUpBwdRefIdeal.main_arg1) = m ((c.tc : Thread Cert.MlpUpBwdIdeal.nD Cert.MlpUpBwdIdeal.τ).loc Cert.MlpUpBwdIdeal.main_arg1)
      ∧ m' ((c.tc : Thread Cert.MlpUpBwdRefIdeal.nD Cert.MlpUpBwdRefIdeal.τ).loc Cert.MlpUpBwdRefIdeal.main_arg2) = m ((c.tc : Thread Cert.MlpUpBwdIdeal.nD Cert.MlpUpBwdIdeal.τ).loc Cert.MlpUpBwdIdeal.main_arg2)) →
    ∃ (v0 : (c : Dev Cert.MlpUpBwdIdeal.nD) → Buf (Elt Ideal) ((c.tc : Thread Cert.MlpUpBwdIdeal.nD Cert.MlpUpBwdIdeal.τ).loc Cert.MlpUpBwdIdeal.main_v0)),
      θ_run (Cert.MlpUpBwdIdeal.defs (F := Ideal)) (onTc (τ := Cert.MlpUpBwdIdeal.τ) (Cert.MlpUpBwdIdeal.main (F := Ideal))) ⟨m, fun _ => 0, g⟩ (fun r => ∀ c : Dev Cert.MlpUpBwdIdeal.nD,
          r.2.mem ((c.tc : Thread Cert.MlpUpBwdIdeal.nD Cert.MlpUpBwdIdeal.τ).loc Cert.MlpUpBwdIdeal.main_v0) = v0 c
          ∧ r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
          ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
          ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2))
      ∧ θ_run (Cert.MlpUpBwdRefIdeal.defs (F := Ideal)) (onTc (τ := Cert.MlpUpBwdRefIdeal.τ) (Cert.MlpUpBwdRefIdeal.main (F := Ideal))) ⟨m', fun _ => 0, g'⟩ (fun r => ∀ c : Dev Cert.MlpUpBwdRefIdeal.nD,
          r.2.mem ((c.tc : Thread Cert.MlpUpBwdRefIdeal.nD Cert.MlpUpBwdRefIdeal.τ).loc Cert.MlpUpBwdRefIdeal.main_v5) = v0 c
          ∧ r.2.mem ((c.tc : Thread Cert.MlpUpBwdRefIdeal.nD Cert.MlpUpBwdRefIdeal.τ).loc Cert.MlpUpBwdRefIdeal.main_arg0) = m' ((c.tc : Thread Cert.MlpUpBwdRefIdeal.nD Cert.MlpUpBwdRefIdeal.τ).loc Cert.MlpUpBwdRefIdeal.main_arg0)
          ∧ r.2.mem ((c.tc : Thread Cert.MlpUpBwdRefIdeal.nD Cert.MlpUpBwdRefIdeal.τ).loc Cert.MlpUpBwdRefIdeal.main_arg1) = m' ((c.tc : Thread Cert.MlpUpBwdRefIdeal.nD Cert.MlpUpBwdRefIdeal.τ).loc Cert.MlpUpBwdRefIdeal.main_arg1)
          ∧ r.2.mem ((c.tc : Thread Cert.MlpUpBwdRefIdeal.nD Cert.MlpUpBwdRefIdeal.τ).loc Cert.MlpUpBwdRefIdeal.main_arg2) = m' ((c.tc : Thread Cert.MlpUpBwdRefIdeal.nD Cert.MlpUpBwdRefIdeal.τ).loc Cert.MlpUpBwdRefIdeal.main_arg2))

def preserves_MlpUpWgrad_MlpUpWgradIdeal : Prop :=
  True

def algebraic_MlpUpWgradIdeal_MlpUpWgradRefIdeal [hMlpUpWgradIdeal : Cert.MlpUpWgradIdeal.Facts] [hMlpUpWgradRefIdeal : Cert.MlpUpWgradRefIdeal.Facts] : Prop :=
  ∀ (m : (ℓ : Loc Cert.MlpUpWgradIdeal.nD Cert.MlpUpWgradIdeal.τ Cert.MlpUpWgradIdeal.sig) → Buf (Elt Ideal) ℓ) (g : Dev Cert.MlpUpWgradIdeal.nD → PrngReg)
    (m' : (ℓ : Loc Cert.MlpUpWgradRefIdeal.nD Cert.MlpUpWgradRefIdeal.τ Cert.MlpUpWgradRefIdeal.sig) → Buf (Elt Ideal) ℓ) (g' : Dev Cert.MlpUpWgradRefIdeal.nD → PrngReg), Pre_MlpUpWgradIdeal m →
    (∀ c : Dev Cert.MlpUpWgradIdeal.nD,
      m' ((c.tc : Thread Cert.MlpUpWgradRefIdeal.nD Cert.MlpUpWgradRefIdeal.τ).loc Cert.MlpUpWgradRefIdeal.main_arg0) = m ((c.tc : Thread Cert.MlpUpWgradIdeal.nD Cert.MlpUpWgradIdeal.τ).loc Cert.MlpUpWgradIdeal.main_arg0)
      ∧ m' ((c.tc : Thread Cert.MlpUpWgradRefIdeal.nD Cert.MlpUpWgradRefIdeal.τ).loc Cert.MlpUpWgradRefIdeal.main_arg1) = m ((c.tc : Thread Cert.MlpUpWgradIdeal.nD Cert.MlpUpWgradIdeal.τ).loc Cert.MlpUpWgradIdeal.main_arg1)) →
    ∃ (v0 : (c : Dev Cert.MlpUpWgradIdeal.nD) → Buf (Elt Ideal) ((c.tc : Thread Cert.MlpUpWgradIdeal.nD Cert.MlpUpWgradIdeal.τ).loc Cert.MlpUpWgradIdeal.main_v0)),
      θ_run (Cert.MlpUpWgradIdeal.defs (F := Ideal)) (onTc (τ := Cert.MlpUpWgradIdeal.τ) (Cert.MlpUpWgradIdeal.main (F := Ideal))) ⟨m, fun _ => 0, g⟩ (fun r => ∀ c : Dev Cert.MlpUpWgradIdeal.nD,
          r.2.mem ((c.tc : Thread Cert.MlpUpWgradIdeal.nD Cert.MlpUpWgradIdeal.τ).loc Cert.MlpUpWgradIdeal.main_v0) = v0 c
          ∧ r.2.mem ((c.tc : Thread Cert.MlpUpWgradIdeal.nD Cert.MlpUpWgradIdeal.τ).loc Cert.MlpUpWgradIdeal.main_arg0) = m ((c.tc : Thread Cert.MlpUpWgradIdeal.nD Cert.MlpUpWgradIdeal.τ).loc Cert.MlpUpWgradIdeal.main_arg0)
          ∧ r.2.mem ((c.tc : Thread Cert.MlpUpWgradIdeal.nD Cert.MlpUpWgradIdeal.τ).loc Cert.MlpUpWgradIdeal.main_arg1) = m ((c.tc : Thread Cert.MlpUpWgradIdeal.nD Cert.MlpUpWgradIdeal.τ).loc Cert.MlpUpWgradIdeal.main_arg1))
      ∧ θ_run (Cert.MlpUpWgradRefIdeal.defs (F := Ideal)) (onTc (τ := Cert.MlpUpWgradRefIdeal.τ) (Cert.MlpUpWgradRefIdeal.main (F := Ideal))) ⟨m', fun _ => 0, g'⟩ (fun r => ∀ c : Dev Cert.MlpUpWgradRefIdeal.nD,
          r.2.mem ((c.tc : Thread Cert.MlpUpWgradRefIdeal.nD Cert.MlpUpWgradRefIdeal.τ).loc Cert.MlpUpWgradRefIdeal.main_v23) = v0 c
          ∧ r.2.mem ((c.tc : Thread Cert.MlpUpWgradRefIdeal.nD Cert.MlpUpWgradRefIdeal.τ).loc Cert.MlpUpWgradRefIdeal.main_arg0) = m' ((c.tc : Thread Cert.MlpUpWgradRefIdeal.nD Cert.MlpUpWgradRefIdeal.τ).loc Cert.MlpUpWgradRefIdeal.main_arg0)
          ∧ r.2.mem ((c.tc : Thread Cert.MlpUpWgradRefIdeal.nD Cert.MlpUpWgradRefIdeal.τ).loc Cert.MlpUpWgradRefIdeal.main_arg1) = m' ((c.tc : Thread Cert.MlpUpWgradRefIdeal.nD Cert.MlpUpWgradRefIdeal.τ).loc Cert.MlpUpWgradRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v4) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v6) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_BranchBwdA_BranchBwdAIdeal : Prop :=
  True

def algebraic_BranchBwdAIdeal_BranchBwdARefIdeal [hBranchBwdAIdeal : Cert.BranchBwdAIdeal.Facts] [hBranchBwdARefIdeal : Cert.BranchBwdARefIdeal.Facts] : Prop :=
  ∀ (m : (ℓ : Loc Cert.BranchBwdAIdeal.nD Cert.BranchBwdAIdeal.τ Cert.BranchBwdAIdeal.sig) → Buf (Elt Ideal) ℓ) (g : Dev Cert.BranchBwdAIdeal.nD → PrngReg)
    (m' : (ℓ : Loc Cert.BranchBwdARefIdeal.nD Cert.BranchBwdARefIdeal.τ Cert.BranchBwdARefIdeal.sig) → Buf (Elt Ideal) ℓ) (g' : Dev Cert.BranchBwdARefIdeal.nD → PrngReg), Pre_BranchBwdAIdeal m →
    (∀ c : Dev Cert.BranchBwdAIdeal.nD,
      m' ((c.tc : Thread Cert.BranchBwdARefIdeal.nD Cert.BranchBwdARefIdeal.τ).loc Cert.BranchBwdARefIdeal.main_arg0) = m ((c.tc : Thread Cert.BranchBwdAIdeal.nD Cert.BranchBwdAIdeal.τ).loc Cert.BranchBwdAIdeal.main_arg0)
      ∧ m' ((c.tc : Thread Cert.BranchBwdARefIdeal.nD Cert.BranchBwdARefIdeal.τ).loc Cert.BranchBwdARefIdeal.main_arg1) = m ((c.tc : Thread Cert.BranchBwdAIdeal.nD Cert.BranchBwdAIdeal.τ).loc Cert.BranchBwdAIdeal.main_arg1)) →
    ∃ (v0 : (c : Dev Cert.BranchBwdAIdeal.nD) → Buf (Elt Ideal) ((c.tc : Thread Cert.BranchBwdAIdeal.nD Cert.BranchBwdAIdeal.τ).loc Cert.BranchBwdAIdeal.main_v0)),
      θ_run (Cert.BranchBwdAIdeal.defs (F := Ideal)) (onTc (τ := Cert.BranchBwdAIdeal.τ) (Cert.BranchBwdAIdeal.main (F := Ideal))) ⟨m, fun _ => 0, g⟩ (fun r => ∀ c : Dev Cert.BranchBwdAIdeal.nD,
          r.2.mem ((c.tc : Thread Cert.BranchBwdAIdeal.nD Cert.BranchBwdAIdeal.τ).loc Cert.BranchBwdAIdeal.main_v0) = v0 c
          ∧ r.2.mem ((c.tc : Thread Cert.BranchBwdAIdeal.nD Cert.BranchBwdAIdeal.τ).loc Cert.BranchBwdAIdeal.main_arg0) = m ((c.tc : Thread Cert.BranchBwdAIdeal.nD Cert.BranchBwdAIdeal.τ).loc Cert.BranchBwdAIdeal.main_arg0)
          ∧ r.2.mem ((c.tc : Thread Cert.BranchBwdAIdeal.nD Cert.BranchBwdAIdeal.τ).loc Cert.BranchBwdAIdeal.main_arg1) = m ((c.tc : Thread Cert.BranchBwdAIdeal.nD Cert.BranchBwdAIdeal.τ).loc Cert.BranchBwdAIdeal.main_arg1))
      ∧ θ_run (Cert.BranchBwdARefIdeal.defs (F := Ideal)) (onTc (τ := Cert.BranchBwdARefIdeal.τ) (Cert.BranchBwdARefIdeal.main (F := Ideal))) ⟨m', fun _ => 0, g'⟩ (fun r => ∀ c : Dev Cert.BranchBwdARefIdeal.nD,
          r.2.mem ((c.tc : Thread Cert.BranchBwdARefIdeal.nD Cert.BranchBwdARefIdeal.τ).loc Cert.BranchBwdARefIdeal.main_v5) = v0 c
          ∧ r.2.mem ((c.tc : Thread Cert.BranchBwdARefIdeal.nD Cert.BranchBwdARefIdeal.τ).loc Cert.BranchBwdARefIdeal.main_arg0) = m' ((c.tc : Thread Cert.BranchBwdARefIdeal.nD Cert.BranchBwdARefIdeal.τ).loc Cert.BranchBwdARefIdeal.main_arg0)
          ∧ r.2.mem ((c.tc : Thread Cert.BranchBwdARefIdeal.nD Cert.BranchBwdARefIdeal.τ).loc Cert.BranchBwdARefIdeal.main_arg1) = m' ((c.tc : Thread Cert.BranchBwdARefIdeal.nD Cert.BranchBwdARefIdeal.τ).loc Cert.BranchBwdARefIdeal.main_arg1))

def preserves_BranchBwd_BranchBwdIdeal : Prop :=
  True

def algebraic_BranchBwdIdeal_BranchBwdRefIdeal [hBranchBwdIdeal : Cert.BranchBwdIdeal.Facts] [hBranchBwdRefIdeal : Cert.BranchBwdRefIdeal.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg)
    (m' : (ℓ : Loc Cert.BranchBwdRefIdeal.nD Cert.BranchBwdRefIdeal.τ Cert.BranchBwdRefIdeal.sig) → Buf (Elt Ideal) ℓ) (g' : Dev Cert.BranchBwdRefIdeal.nD → PrngReg), Pre_BranchBwdIdeal m →
    (∀ c : Dev Cert.BranchBwdIdeal.nD,
      m' ((c.tc : Thread Cert.BranchBwdRefIdeal.nD Cert.BranchBwdRefIdeal.τ).loc Cert.BranchBwdRefIdeal.main_arg0) = m ((c.tc : Thread Cert.BranchBwdIdeal.nD Cert.BranchBwdIdeal.τ).loc Cert.BranchBwdIdeal.main_arg0)
      ∧ m' ((c.tc : Thread Cert.BranchBwdRefIdeal.nD Cert.BranchBwdRefIdeal.τ).loc Cert.BranchBwdRefIdeal.main_arg1) = m ((c.tc : Thread Cert.BranchBwdIdeal.nD Cert.BranchBwdIdeal.τ).loc Cert.BranchBwdIdeal.main_arg1)) →
    ∃ (v0 : (c : Dev Cert.BranchBwdIdeal.nD) → Buf (Elt Ideal) ((c.tc : Thread Cert.BranchBwdIdeal.nD Cert.BranchBwdIdeal.τ).loc Cert.BranchBwdIdeal.main_v0)),
      θ_run (Cert.BranchBwdIdeal.defs (F := Ideal)) (onTc (τ := Cert.BranchBwdIdeal.τ) (Cert.BranchBwdIdeal.main (F := Ideal))) ⟨m, fun _ => 0, g⟩ (fun r => ∀ c : Dev Cert.BranchBwdIdeal.nD,
          r.2.mem ((c.tc : Thread Cert.BranchBwdIdeal.nD Cert.BranchBwdIdeal.τ).loc Cert.BranchBwdIdeal.main_v0) = v0 c
          ∧ r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
          ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1))
      ∧ θ_run (Cert.BranchBwdRefIdeal.defs (F := Ideal)) (onTc (τ := Cert.BranchBwdRefIdeal.τ) (Cert.BranchBwdRefIdeal.main (F := Ideal))) ⟨m', fun _ => 0, g'⟩ (fun r => ∀ c : Dev Cert.BranchBwdRefIdeal.nD,
          r.2.mem ((c.tc : Thread Cert.BranchBwdRefIdeal.nD Cert.BranchBwdRefIdeal.τ).loc Cert.BranchBwdRefIdeal.main_v4) = v0 c
          ∧ r.2.mem ((c.tc : Thread Cert.BranchBwdRefIdeal.nD Cert.BranchBwdRefIdeal.τ).loc Cert.BranchBwdRefIdeal.main_arg0) = m' ((c.tc : Thread Cert.BranchBwdRefIdeal.nD Cert.BranchBwdRefIdeal.τ).loc Cert.BranchBwdRefIdeal.main_arg0)
          ∧ r.2.mem ((c.tc : Thread Cert.BranchBwdRefIdeal.nD Cert.BranchBwdRefIdeal.τ).loc Cert.BranchBwdRefIdeal.main_arg1) = m' ((c.tc : Thread Cert.BranchBwdRefIdeal.nD Cert.BranchBwdRefIdeal.τ).loc Cert.BranchBwdRefIdeal.main_arg1))

def preserves_BranchWgrad_BranchWgradIdeal : Prop :=
  True

def algebraic_BranchWgradIdeal_BranchWgradRefIdeal [hBranchWgradIdeal : Cert.BranchWgradIdeal.Facts] [hBranchWgradRefIdeal : Cert.BranchWgradRefIdeal.Facts] : Prop :=
  ∀ (m : (ℓ : Loc Cert.BranchWgradIdeal.nD Cert.BranchWgradIdeal.τ Cert.BranchWgradIdeal.sig) → Buf (Elt Ideal) ℓ) (g : Dev Cert.BranchWgradIdeal.nD → PrngReg)
    (m' : (ℓ : Loc Cert.BranchWgradRefIdeal.nD Cert.BranchWgradRefIdeal.τ Cert.BranchWgradRefIdeal.sig) → Buf (Elt Ideal) ℓ) (g' : Dev Cert.BranchWgradRefIdeal.nD → PrngReg), Pre_BranchWgradIdeal m →
    (∀ c : Dev Cert.BranchWgradIdeal.nD,
      m' ((c.tc : Thread Cert.BranchWgradRefIdeal.nD Cert.BranchWgradRefIdeal.τ).loc Cert.BranchWgradRefIdeal.main_arg0) = m ((c.tc : Thread Cert.BranchWgradIdeal.nD Cert.BranchWgradIdeal.τ).loc Cert.BranchWgradIdeal.main_arg0)
      ∧ m' ((c.tc : Thread Cert.BranchWgradRefIdeal.nD Cert.BranchWgradRefIdeal.τ).loc Cert.BranchWgradRefIdeal.main_arg1) = m ((c.tc : Thread Cert.BranchWgradIdeal.nD Cert.BranchWgradIdeal.τ).loc Cert.BranchWgradIdeal.main_arg1)) →
    ∃ (v0 : (c : Dev Cert.BranchWgradIdeal.nD) → Buf (Elt Ideal) ((c.tc : Thread Cert.BranchWgradIdeal.nD Cert.BranchWgradIdeal.τ).loc Cert.BranchWgradIdeal.main_v0)),
      θ_run (Cert.BranchWgradIdeal.defs (F := Ideal)) (onTc (τ := Cert.BranchWgradIdeal.τ) (Cert.BranchWgradIdeal.main (F := Ideal))) ⟨m, fun _ => 0, g⟩ (fun r => ∀ c : Dev Cert.BranchWgradIdeal.nD,
          r.2.mem ((c.tc : Thread Cert.BranchWgradIdeal.nD Cert.BranchWgradIdeal.τ).loc Cert.BranchWgradIdeal.main_v0) = v0 c
          ∧ r.2.mem ((c.tc : Thread Cert.BranchWgradIdeal.nD Cert.BranchWgradIdeal.τ).loc Cert.BranchWgradIdeal.main_arg0) = m ((c.tc : Thread Cert.BranchWgradIdeal.nD Cert.BranchWgradIdeal.τ).loc Cert.BranchWgradIdeal.main_arg0)
          ∧ r.2.mem ((c.tc : Thread Cert.BranchWgradIdeal.nD Cert.BranchWgradIdeal.τ).loc Cert.BranchWgradIdeal.main_arg1) = m ((c.tc : Thread Cert.BranchWgradIdeal.nD Cert.BranchWgradIdeal.τ).loc Cert.BranchWgradIdeal.main_arg1))
      ∧ θ_run (Cert.BranchWgradRefIdeal.defs (F := Ideal)) (onTc (τ := Cert.BranchWgradRefIdeal.τ) (Cert.BranchWgradRefIdeal.main (F := Ideal))) ⟨m', fun _ => 0, g'⟩ (fun r => ∀ c : Dev Cert.BranchWgradRefIdeal.nD,
          r.2.mem ((c.tc : Thread Cert.BranchWgradRefIdeal.nD Cert.BranchWgradRefIdeal.τ).loc Cert.BranchWgradRefIdeal.main_v6) = v0 c
          ∧ r.2.mem ((c.tc : Thread Cert.BranchWgradRefIdeal.nD Cert.BranchWgradRefIdeal.τ).loc Cert.BranchWgradRefIdeal.main_arg0) = m' ((c.tc : Thread Cert.BranchWgradRefIdeal.nD Cert.BranchWgradRefIdeal.τ).loc Cert.BranchWgradRefIdeal.main_arg0)
          ∧ r.2.mem ((c.tc : Thread Cert.BranchWgradRefIdeal.nD Cert.BranchWgradRefIdeal.τ).loc Cert.BranchWgradRefIdeal.main_arg1) = m' ((c.tc : Thread Cert.BranchWgradRefIdeal.nD Cert.BranchWgradRefIdeal.τ).loc Cert.BranchWgradRefIdeal.main_arg1))

def preserves_ProjWgrad_ProjWgradIdeal : Prop :=
  True

def algebraic_ProjWgradIdeal_ProjWgradRefIdeal [hProjWgradIdeal : Cert.ProjWgradIdeal.Facts] [hProjWgradRefIdeal : Cert.ProjWgradRefIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg)
    (m' : (ℓ : Loc Cert.ProjWgradRefIdeal.nD Cert.ProjWgradRefIdeal.τ Cert.ProjWgradRefIdeal.sig) → Buf (Elt Ideal) ℓ) (g' : Dev Cert.ProjWgradRefIdeal.nD → PrngReg), Pre_ProjWgradIdeal m →
    (∀ c : Dev Cert.ProjWgradIdeal.nD,
      m' ((c.tc : Thread Cert.ProjWgradRefIdeal.nD Cert.ProjWgradRefIdeal.τ).loc Cert.ProjWgradRefIdeal.main_arg0) = m ((c.tc : Thread Cert.ProjWgradIdeal.nD Cert.ProjWgradIdeal.τ).loc Cert.ProjWgradIdeal.main_arg0)
      ∧ m' ((c.tc : Thread Cert.ProjWgradRefIdeal.nD Cert.ProjWgradRefIdeal.τ).loc Cert.ProjWgradRefIdeal.main_arg1) = m ((c.tc : Thread Cert.ProjWgradIdeal.nD Cert.ProjWgradIdeal.τ).loc Cert.ProjWgradIdeal.main_arg1)) →
    ∃ (v0 : (c : Dev Cert.ProjWgradIdeal.nD) → Buf (Elt Ideal) ((c.tc : Thread Cert.ProjWgradIdeal.nD Cert.ProjWgradIdeal.τ).loc Cert.ProjWgradIdeal.main_v0)),
      θ_run (Cert.ProjWgradIdeal.defs (F := Ideal)) (onTc (τ := Cert.ProjWgradIdeal.τ) (Cert.ProjWgradIdeal.main (F := Ideal))) ⟨m, fun _ => 0, g⟩ (fun r => ∀ c : Dev Cert.ProjWgradIdeal.nD,
          r.2.mem ((c.tc : Thread Cert.ProjWgradIdeal.nD Cert.ProjWgradIdeal.τ).loc Cert.ProjWgradIdeal.main_v0) = v0 c
          ∧ r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
          ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1))
      ∧ θ_run (Cert.ProjWgradRefIdeal.defs (F := Ideal)) (onTc (τ := Cert.ProjWgradRefIdeal.τ) (Cert.ProjWgradRefIdeal.main (F := Ideal))) ⟨m', fun _ => 0, g'⟩ (fun r => ∀ c : Dev Cert.ProjWgradRefIdeal.nD,
          r.2.mem ((c.tc : Thread Cert.ProjWgradRefIdeal.nD Cert.ProjWgradRefIdeal.τ).loc Cert.ProjWgradRefIdeal.main_v6) = v0 c
          ∧ r.2.mem ((c.tc : Thread Cert.ProjWgradRefIdeal.nD Cert.ProjWgradRefIdeal.τ).loc Cert.ProjWgradRefIdeal.main_arg0) = m' ((c.tc : Thread Cert.ProjWgradRefIdeal.nD Cert.ProjWgradRefIdeal.τ).loc Cert.ProjWgradRefIdeal.main_arg0)
          ∧ r.2.mem ((c.tc : Thread Cert.ProjWgradRefIdeal.nD Cert.ProjWgradRefIdeal.τ).loc Cert.ProjWgradRefIdeal.main_arg1) = m' ((c.tc : Thread Cert.ProjWgradRefIdeal.nD Cert.ProjWgradRefIdeal.τ).loc Cert.ProjWgradRefIdeal.main_arg1))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)) →
    ∃ (v0 : (c : Dev Cert.ProjBwdIdeal.nD) → Buf (Elt Ideal) ((c.tc : Thread Cert.ProjBwdIdeal.nD Cert.ProjBwdIdeal.τ).loc Cert.ProjBwdIdeal.main_v0)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v0) = v0 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v5) = v0 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)) (v3 : (c : Dev Cert.LnBwdIdeal.nD) → Buf (Elt Ideal) ((c.tc : Thread Cert.LnBwdIdeal.nD Cert.LnBwdIdeal.τ).loc Cert.LnBwdIdeal.main_v0_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_v0_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v57) = v0 c
          ∧ r.2.mem ((c.tc : Thread Cert.LnBwdRefIdeal.nD Cert.LnBwdRefIdeal.τ).loc Cert.LnBwdRefIdeal.main_v58) = v1 c
          ∧ r.2.mem ((c.tc : Thread Cert.LnBwdRefIdeal.nD Cert.LnBwdRefIdeal.τ).loc Cert.LnBwdRefIdeal.main_v31) = v2 c
          ∧ r.2.mem ((c.tc : Thread Cert.LnBwdRefIdeal.nD Cert.LnBwdRefIdeal.τ).loc Cert.LnBwdRefIdeal.main_v28) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4))

def preserves_LnInBwd_LnInBwdIdeal : Prop :=
  True

def algebraic_LnInBwdIdeal_LnInBwdRefIdeal [hLnInBwdIdeal : Cert.LnInBwdIdeal.Facts] [hLnInBwdRefIdeal : Cert.LnInBwdRefIdeal.Facts] : Prop :=
  ∀ (m : (ℓ : Loc Cert.LnInBwdIdeal.nD Cert.LnInBwdIdeal.τ Cert.LnInBwdIdeal.sig) → Buf (Elt Ideal) ℓ) (g : Dev Cert.LnInBwdIdeal.nD → PrngReg)
    (m' : (ℓ : Loc Cert.LnInBwdRefIdeal.nD Cert.LnInBwdRefIdeal.τ Cert.LnInBwdRefIdeal.sig) → Buf (Elt Ideal) ℓ) (g' : Dev Cert.LnInBwdRefIdeal.nD → PrngReg), Pre_LnInBwdIdeal m →
    (∀ c : Dev Cert.LnInBwdIdeal.nD,
      m' ((c.tc : Thread Cert.LnInBwdRefIdeal.nD Cert.LnInBwdRefIdeal.τ).loc Cert.LnInBwdRefIdeal.main_arg0) = m ((c.tc : Thread Cert.LnInBwdIdeal.nD Cert.LnInBwdIdeal.τ).loc Cert.LnInBwdIdeal.main_arg0)
      ∧ m' ((c.tc : Thread Cert.LnInBwdRefIdeal.nD Cert.LnInBwdRefIdeal.τ).loc Cert.LnInBwdRefIdeal.main_arg1) = m ((c.tc : Thread Cert.LnInBwdIdeal.nD Cert.LnInBwdIdeal.τ).loc Cert.LnInBwdIdeal.main_arg1)
      ∧ m' ((c.tc : Thread Cert.LnInBwdRefIdeal.nD Cert.LnInBwdRefIdeal.τ).loc Cert.LnInBwdRefIdeal.main_arg2) = m ((c.tc : Thread Cert.LnInBwdIdeal.nD Cert.LnInBwdIdeal.τ).loc Cert.LnInBwdIdeal.main_arg2)
      ∧ m' ((c.tc : Thread Cert.LnInBwdRefIdeal.nD Cert.LnInBwdRefIdeal.τ).loc Cert.LnInBwdRefIdeal.main_arg3) = m ((c.tc : Thread Cert.LnInBwdIdeal.nD Cert.LnInBwdIdeal.τ).loc Cert.LnInBwdIdeal.main_arg3)) →
    ∃ (v0 : (c : Dev Cert.LnInBwdIdeal.nD) → Buf (Elt Ideal) ((c.tc : Thread Cert.LnInBwdIdeal.nD Cert.LnInBwdIdeal.τ).loc Cert.LnInBwdIdeal.main_v0_0)) (v1 : (c : Dev Cert.LnInBwdIdeal.nD) → Buf (Elt Ideal) ((c.tc : Thread Cert.LnInBwdIdeal.nD Cert.LnInBwdIdeal.τ).loc Cert.LnInBwdIdeal.main_v0_1)) (v2 : (c : Dev Cert.LnInBwdIdeal.nD) → Buf (Elt Ideal) ((c.tc : Thread Cert.LnInBwdIdeal.nD Cert.LnInBwdIdeal.τ).loc Cert.LnInBwdIdeal.main_v0_2)),
      θ_run (Cert.LnInBwdIdeal.defs (F := Ideal)) (onTc (τ := Cert.LnInBwdIdeal.τ) (Cert.LnInBwdIdeal.main (F := Ideal))) ⟨m, fun _ => 0, g⟩ (fun r => ∀ c : Dev Cert.LnInBwdIdeal.nD,
          r.2.mem ((c.tc : Thread Cert.LnInBwdIdeal.nD Cert.LnInBwdIdeal.τ).loc Cert.LnInBwdIdeal.main_v0_0) = v0 c
          ∧ r.2.mem ((c.tc : Thread Cert.LnInBwdIdeal.nD Cert.LnInBwdIdeal.τ).loc Cert.LnInBwdIdeal.main_v0_1) = v1 c
          ∧ r.2.mem ((c.tc : Thread Cert.LnInBwdIdeal.nD Cert.LnInBwdIdeal.τ).loc Cert.LnInBwdIdeal.main_v0_2) = v2 c
          ∧ r.2.mem ((c.tc : Thread Cert.LnInBwdIdeal.nD Cert.LnInBwdIdeal.τ).loc Cert.LnInBwdIdeal.main_arg0) = m ((c.tc : Thread Cert.LnInBwdIdeal.nD Cert.LnInBwdIdeal.τ).loc Cert.LnInBwdIdeal.main_arg0)
          ∧ r.2.mem ((c.tc : Thread Cert.LnInBwdIdeal.nD Cert.LnInBwdIdeal.τ).loc Cert.LnInBwdIdeal.main_arg1) = m ((c.tc : Thread Cert.LnInBwdIdeal.nD Cert.LnInBwdIdeal.τ).loc Cert.LnInBwdIdeal.main_arg1)
          ∧ r.2.mem ((c.tc : Thread Cert.LnInBwdIdeal.nD Cert.LnInBwdIdeal.τ).loc Cert.LnInBwdIdeal.main_arg2) = m ((c.tc : Thread Cert.LnInBwdIdeal.nD Cert.LnInBwdIdeal.τ).loc Cert.LnInBwdIdeal.main_arg2)
          ∧ r.2.mem ((c.tc : Thread Cert.LnInBwdIdeal.nD Cert.LnInBwdIdeal.τ).loc Cert.LnInBwdIdeal.main_arg3) = m ((c.tc : Thread Cert.LnInBwdIdeal.nD Cert.LnInBwdIdeal.τ).loc Cert.LnInBwdIdeal.main_arg3))
      ∧ θ_run (Cert.LnInBwdRefIdeal.defs (F := Ideal)) (onTc (τ := Cert.LnInBwdRefIdeal.τ) (Cert.LnInBwdRefIdeal.main (F := Ideal))) ⟨m', fun _ => 0, g'⟩ (fun r => ∀ c : Dev Cert.LnInBwdRefIdeal.nD,
          r.2.mem ((c.tc : Thread Cert.LnInBwdRefIdeal.nD Cert.LnInBwdRefIdeal.τ).loc Cert.LnInBwdRefIdeal.main_v52) = v0 c
          ∧ r.2.mem ((c.tc : Thread Cert.LnInBwdRefIdeal.nD Cert.LnInBwdRefIdeal.τ).loc Cert.LnInBwdRefIdeal.main_v28) = v1 c
          ∧ r.2.mem ((c.tc : Thread Cert.LnInBwdRefIdeal.nD Cert.LnInBwdRefIdeal.τ).loc Cert.LnInBwdRefIdeal.main_v25) = v2 c
          ∧ r.2.mem ((c.tc : Thread Cert.LnInBwdRefIdeal.nD Cert.LnInBwdRefIdeal.τ).loc Cert.LnInBwdRefIdeal.main_arg0) = m' ((c.tc : Thread Cert.LnInBwdRefIdeal.nD Cert.LnInBwdRefIdeal.τ).loc Cert.LnInBwdRefIdeal.main_arg0)
          ∧ r.2.mem ((c.tc : Thread Cert.LnInBwdRefIdeal.nD Cert.LnInBwdRefIdeal.τ).loc Cert.LnInBwdRefIdeal.main_arg1) = m' ((c.tc : Thread Cert.LnInBwdRefIdeal.nD Cert.LnInBwdRefIdeal.τ).loc Cert.LnInBwdRefIdeal.main_arg1)
          ∧ r.2.mem ((c.tc : Thread Cert.LnInBwdRefIdeal.nD Cert.LnInBwdRefIdeal.τ).loc Cert.LnInBwdRefIdeal.main_arg2) = m' ((c.tc : Thread Cert.LnInBwdRefIdeal.nD Cert.LnInBwdRefIdeal.τ).loc Cert.LnInBwdRefIdeal.main_arg2)
          ∧ r.2.mem ((c.tc : Thread Cert.LnInBwdRefIdeal.nD Cert.LnInBwdRefIdeal.τ).loc Cert.LnInBwdRefIdeal.main_arg3) = m' ((c.tc : Thread Cert.LnInBwdRefIdeal.nD Cert.LnInBwdRefIdeal.τ).loc Cert.LnInBwdRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_BranchProj_BranchProjIdeal : Prop :=
  True

def algebraic_BranchProjIdeal_BranchProjRefIdeal [hBranchProjIdeal : Cert.BranchProjIdeal.Facts] [hBranchProjRefIdeal : Cert.BranchProjRefIdeal.Facts] : Prop :=
  ∀ (m : (ℓ : Loc Cert.BranchProjIdeal.nD Cert.BranchProjIdeal.τ Cert.BranchProjIdeal.sig) → Buf (Elt Ideal) ℓ) (g : Dev Cert.BranchProjIdeal.nD → PrngReg)
    (m' : (ℓ : Loc Cert.BranchProjRefIdeal.nD Cert.BranchProjRefIdeal.τ Cert.BranchProjRefIdeal.sig) → Buf (Elt Ideal) ℓ) (g' : Dev Cert.BranchProjRefIdeal.nD → PrngReg), Pre_BranchProjIdeal m →
    (∀ c : Dev Cert.BranchProjIdeal.nD,
      m' ((c.tc : Thread Cert.BranchProjRefIdeal.nD Cert.BranchProjRefIdeal.τ).loc Cert.BranchProjRefIdeal.main_arg0) = m ((c.tc : Thread Cert.BranchProjIdeal.nD Cert.BranchProjIdeal.τ).loc Cert.BranchProjIdeal.main_arg0)
      ∧ m' ((c.tc : Thread Cert.BranchProjRefIdeal.nD Cert.BranchProjRefIdeal.τ).loc Cert.BranchProjRefIdeal.main_arg1) = m ((c.tc : Thread Cert.BranchProjIdeal.nD Cert.BranchProjIdeal.τ).loc Cert.BranchProjIdeal.main_arg1)) →
    ∃ (v0 : (c : Dev Cert.BranchProjIdeal.nD) → Buf (Elt Ideal) ((c.tc : Thread Cert.BranchProjIdeal.nD Cert.BranchProjIdeal.τ).loc Cert.BranchProjIdeal.main_v0)),
      θ_run (Cert.BranchProjIdeal.defs (F := Ideal)) (onTc (τ := Cert.BranchProjIdeal.τ) (Cert.BranchProjIdeal.main (F := Ideal))) ⟨m, fun _ => 0, g⟩ (fun r => ∀ c : Dev Cert.BranchProjIdeal.nD,
          r.2.mem ((c.tc : Thread Cert.BranchProjIdeal.nD Cert.BranchProjIdeal.τ).loc Cert.BranchProjIdeal.main_v0) = v0 c
          ∧ r.2.mem ((c.tc : Thread Cert.BranchProjIdeal.nD Cert.BranchProjIdeal.τ).loc Cert.BranchProjIdeal.main_arg0) = m ((c.tc : Thread Cert.BranchProjIdeal.nD Cert.BranchProjIdeal.τ).loc Cert.BranchProjIdeal.main_arg0)
          ∧ r.2.mem ((c.tc : Thread Cert.BranchProjIdeal.nD Cert.BranchProjIdeal.τ).loc Cert.BranchProjIdeal.main_arg1) = m ((c.tc : Thread Cert.BranchProjIdeal.nD Cert.BranchProjIdeal.τ).loc Cert.BranchProjIdeal.main_arg1))
      ∧ θ_run (Cert.BranchProjRefIdeal.defs (F := Ideal)) (onTc (τ := Cert.BranchProjRefIdeal.τ) (Cert.BranchProjRefIdeal.main (F := Ideal))) ⟨m', fun _ => 0, g'⟩ (fun r => ∀ c : Dev Cert.BranchProjRefIdeal.nD,
          r.2.mem ((c.tc : Thread Cert.BranchProjRefIdeal.nD Cert.BranchProjRefIdeal.τ).loc Cert.BranchProjRefIdeal.main_v2) = v0 c
          ∧ r.2.mem ((c.tc : Thread Cert.BranchProjRefIdeal.nD Cert.BranchProjRefIdeal.τ).loc Cert.BranchProjRefIdeal.main_arg0) = m' ((c.tc : Thread Cert.BranchProjRefIdeal.nD Cert.BranchProjRefIdeal.τ).loc Cert.BranchProjRefIdeal.main_arg0)
          ∧ r.2.mem ((c.tc : Thread Cert.BranchProjRefIdeal.nD Cert.BranchProjRefIdeal.τ).loc Cert.BranchProjRefIdeal.main_arg1) = m' ((c.tc : Thread Cert.BranchProjRefIdeal.nD Cert.BranchProjRefIdeal.τ).loc Cert.BranchProjRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_v5) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_OutProjLn_OutProjLnIdeal : Prop :=
  True

def algebraic_OutProjLnIdeal_OutProjLnRefIdeal [hOutProjLnIdeal : Cert.OutProjLnIdeal.Facts] [hOutProjLnRefIdeal : Cert.OutProjLnRefIdeal.Facts] : Prop :=
  ∀ (m : (ℓ : Loc Cert.OutProjLnIdeal.nD Cert.OutProjLnIdeal.τ Cert.OutProjLnIdeal.sig) → Buf (Elt Ideal) ℓ) (g : Dev Cert.OutProjLnIdeal.nD → PrngReg)
    (m' : (ℓ : Loc Cert.OutProjLnRefIdeal.nD Cert.OutProjLnRefIdeal.τ Cert.OutProjLnRefIdeal.sig) → Buf (Elt Ideal) ℓ) (g' : Dev Cert.OutProjLnRefIdeal.nD → PrngReg), Pre_OutProjLnIdeal m →
    (∀ c : Dev Cert.OutProjLnIdeal.nD,
      m' ((c.tc : Thread Cert.OutProjLnRefIdeal.nD Cert.OutProjLnRefIdeal.τ).loc Cert.OutProjLnRefIdeal.main_arg0) = m ((c.tc : Thread Cert.OutProjLnIdeal.nD Cert.OutProjLnIdeal.τ).loc Cert.OutProjLnIdeal.main_arg0)
      ∧ m' ((c.tc : Thread Cert.OutProjLnRefIdeal.nD Cert.OutProjLnRefIdeal.τ).loc Cert.OutProjLnRefIdeal.main_arg1) = m ((c.tc : Thread Cert.OutProjLnIdeal.nD Cert.OutProjLnIdeal.τ).loc Cert.OutProjLnIdeal.main_arg1)
      ∧ m' ((c.tc : Thread Cert.OutProjLnRefIdeal.nD Cert.OutProjLnRefIdeal.τ).loc Cert.OutProjLnRefIdeal.main_arg2) = m ((c.tc : Thread Cert.OutProjLnIdeal.nD Cert.OutProjLnIdeal.τ).loc Cert.OutProjLnIdeal.main_arg2)
      ∧ m' ((c.tc : Thread Cert.OutProjLnRefIdeal.nD Cert.OutProjLnRefIdeal.τ).loc Cert.OutProjLnRefIdeal.main_arg3) = m ((c.tc : Thread Cert.OutProjLnIdeal.nD Cert.OutProjLnIdeal.τ).loc Cert.OutProjLnIdeal.main_arg3)
      ∧ m' ((c.tc : Thread Cert.OutProjLnRefIdeal.nD Cert.OutProjLnRefIdeal.τ).loc Cert.OutProjLnRefIdeal.main_arg4) = m ((c.tc : Thread Cert.OutProjLnIdeal.nD Cert.OutProjLnIdeal.τ).loc Cert.OutProjLnIdeal.main_arg4)) →
    ∃ (v0 : (c : Dev Cert.OutProjLnIdeal.nD) → Buf (Elt Ideal) ((c.tc : Thread Cert.OutProjLnIdeal.nD Cert.OutProjLnIdeal.τ).loc Cert.OutProjLnIdeal.main_v0_0)) (v1 : (c : Dev Cert.OutProjLnIdeal.nD) → Buf (Elt Ideal) ((c.tc : Thread Cert.OutProjLnIdeal.nD Cert.OutProjLnIdeal.τ).loc Cert.OutProjLnIdeal.main_v0_1)) (v2 : (c : Dev Cert.OutProjLnIdeal.nD) → Buf (Elt Ideal) ((c.tc : Thread Cert.OutProjLnIdeal.nD Cert.OutProjLnIdeal.τ).loc Cert.OutProjLnIdeal.main_v0_2)),
      θ_run (Cert.OutProjLnIdeal.defs (F := Ideal)) (onTc (τ := Cert.OutProjLnIdeal.τ) (Cert.OutProjLnIdeal.main (F := Ideal))) ⟨m, fun _ => 0, g⟩ (fun r => ∀ c : Dev Cert.OutProjLnIdeal.nD,
          r.2.mem ((c.tc : Thread Cert.OutProjLnIdeal.nD Cert.OutProjLnIdeal.τ).loc Cert.OutProjLnIdeal.main_v0_0) = v0 c
          ∧ r.2.mem ((c.tc : Thread Cert.OutProjLnIdeal.nD Cert.OutProjLnIdeal.τ).loc Cert.OutProjLnIdeal.main_v0_1) = v1 c
          ∧ r.2.mem ((c.tc : Thread Cert.OutProjLnIdeal.nD Cert.OutProjLnIdeal.τ).loc Cert.OutProjLnIdeal.main_v0_2) = v2 c
          ∧ r.2.mem ((c.tc : Thread Cert.OutProjLnIdeal.nD Cert.OutProjLnIdeal.τ).loc Cert.OutProjLnIdeal.main_arg0) = m ((c.tc : Thread Cert.OutProjLnIdeal.nD Cert.OutProjLnIdeal.τ).loc Cert.OutProjLnIdeal.main_arg0)
          ∧ r.2.mem ((c.tc : Thread Cert.OutProjLnIdeal.nD Cert.OutProjLnIdeal.τ).loc Cert.OutProjLnIdeal.main_arg1) = m ((c.tc : Thread Cert.OutProjLnIdeal.nD Cert.OutProjLnIdeal.τ).loc Cert.OutProjLnIdeal.main_arg1)
          ∧ r.2.mem ((c.tc : Thread Cert.OutProjLnIdeal.nD Cert.OutProjLnIdeal.τ).loc Cert.OutProjLnIdeal.main_arg2) = m ((c.tc : Thread Cert.OutProjLnIdeal.nD Cert.OutProjLnIdeal.τ).loc Cert.OutProjLnIdeal.main_arg2)
          ∧ r.2.mem ((c.tc : Thread Cert.OutProjLnIdeal.nD Cert.OutProjLnIdeal.τ).loc Cert.OutProjLnIdeal.main_arg3) = m ((c.tc : Thread Cert.OutProjLnIdeal.nD Cert.OutProjLnIdeal.τ).loc Cert.OutProjLnIdeal.main_arg3)
          ∧ r.2.mem ((c.tc : Thread Cert.OutProjLnIdeal.nD Cert.OutProjLnIdeal.τ).loc Cert.OutProjLnIdeal.main_arg4) = m ((c.tc : Thread Cert.OutProjLnIdeal.nD Cert.OutProjLnIdeal.τ).loc Cert.OutProjLnIdeal.main_arg4))
      ∧ θ_run (Cert.OutProjLnRefIdeal.defs (F := Ideal)) (onTc (τ := Cert.OutProjLnRefIdeal.τ) (Cert.OutProjLnRefIdeal.main (F := Ideal))) ⟨m', fun _ => 0, g'⟩ (fun r => ∀ c : Dev Cert.OutProjLnRefIdeal.nD,
          r.2.mem ((c.tc : Thread Cert.OutProjLnRefIdeal.nD Cert.OutProjLnRefIdeal.τ).loc Cert.OutProjLnRefIdeal.main_v25) = v0 c
          ∧ r.2.mem ((c.tc : Thread Cert.OutProjLnRefIdeal.nD Cert.OutProjLnRefIdeal.τ).loc Cert.OutProjLnRefIdeal.main_v26) = v1 c
          ∧ r.2.mem ((c.tc : Thread Cert.OutProjLnRefIdeal.nD Cert.OutProjLnRefIdeal.τ).loc Cert.OutProjLnRefIdeal.main_v2) = v2 c
          ∧ r.2.mem ((c.tc : Thread Cert.OutProjLnRefIdeal.nD Cert.OutProjLnRefIdeal.τ).loc Cert.OutProjLnRefIdeal.main_arg0) = m' ((c.tc : Thread Cert.OutProjLnRefIdeal.nD Cert.OutProjLnRefIdeal.τ).loc Cert.OutProjLnRefIdeal.main_arg0)
          ∧ r.2.mem ((c.tc : Thread Cert.OutProjLnRefIdeal.nD Cert.OutProjLnRefIdeal.τ).loc Cert.OutProjLnRefIdeal.main_arg1) = m' ((c.tc : Thread Cert.OutProjLnRefIdeal.nD Cert.OutProjLnRefIdeal.τ).loc Cert.OutProjLnRefIdeal.main_arg1)
          ∧ r.2.mem ((c.tc : Thread Cert.OutProjLnRefIdeal.nD Cert.OutProjLnRefIdeal.τ).loc Cert.OutProjLnRefIdeal.main_arg2) = m' ((c.tc : Thread Cert.OutProjLnRefIdeal.nD Cert.OutProjLnRefIdeal.τ).loc Cert.OutProjLnRefIdeal.main_arg2)
          ∧ r.2.mem ((c.tc : Thread Cert.OutProjLnRefIdeal.nD Cert.OutProjLnRefIdeal.τ).loc Cert.OutProjLnRefIdeal.main_arg3) = m' ((c.tc : Thread Cert.OutProjLnRefIdeal.nD Cert.OutProjLnRefIdeal.τ).loc Cert.OutProjLnRefIdeal.main_arg3)
          ∧ r.2.mem ((c.tc : Thread Cert.OutProjLnRefIdeal.nD Cert.OutProjLnRefIdeal.τ).loc Cert.OutProjLnRefIdeal.main_arg4) = m' ((c.tc : Thread Cert.OutProjLnRefIdeal.nD Cert.OutProjLnRefIdeal.τ).loc Cert.OutProjLnRefIdeal.main_arg4))

def preserves_MlpDownLn_MlpDownLnIdeal : Prop :=
  True

def algebraic_MlpDownLnIdeal_MlpDownLnRefIdeal [hMlpDownLnIdeal : Cert.MlpDownLnIdeal.Facts] [hMlpDownLnRefIdeal : Cert.MlpDownLnRefIdeal.Facts] : Prop :=
  ∀ (m : (ℓ : Loc Cert.MlpDownLnIdeal.nD Cert.MlpDownLnIdeal.τ Cert.MlpDownLnIdeal.sig) → Buf (Elt Ideal) ℓ) (g : Dev Cert.MlpDownLnIdeal.nD → PrngReg)
    (m' : (ℓ : Loc Cert.MlpDownLnRefIdeal.nD Cert.MlpDownLnRefIdeal.τ Cert.MlpDownLnRefIdeal.sig) → Buf (Elt Ideal) ℓ) (g' : Dev Cert.MlpDownLnRefIdeal.nD → PrngReg), Pre_MlpDownLnIdeal m →
    (∀ c : Dev Cert.MlpDownLnIdeal.nD,
      m' ((c.tc : Thread Cert.MlpDownLnRefIdeal.nD Cert.MlpDownLnRefIdeal.τ).loc Cert.MlpDownLnRefIdeal.main_arg0) = m ((c.tc : Thread Cert.MlpDownLnIdeal.nD Cert.MlpDownLnIdeal.τ).loc Cert.MlpDownLnIdeal.main_arg0)
      ∧ m' ((c.tc : Thread Cert.MlpDownLnRefIdeal.nD Cert.MlpDownLnRefIdeal.τ).loc Cert.MlpDownLnRefIdeal.main_arg1) = m ((c.tc : Thread Cert.MlpDownLnIdeal.nD Cert.MlpDownLnIdeal.τ).loc Cert.MlpDownLnIdeal.main_arg1)
      ∧ m' ((c.tc : Thread Cert.MlpDownLnRefIdeal.nD Cert.MlpDownLnRefIdeal.τ).loc Cert.MlpDownLnRefIdeal.main_arg2) = m ((c.tc : Thread Cert.MlpDownLnIdeal.nD Cert.MlpDownLnIdeal.τ).loc Cert.MlpDownLnIdeal.main_arg2)
      ∧ m' ((c.tc : Thread Cert.MlpDownLnRefIdeal.nD Cert.MlpDownLnRefIdeal.τ).loc Cert.MlpDownLnRefIdeal.main_arg3) = m ((c.tc : Thread Cert.MlpDownLnIdeal.nD Cert.MlpDownLnIdeal.τ).loc Cert.MlpDownLnIdeal.main_arg3)
      ∧ m' ((c.tc : Thread Cert.MlpDownLnRefIdeal.nD Cert.MlpDownLnRefIdeal.τ).loc Cert.MlpDownLnRefIdeal.main_arg4) = m ((c.tc : Thread Cert.MlpDownLnIdeal.nD Cert.MlpDownLnIdeal.τ).loc Cert.MlpDownLnIdeal.main_arg4)) →
    ∃ (v0 : (c : Dev Cert.MlpDownLnIdeal.nD) → Buf (Elt Ideal) ((c.tc : Thread Cert.MlpDownLnIdeal.nD Cert.MlpDownLnIdeal.τ).loc Cert.MlpDownLnIdeal.main_v0_0)) (v1 : (c : Dev Cert.MlpDownLnIdeal.nD) → Buf (Elt Ideal) ((c.tc : Thread Cert.MlpDownLnIdeal.nD Cert.MlpDownLnIdeal.τ).loc Cert.MlpDownLnIdeal.main_v0_1)) (v2 : (c : Dev Cert.MlpDownLnIdeal.nD) → Buf (Elt Ideal) ((c.tc : Thread Cert.MlpDownLnIdeal.nD Cert.MlpDownLnIdeal.τ).loc Cert.MlpDownLnIdeal.main_v0_2)),
      θ_run (Cert.MlpDownLnIdeal.defs (F := Ideal)) (onTc (τ := Cert.MlpDownLnIdeal.τ) (Cert.MlpDownLnIdeal.main (F := Ideal))) ⟨m, fun _ => 0, g⟩ (fun r => ∀ c : Dev Cert.MlpDownLnIdeal.nD,
          r.2.mem ((c.tc : Thread Cert.MlpDownLnIdeal.nD Cert.MlpDownLnIdeal.τ).loc Cert.MlpDownLnIdeal.main_v0_0) = v0 c
          ∧ r.2.mem ((c.tc : Thread Cert.MlpDownLnIdeal.nD Cert.MlpDownLnIdeal.τ).loc Cert.MlpDownLnIdeal.main_v0_1) = v1 c
          ∧ r.2.mem ((c.tc : Thread Cert.MlpDownLnIdeal.nD Cert.MlpDownLnIdeal.τ).loc Cert.MlpDownLnIdeal.main_v0_2) = v2 c
          ∧ r.2.mem ((c.tc : Thread Cert.MlpDownLnIdeal.nD Cert.MlpDownLnIdeal.τ).loc Cert.MlpDownLnIdeal.main_arg0) = m ((c.tc : Thread Cert.MlpDownLnIdeal.nD Cert.MlpDownLnIdeal.τ).loc Cert.MlpDownLnIdeal.main_arg0)
          ∧ r.2.mem ((c.tc : Thread Cert.MlpDownLnIdeal.nD Cert.MlpDownLnIdeal.τ).loc Cert.MlpDownLnIdeal.main_arg1) = m ((c.tc : Thread Cert.MlpDownLnIdeal.nD Cert.MlpDownLnIdeal.τ).loc Cert.MlpDownLnIdeal.main_arg1)
          ∧ r.2.mem ((c.tc : Thread Cert.MlpDownLnIdeal.nD Cert.MlpDownLnIdeal.τ).loc Cert.MlpDownLnIdeal.main_arg2) = m ((c.tc : Thread Cert.MlpDownLnIdeal.nD Cert.MlpDownLnIdeal.τ).loc Cert.MlpDownLnIdeal.main_arg2)
          ∧ r.2.mem ((c.tc : Thread Cert.MlpDownLnIdeal.nD Cert.MlpDownLnIdeal.τ).loc Cert.MlpDownLnIdeal.main_arg3) = m ((c.tc : Thread Cert.MlpDownLnIdeal.nD Cert.MlpDownLnIdeal.τ).loc Cert.MlpDownLnIdeal.main_arg3)
          ∧ r.2.mem ((c.tc : Thread Cert.MlpDownLnIdeal.nD Cert.MlpDownLnIdeal.τ).loc Cert.MlpDownLnIdeal.main_arg4) = m ((c.tc : Thread Cert.MlpDownLnIdeal.nD Cert.MlpDownLnIdeal.τ).loc Cert.MlpDownLnIdeal.main_arg4))
      ∧ θ_run (Cert.MlpDownLnRefIdeal.defs (F := Ideal)) (onTc (τ := Cert.MlpDownLnRefIdeal.τ) (Cert.MlpDownLnRefIdeal.main (F := Ideal))) ⟨m', fun _ => 0, g'⟩ (fun r => ∀ c : Dev Cert.MlpDownLnRefIdeal.nD,
          r.2.mem ((c.tc : Thread Cert.MlpDownLnRefIdeal.nD Cert.MlpDownLnRefIdeal.τ).loc Cert.MlpDownLnRefIdeal.main_v25) = v0 c
          ∧ r.2.mem ((c.tc : Thread Cert.MlpDownLnRefIdeal.nD Cert.MlpDownLnRefIdeal.τ).loc Cert.MlpDownLnRefIdeal.main_v26) = v1 c
          ∧ r.2.mem ((c.tc : Thread Cert.MlpDownLnRefIdeal.nD Cert.MlpDownLnRefIdeal.τ).loc Cert.MlpDownLnRefIdeal.main_v2) = v2 c
          ∧ r.2.mem ((c.tc : Thread Cert.MlpDownLnRefIdeal.nD Cert.MlpDownLnRefIdeal.τ).loc Cert.MlpDownLnRefIdeal.main_arg0) = m' ((c.tc : Thread Cert.MlpDownLnRefIdeal.nD Cert.MlpDownLnRefIdeal.τ).loc Cert.MlpDownLnRefIdeal.main_arg0)
          ∧ r.2.mem ((c.tc : Thread Cert.MlpDownLnRefIdeal.nD Cert.MlpDownLnRefIdeal.τ).loc Cert.MlpDownLnRefIdeal.main_arg1) = m' ((c.tc : Thread Cert.MlpDownLnRefIdeal.nD Cert.MlpDownLnRefIdeal.τ).loc Cert.MlpDownLnRefIdeal.main_arg1)
          ∧ r.2.mem ((c.tc : Thread Cert.MlpDownLnRefIdeal.nD Cert.MlpDownLnRefIdeal.τ).loc Cert.MlpDownLnRefIdeal.main_arg2) = m' ((c.tc : Thread Cert.MlpDownLnRefIdeal.nD Cert.MlpDownLnRefIdeal.τ).loc Cert.MlpDownLnRefIdeal.main_arg2)
          ∧ r.2.mem ((c.tc : Thread Cert.MlpDownLnRefIdeal.nD Cert.MlpDownLnRefIdeal.τ).loc Cert.MlpDownLnRefIdeal.main_arg3) = m' ((c.tc : Thread Cert.MlpDownLnRefIdeal.nD Cert.MlpDownLnRefIdeal.τ).loc Cert.MlpDownLnRefIdeal.main_arg3)
          ∧ r.2.mem ((c.tc : Thread Cert.MlpDownLnRefIdeal.nD Cert.MlpDownLnRefIdeal.τ).loc Cert.MlpDownLnRefIdeal.main_arg4) = m' ((c.tc : Thread Cert.MlpDownLnRefIdeal.nD Cert.MlpDownLnRefIdeal.τ).loc Cert.MlpDownLnRefIdeal.main_arg4))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v1)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v1) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v33) = v0 c
          ∧ r.2.mem ((c.tc : Thread Cert.MergeBwdRefIdeal.nD Cert.MergeBwdRefIdeal.τ).loc Cert.MergeBwdRefIdeal.main_v34) = v1 c
          ∧ r.2.mem ((c.tc : Thread Cert.MergeBwdRefIdeal.nD Cert.MergeBwdRefIdeal.τ).loc Cert.MergeBwdRefIdeal.main_v35) = v2 c
          ∧ r.2.mem ((c.tc : Thread Cert.MergeBwdRefIdeal.nD Cert.MergeBwdRefIdeal.τ).loc Cert.MergeBwdRefIdeal.main_v36) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v16) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_LnIn_LnInIdeal : Prop :=
  True

def algebraic_LnInIdeal_LnInRefIdeal [hLnInIdeal : Cert.LnInIdeal.Facts] [hLnInRefIdeal : Cert.LnInRefIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInRefIdeal.nD Cert.LnInRefIdeal.τ Cert.LnInRefIdeal.sig) → Buf (Elt Ideal) ℓ) (g' : Dev Cert.LnInRefIdeal.nD → PrngReg), Pre_LnInIdeal m →
    (∀ c : Dev Cert.LnInIdeal.nD,
      m' ((c.tc : Thread Cert.LnInRefIdeal.nD Cert.LnInRefIdeal.τ).loc Cert.LnInRefIdeal.main_arg0) = m ((c.tc : Thread Cert.LnInIdeal.nD Cert.LnInIdeal.τ).loc Cert.LnInIdeal.main_arg0)
      ∧ m' ((c.tc : Thread Cert.LnInRefIdeal.nD Cert.LnInRefIdeal.τ).loc Cert.LnInRefIdeal.main_arg1) = m ((c.tc : Thread Cert.LnInIdeal.nD Cert.LnInIdeal.τ).loc Cert.LnInIdeal.main_arg1)
      ∧ m' ((c.tc : Thread Cert.LnInRefIdeal.nD Cert.LnInRefIdeal.τ).loc Cert.LnInRefIdeal.main_arg2) = m ((c.tc : Thread Cert.LnInIdeal.nD Cert.LnInIdeal.τ).loc Cert.LnInIdeal.main_arg2)) →
    ∃ (v0 : (c : Dev Cert.LnInIdeal.nD) → Buf (Elt Ideal) ((c.tc : Thread Cert.LnInIdeal.nD Cert.LnInIdeal.τ).loc Cert.LnInIdeal.main_v0_0)) (v1 : (c : Dev Cert.LnInIdeal.nD) → Buf (Elt Ideal) ((c.tc : Thread Cert.LnInIdeal.nD Cert.LnInIdeal.τ).loc Cert.LnInIdeal.main_v0_1)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v0_0) = v0 c
          ∧ r.2.mem ((c.tc : Thread Cert.LnInIdeal.nD Cert.LnInIdeal.τ).loc Cert.LnInIdeal.main_v0_1) = v1 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ θ_run (Cert.LnInRefIdeal.defs (F := Ideal)) (onTc (τ := Cert.LnInRefIdeal.τ) (Cert.LnInRefIdeal.main (F := Ideal))) ⟨m', fun _ => 0, g'⟩ (fun r => ∀ c : Dev Cert.LnInRefIdeal.nD,
          r.2.mem ((c.tc : Thread Cert.LnInRefIdeal.nD Cert.LnInRefIdeal.τ).loc Cert.LnInRefIdeal.main_v19) = v0 c
          ∧ r.2.mem ((c.tc : Thread Cert.LnInRefIdeal.nD Cert.LnInRefIdeal.τ).loc Cert.LnInRefIdeal.main_v20) = v1 c
          ∧ r.2.mem ((c.tc : Thread Cert.LnInRefIdeal.nD Cert.LnInRefIdeal.τ).loc Cert.LnInRefIdeal.main_arg0) = m' ((c.tc : Thread Cert.LnInRefIdeal.nD Cert.LnInRefIdeal.τ).loc Cert.LnInRefIdeal.main_arg0)
          ∧ r.2.mem ((c.tc : Thread Cert.LnInRefIdeal.nD Cert.LnInRefIdeal.τ).loc Cert.LnInRefIdeal.main_arg1) = m' ((c.tc : Thread Cert.LnInRefIdeal.nD Cert.LnInRefIdeal.τ).loc Cert.LnInRefIdeal.main_arg1)
          ∧ r.2.mem ((c.tc : Thread Cert.LnInRefIdeal.nD Cert.LnInRefIdeal.τ).loc Cert.LnInRefIdeal.main_arg2) = m' ((c.tc : Thread Cert.LnInRefIdeal.nD Cert.LnInRefIdeal.τ).loc Cert.LnInRefIdeal.main_arg2))

def preserves_Normgate_NormgateIdeal : Prop :=
  True

def algebraic_NormgateIdeal_NormgateRefIdeal [hNormgateIdeal : Cert.NormgateIdeal.Facts] [hNormgateRefIdeal : Cert.NormgateRefIdeal.Facts] : Prop :=
  ∀ (m : (ℓ : Loc Cert.NormgateIdeal.nD Cert.NormgateIdeal.τ Cert.NormgateIdeal.sig) → Buf (Elt Ideal) ℓ) (g : Dev Cert.NormgateIdeal.nD → PrngReg)
    (m' : (ℓ : Loc Cert.NormgateRefIdeal.nD Cert.NormgateRefIdeal.τ Cert.NormgateRefIdeal.sig) → Buf (Elt Ideal) ℓ) (g' : Dev Cert.NormgateRefIdeal.nD → PrngReg), Pre_NormgateIdeal m →
    (∀ c : Dev Cert.NormgateIdeal.nD,
      m' ((c.tc : Thread Cert.NormgateRefIdeal.nD Cert.NormgateRefIdeal.τ).loc Cert.NormgateRefIdeal.main_arg0) = m ((c.tc : Thread Cert.NormgateIdeal.nD Cert.NormgateIdeal.τ).loc Cert.NormgateIdeal.main_arg0)
      ∧ m' ((c.tc : Thread Cert.NormgateRefIdeal.nD Cert.NormgateRefIdeal.τ).loc Cert.NormgateRefIdeal.main_arg1) = m ((c.tc : Thread Cert.NormgateIdeal.nD Cert.NormgateIdeal.τ).loc Cert.NormgateIdeal.main_arg1)
      ∧ m' ((c.tc : Thread Cert.NormgateRefIdeal.nD Cert.NormgateRefIdeal.τ).loc Cert.NormgateRefIdeal.main_arg2) = m ((c.tc : Thread Cert.NormgateIdeal.nD Cert.NormgateIdeal.τ).loc Cert.NormgateIdeal.main_arg2)
      ∧ m' ((c.tc : Thread Cert.NormgateRefIdeal.nD Cert.NormgateRefIdeal.τ).loc Cert.NormgateRefIdeal.main_arg3) = m ((c.tc : Thread Cert.NormgateIdeal.nD Cert.NormgateIdeal.τ).loc Cert.NormgateIdeal.main_arg3)) →
    ∃ (v0 : (c : Dev Cert.NormgateIdeal.nD) → Buf (Elt Ideal) ((c.tc : Thread Cert.NormgateIdeal.nD Cert.NormgateIdeal.τ).loc Cert.NormgateIdeal.main_v0_0)) (v1 : (c : Dev Cert.NormgateIdeal.nD) → Buf (Elt Ideal) ((c.tc : Thread Cert.NormgateIdeal.nD Cert.NormgateIdeal.τ).loc Cert.NormgateIdeal.main_v0_1)),
      θ_run (Cert.NormgateIdeal.defs (F := Ideal)) (onTc (τ := Cert.NormgateIdeal.τ) (Cert.NormgateIdeal.main (F := Ideal))) ⟨m, fun _ => 0, g⟩ (fun r => ∀ c : Dev Cert.NormgateIdeal.nD,
          r.2.mem ((c.tc : Thread Cert.NormgateIdeal.nD Cert.NormgateIdeal.τ).loc Cert.NormgateIdeal.main_v0_0) = v0 c
          ∧ r.2.mem ((c.tc : Thread Cert.NormgateIdeal.nD Cert.NormgateIdeal.τ).loc Cert.NormgateIdeal.main_v0_1) = v1 c
          ∧ r.2.mem ((c.tc : Thread Cert.NormgateIdeal.nD Cert.NormgateIdeal.τ).loc Cert.NormgateIdeal.main_arg0) = m ((c.tc : Thread Cert.NormgateIdeal.nD Cert.NormgateIdeal.τ).loc Cert.NormgateIdeal.main_arg0)
          ∧ r.2.mem ((c.tc : Thread Cert.NormgateIdeal.nD Cert.NormgateIdeal.τ).loc Cert.NormgateIdeal.main_arg1) = m ((c.tc : Thread Cert.NormgateIdeal.nD Cert.NormgateIdeal.τ).loc Cert.NormgateIdeal.main_arg1)
          ∧ r.2.mem ((c.tc : Thread Cert.NormgateIdeal.nD Cert.NormgateIdeal.τ).loc Cert.NormgateIdeal.main_arg2) = m ((c.tc : Thread Cert.NormgateIdeal.nD Cert.NormgateIdeal.τ).loc Cert.NormgateIdeal.main_arg2)
          ∧ r.2.mem ((c.tc : Thread Cert.NormgateIdeal.nD Cert.NormgateIdeal.τ).loc Cert.NormgateIdeal.main_arg3) = m ((c.tc : Thread Cert.NormgateIdeal.nD Cert.NormgateIdeal.τ).loc Cert.NormgateIdeal.main_arg3))
      ∧ θ_run (Cert.NormgateRefIdeal.defs (F := Ideal)) (onTc (τ := Cert.NormgateRefIdeal.τ) (Cert.NormgateRefIdeal.main (F := Ideal))) ⟨m', fun _ => 0, g'⟩ (fun r => ∀ c : Dev Cert.NormgateRefIdeal.nD,
          r.2.mem ((c.tc : Thread Cert.NormgateRefIdeal.nD Cert.NormgateRefIdeal.τ).loc Cert.NormgateRefIdeal.main_v41) = v0 c
          ∧ r.2.mem ((c.tc : Thread Cert.NormgateRefIdeal.nD Cert.NormgateRefIdeal.τ).loc Cert.NormgateRefIdeal.main_v42) = v1 c
          ∧ r.2.mem ((c.tc : Thread Cert.NormgateRefIdeal.nD Cert.NormgateRefIdeal.τ).loc Cert.NormgateRefIdeal.main_arg0) = m' ((c.tc : Thread Cert.NormgateRefIdeal.nD Cert.NormgateRefIdeal.τ).loc Cert.NormgateRefIdeal.main_arg0)
          ∧ r.2.mem ((c.tc : Thread Cert.NormgateRefIdeal.nD Cert.NormgateRefIdeal.τ).loc Cert.NormgateRefIdeal.main_arg1) = m' ((c.tc : Thread Cert.NormgateRefIdeal.nD Cert.NormgateRefIdeal.τ).loc Cert.NormgateRefIdeal.main_arg1)
          ∧ r.2.mem ((c.tc : Thread Cert.NormgateRefIdeal.nD Cert.NormgateRefIdeal.τ).loc Cert.NormgateRefIdeal.main_arg2) = m' ((c.tc : Thread Cert.NormgateRefIdeal.nD Cert.NormgateRefIdeal.τ).loc Cert.NormgateRefIdeal.main_arg2)
          ∧ r.2.mem ((c.tc : Thread Cert.NormgateRefIdeal.nD Cert.NormgateRefIdeal.τ).loc Cert.NormgateRefIdeal.main_arg3) = m' ((c.tc : Thread Cert.NormgateRefIdeal.nD Cert.NormgateRefIdeal.τ).loc Cert.NormgateRefIdeal.main_arg3))

def Claim : Prop :=
  ∃ (hMlpDownBwd : Cert.MlpDownBwd.Facts) (hMlpDownBwdIdeal : Cert.MlpDownBwdIdeal.Facts) (hMlpDownBwdRefIdeal : Cert.MlpDownBwdRefIdeal.Facts) (hMlpDownWgrad : Cert.MlpDownWgrad.Facts) (hMlpDownWgradIdeal : Cert.MlpDownWgradIdeal.Facts) (hMlpDownWgradRefIdeal : Cert.MlpDownWgradRefIdeal.Facts) (hMlpUpBwd : Cert.MlpUpBwd.Facts) (hMlpUpBwdIdeal : Cert.MlpUpBwdIdeal.Facts) (hMlpUpBwdRefIdeal : Cert.MlpUpBwdRefIdeal.Facts) (hMlpUpWgrad : Cert.MlpUpWgrad.Facts) (hMlpUpWgradIdeal : Cert.MlpUpWgradIdeal.Facts) (hMlpUpWgradRefIdeal : Cert.MlpUpWgradRefIdeal.Facts) (hOutBwd : Cert.OutBwd.Facts) (hOutBwdIdeal : Cert.OutBwdIdeal.Facts) (hOutBwdRefIdeal : Cert.OutBwdRefIdeal.Facts) (hOutWgrad : Cert.OutWgrad.Facts) (hOutWgradIdeal : Cert.OutWgradIdeal.Facts) (hOutWgradRefIdeal : Cert.OutWgradRefIdeal.Facts) (hBranchBwdA : Cert.BranchBwdA.Facts) (hBranchBwdAIdeal : Cert.BranchBwdAIdeal.Facts) (hBranchBwdARefIdeal : Cert.BranchBwdARefIdeal.Facts) (hBranchBwd : Cert.BranchBwd.Facts) (hBranchBwdIdeal : Cert.BranchBwdIdeal.Facts) (hBranchBwdRefIdeal : Cert.BranchBwdRefIdeal.Facts) (hBranchWgrad : Cert.BranchWgrad.Facts) (hBranchWgradIdeal : Cert.BranchWgradIdeal.Facts) (hBranchWgradRefIdeal : Cert.BranchWgradRefIdeal.Facts) (hProjWgrad : Cert.ProjWgrad.Facts) (hProjWgradIdeal : Cert.ProjWgradIdeal.Facts) (hProjWgradRefIdeal : Cert.ProjWgradRefIdeal.Facts) (hProjBwd : Cert.ProjBwd.Facts) (hProjBwdIdeal : Cert.ProjBwdIdeal.Facts) (hProjBwdRefIdeal : Cert.ProjBwdRefIdeal.Facts) (hLnBwd : Cert.LnBwd.Facts) (hLnBwdIdeal : Cert.LnBwdIdeal.Facts) (hLnBwdRefIdeal : Cert.LnBwdRefIdeal.Facts) (hLnInBwd : Cert.LnInBwd.Facts) (hLnInBwdIdeal : Cert.LnInBwdIdeal.Facts) (hLnInBwdRefIdeal : Cert.LnInBwdRefIdeal.Facts) (hProj : Cert.Proj.Facts) (hProjIdeal : Cert.ProjIdeal.Facts) (hProjRefIdeal : Cert.ProjRefIdeal.Facts) (hBranchProj : Cert.BranchProj.Facts) (hBranchProjIdeal : Cert.BranchProjIdeal.Facts) (hBranchProjRefIdeal : Cert.BranchProjRefIdeal.Facts) (hMlpUp : Cert.MlpUp.Facts) (hMlpUpIdeal : Cert.MlpUpIdeal.Facts) (hMlpUpRefIdeal : Cert.MlpUpRefIdeal.Facts) (hOutProjLn : Cert.OutProjLn.Facts) (hOutProjLnIdeal : Cert.OutProjLnIdeal.Facts) (hOutProjLnRefIdeal : Cert.OutProjLnRefIdeal.Facts) (hMlpDownLn : Cert.MlpDownLn.Facts) (hMlpDownLnIdeal : Cert.MlpDownLnIdeal.Facts) (hMlpDownLnRefIdeal : Cert.MlpDownLnRefIdeal.Facts) (hMergeBwd : Cert.MergeBwd.Facts) (hMergeBwdIdeal : Cert.MergeBwdIdeal.Facts) (hMergeBwdRefIdeal : Cert.MergeBwdRefIdeal.Facts) (hMerge : Cert.Merge.Facts) (hMergeIdeal : Cert.MergeIdeal.Facts) (hMergeRefIdeal : Cert.MergeRefIdeal.Facts) (hLnIn : Cert.LnIn.Facts) (hLnInIdeal : Cert.LnInIdeal.Facts) (hLnInRefIdeal : Cert.LnInRefIdeal.Facts) (hNormgate : Cert.Normgate.Facts) (hNormgateIdeal : Cert.NormgateIdeal.Facts) (hNormgateRefIdeal : Cert.NormgateRefIdeal.Facts),
    quiescent_MlpDownBwd (hMlpDownBwd := hMlpDownBwd)
    ∧ quiescent_MlpDownBwdIdeal (hMlpDownBwdIdeal := hMlpDownBwdIdeal)
    ∧ quiescent_MlpDownBwdRefIdeal (hMlpDownBwdRefIdeal := hMlpDownBwdRefIdeal)
    ∧ quiescent_MlpDownWgrad (hMlpDownWgrad := hMlpDownWgrad)
    ∧ quiescent_MlpDownWgradIdeal (hMlpDownWgradIdeal := hMlpDownWgradIdeal)
    ∧ quiescent_MlpDownWgradRefIdeal (hMlpDownWgradRefIdeal := hMlpDownWgradRefIdeal)
    ∧ quiescent_MlpUpBwd (hMlpUpBwd := hMlpUpBwd)
    ∧ quiescent_MlpUpBwdIdeal (hMlpUpBwdIdeal := hMlpUpBwdIdeal)
    ∧ quiescent_MlpUpBwdRefIdeal (hMlpUpBwdRefIdeal := hMlpUpBwdRefIdeal)
    ∧ quiescent_MlpUpWgrad (hMlpUpWgrad := hMlpUpWgrad)
    ∧ quiescent_MlpUpWgradIdeal (hMlpUpWgradIdeal := hMlpUpWgradIdeal)
    ∧ quiescent_MlpUpWgradRefIdeal (hMlpUpWgradRefIdeal := hMlpUpWgradRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_BranchBwdA (hBranchBwdA := hBranchBwdA)
    ∧ quiescent_BranchBwdAIdeal (hBranchBwdAIdeal := hBranchBwdAIdeal)
    ∧ quiescent_BranchBwdARefIdeal (hBranchBwdARefIdeal := hBranchBwdARefIdeal)
    ∧ quiescent_BranchBwd (hBranchBwd := hBranchBwd)
    ∧ quiescent_BranchBwdIdeal (hBranchBwdIdeal := hBranchBwdIdeal)
    ∧ quiescent_BranchBwdRefIdeal (hBranchBwdRefIdeal := hBranchBwdRefIdeal)
    ∧ quiescent_BranchWgrad (hBranchWgrad := hBranchWgrad)
    ∧ quiescent_BranchWgradIdeal (hBranchWgradIdeal := hBranchWgradIdeal)
    ∧ quiescent_BranchWgradRefIdeal (hBranchWgradRefIdeal := hBranchWgradRefIdeal)
    ∧ quiescent_ProjWgrad (hProjWgrad := hProjWgrad)
    ∧ quiescent_ProjWgradIdeal (hProjWgradIdeal := hProjWgradIdeal)
    ∧ quiescent_ProjWgradRefIdeal (hProjWgradRefIdeal := hProjWgradRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_LnInBwd (hLnInBwd := hLnInBwd)
    ∧ quiescent_LnInBwdIdeal (hLnInBwdIdeal := hLnInBwdIdeal)
    ∧ quiescent_LnInBwdRefIdeal (hLnInBwdRefIdeal := hLnInBwdRefIdeal)
    ∧ quiescent_Proj (hProj := hProj)
    ∧ quiescent_ProjIdeal (hProjIdeal := hProjIdeal)
    ∧ quiescent_ProjRefIdeal (hProjRefIdeal := hProjRefIdeal)
    ∧ quiescent_BranchProj (hBranchProj := hBranchProj)
    ∧ quiescent_BranchProjIdeal (hBranchProjIdeal := hBranchProjIdeal)
    ∧ quiescent_BranchProjRefIdeal (hBranchProjRefIdeal := hBranchProjRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_OutProjLn (hOutProjLn := hOutProjLn)
    ∧ quiescent_OutProjLnIdeal (hOutProjLnIdeal := hOutProjLnIdeal)
    ∧ quiescent_OutProjLnRefIdeal (hOutProjLnRefIdeal := hOutProjLnRefIdeal)
    ∧ quiescent_MlpDownLn (hMlpDownLn := hMlpDownLn)
    ∧ quiescent_MlpDownLnIdeal (hMlpDownLnIdeal := hMlpDownLnIdeal)
    ∧ quiescent_MlpDownLnRefIdeal (hMlpDownLnRefIdeal := hMlpDownLnRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_LnIn (hLnIn := hLnIn)
    ∧ quiescent_LnInIdeal (hLnInIdeal := hLnInIdeal)
    ∧ quiescent_LnInRefIdeal (hLnInRefIdeal := hLnInRefIdeal)
    ∧ quiescent_Normgate (hNormgate := hNormgate)
    ∧ quiescent_NormgateIdeal (hNormgateIdeal := hNormgateIdeal)
    ∧ quiescent_NormgateRefIdeal (hNormgateRefIdeal := hNormgateRefIdeal)
    ∧ preserves_MlpDownBwd_MlpDownBwdIdeal
    ∧ algebraic_MlpDownBwdIdeal_MlpDownBwdRefIdeal (hMlpDownBwdIdeal := hMlpDownBwdIdeal) (hMlpDownBwdRefIdeal := hMlpDownBwdRefIdeal)
    ∧ preserves_MlpDownWgrad_MlpDownWgradIdeal
    ∧ algebraic_MlpDownWgradIdeal_MlpDownWgradRefIdeal (hMlpDownWgradIdeal := hMlpDownWgradIdeal) (hMlpDownWgradRefIdeal := hMlpDownWgradRefIdeal)
    ∧ preserves_MlpUpBwd_MlpUpBwdIdeal
    ∧ algebraic_MlpUpBwdIdeal_MlpUpBwdRefIdeal (hMlpUpBwdIdeal := hMlpUpBwdIdeal) (hMlpUpBwdRefIdeal := hMlpUpBwdRefIdeal)
    ∧ preserves_MlpUpWgrad_MlpUpWgradIdeal
    ∧ algebraic_MlpUpWgradIdeal_MlpUpWgradRefIdeal (hMlpUpWgradIdeal := hMlpUpWgradIdeal) (hMlpUpWgradRefIdeal := hMlpUpWgradRefIdeal)
    ∧ preserves_OutBwd_OutBwdIdeal
    ∧ algebraic_OutBwdIdeal_OutBwdRefIdeal (hOutBwdIdeal := hOutBwdIdeal) (hOutBwdRefIdeal := hOutBwdRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_BranchBwdA_BranchBwdAIdeal
    ∧ algebraic_BranchBwdAIdeal_BranchBwdARefIdeal (hBranchBwdAIdeal := hBranchBwdAIdeal) (hBranchBwdARefIdeal := hBranchBwdARefIdeal)
    ∧ preserves_BranchBwd_BranchBwdIdeal
    ∧ algebraic_BranchBwdIdeal_BranchBwdRefIdeal (hBranchBwdIdeal := hBranchBwdIdeal) (hBranchBwdRefIdeal := hBranchBwdRefIdeal)
    ∧ preserves_BranchWgrad_BranchWgradIdeal
    ∧ algebraic_BranchWgradIdeal_BranchWgradRefIdeal (hBranchWgradIdeal := hBranchWgradIdeal) (hBranchWgradRefIdeal := hBranchWgradRefIdeal)
    ∧ preserves_ProjWgrad_ProjWgradIdeal
    ∧ algebraic_ProjWgradIdeal_ProjWgradRefIdeal (hProjWgradIdeal := hProjWgradIdeal) (hProjWgradRefIdeal := hProjWgradRefIdeal)
    ∧ preserves_ProjBwd_ProjBwdIdeal
    ∧ algebraic_ProjBwdIdeal_ProjBwdRefIdeal (hProjBwdIdeal := hProjBwdIdeal) (hProjBwdRefIdeal := hProjBwdRefIdeal)
    ∧ preserves_LnBwd_LnBwdIdeal
    ∧ algebraic_LnBwdIdeal_LnBwdRefIdeal (hLnBwdIdeal := hLnBwdIdeal) (hLnBwdRefIdeal := hLnBwdRefIdeal)
    ∧ preserves_LnInBwd_LnInBwdIdeal
    ∧ algebraic_LnInBwdIdeal_LnInBwdRefIdeal (hLnInBwdIdeal := hLnInBwdIdeal) (hLnInBwdRefIdeal := hLnInBwdRefIdeal)
    ∧ preserves_Proj_ProjIdeal
    ∧ algebraic_ProjIdeal_ProjRefIdeal (hProjIdeal := hProjIdeal) (hProjRefIdeal := hProjRefIdeal)
    ∧ preserves_BranchProj_BranchProjIdeal
    ∧ algebraic_BranchProjIdeal_BranchProjRefIdeal (hBranchProjIdeal := hBranchProjIdeal) (hBranchProjRefIdeal := hBranchProjRefIdeal)
    ∧ preserves_MlpUp_MlpUpIdeal
    ∧ algebraic_MlpUpIdeal_MlpUpRefIdeal (hMlpUpIdeal := hMlpUpIdeal) (hMlpUpRefIdeal := hMlpUpRefIdeal)
    ∧ preserves_OutProjLn_OutProjLnIdeal
    ∧ algebraic_OutProjLnIdeal_OutProjLnRefIdeal (hOutProjLnIdeal := hOutProjLnIdeal) (hOutProjLnRefIdeal := hOutProjLnRefIdeal)
    ∧ preserves_MlpDownLn_MlpDownLnIdeal
    ∧ algebraic_MlpDownLnIdeal_MlpDownLnRefIdeal (hMlpDownLnIdeal := hMlpDownLnIdeal) (hMlpDownLnRefIdeal := hMlpDownLnRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Merge_MergeIdeal
    ∧ algebraic_MergeIdeal_MergeRefIdeal (hMergeIdeal := hMergeIdeal) (hMergeRefIdeal := hMergeRefIdeal)
    ∧ preserves_LnIn_LnInIdeal
    ∧ algebraic_LnInIdeal_LnInRefIdeal (hLnInIdeal := hLnInIdeal) (hLnInRefIdeal := hLnInRefIdeal)
    ∧ preserves_Normgate_NormgateIdeal
    ∧ algebraic_NormgateIdeal_NormgateRefIdeal (hNormgateIdeal := hNormgateIdeal) (hNormgateRefIdeal := hNormgateRefIdeal)
-- ==== MlpDownBwd.lean ====
abbrev S4096x1024 : Shape := ⟨2, ![4096, 1024]⟩
abbrev S4096x4096 : Shape := ⟨2, ![4096, 4096]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownBwdRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== MlpDownWgrad.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownWgradRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpUpBwd.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpBwdRefIdeal.lean ====
abbrev S4096x4096 : Shape := ⟨2, ![4096, 4096]⟩
abbrev S1024x4096 : Shape := ⟨2, ![1024, 4096]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MlpUpWgrad.lean ====
abbrev S4096x1024 : Shape := ⟨2, ![4096, 1024]⟩
abbrev S4096x4096 : Shape := ⟨2, ![4096, 4096]⟩
abbrev S8x1024x512 : Shape := ⟨3, ![8, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpWgradRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x512 : Shape := ⟨2, ![1024, 512]⟩
abbrev S1x1024x512 : Shape := ⟨3, ![1, 1024, 512]⟩
abbrev S8x1024x512 : Shape := ⟨3, ![8, 1024, 512]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1x1024x512, .f32⟩
  | .hbm, ⟨18, _⟩ => ⟨S1x1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S1x1024x512, .f32⟩
  | .hbm, ⟨24, _⟩ => ⟨S1x1024x512, .f32⟩
  | .hbm, ⟨25, _⟩ => ⟨S8x1024x512, .f32⟩
  | .hbm, ⟨26, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== OutBwd.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWgrad.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWgradRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchBwdA.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBwdARefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchBwd.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBwdRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchWgrad.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchWgradRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjWgrad.lean ====
abbrev S4096x1024 : Shape := ⟨2, ![4096, 1024]⟩
abbrev S4096x12800 : Shape := ⟨2, ![4096, 12800]⟩
abbrev S1024x12800 : Shape := ⟨2, ![1024, 12800]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x12800, .bf16⟩
  | .hbm, ⟨2, _⟩ => ⟨S1024x12800, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWgradRefIdeal.lean ====
abbrev S4096x1024 : Shape := ⟨2, ![4096, 1024]⟩
abbrev S4096x12800 : Shape := ⟨2, ![4096, 12800]⟩
abbrev S_ : Shape := ⟨0, ![]⟩
abbrev S1024x12800 : Shape := ⟨2, ![1024, 12800]⟩
abbrev S12800x1024 : Shape := ⟨2, ![12800, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x12800, .bf16⟩
  | .hbm, ⟨2, _⟩ => ⟨S_, .f32⟩
  | .hbm, ⟨3, _⟩ => ⟨S1024x12800, .f32⟩
  | .hbm, ⟨4, _⟩ => ⟨S4096x1024, .f32⟩
  | .hbm, ⟨5, _⟩ => ⟨S4096x12800, .f32⟩
  | .hbm, ⟨6, _⟩ => ⟨S4096x12800, .f32⟩
  | .hbm, ⟨7, _⟩ => ⟨S12800x1024, .f32⟩
  | .hbm, ⟨8, _⟩ => ⟨S1024x12800, .f32⟩
  | .hbm, ⟨9, _⟩ => ⟨S1024x12800, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjBwd.lean ====
abbrev S4096x12800 : Shape := ⟨2, ![4096, 12800]⟩
abbrev S1024x12800 : Shape := ⟨2, ![1024, 12800]⟩
abbrev S4096x1024 : Shape := ⟨2, ![4096, 1024]⟩
abbrev S1024x2560 : Shape := ⟨2, ![1024, 2560]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x12800, .bf16⟩
  | .hbm, ⟨1, _⟩ => ⟨S1024x12800, .bf16⟩
  | .hbm, ⟨2, _⟩ => ⟨S4096x1024, .f32⟩
  | .hbm, ⟨3, _⟩ => ⟨S4096x1024, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjBwdRefIdeal.lean ====
abbrev S4096x12800 : Shape := ⟨2, ![4096, 12800]⟩
abbrev S1024x12800 : Shape := ⟨2, ![1024, 12800]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x12800, .bf16⟩
  | .hbm, ⟨1, _⟩ => ⟨S1024x12800, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x12800, .f32⟩
  | .hbm, ⟨6, _⟩ => ⟨S4096x12800, .f32⟩
  | .hbm, ⟨7, _⟩ => ⟨S4096x12800, .f32⟩
  | .hbm, ⟨8, _⟩ => ⟨S4096x1024, .f32⟩
  | .hbm, ⟨9, _⟩ => ⟨S4096x1024, .f32⟩
  | _, _ => ⟨S4096x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== LnBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_27 : BitVec 32 := 0#32
  let v66 : BitVec 1 := Scalar.cmpi .ne v65 c0_i32_27
  v66

def k0_cond2 (i : grid0.Coords) : BitVec 1 :=
  let arg0 : BitVec 32 := BitVec.ofNat 32 (i 0).val
  let c0_i32_28 : BitVec 32 := 0#32
  let v67 : BitVec 1 := Scalar.cmpi .sgt arg0 c0_i32_28
  let v68 : BitVec 32 := Scalar.extui v67
  let c0_i32_29 : BitVec 32 := 0#32
  let v69 : BitVec 1 := Scalar.cmpi .ne v68 c0_i32_29
  v69

def k0_cond3 (i : grid0.Coords) : BitVec 1 :=
  let arg0 : BitVec 32 := BitVec.ofNat 32 (i 0).val
  let c0_i32_30 : BitVec 32 := 0#32
  let v70 : BitVec 1 := Scalar.cmpi .eq arg0 c0_i32_30
  let v71 : BitVec 32 := Scalar.extui v70
  let c0_i32_31 : BitVec 32 := 0#32
  let v72 : BitVec 1 := Scalar.cmpi .ne v71 c0_i32_31
  v72

def k0_cond4 (i : grid0.Coords) : BitVec 1 :=
  let arg0 : BitVec 32 := BitVec.ofNat 32 (i 0).val
  let c0_i32_32 : BitVec 32 := 0#32
  let v73 : BitVec 1 := Scalar.cmpi .sgt arg0 c0_i32_32
  let v74 : BitVec 32 := Scalar.extui v73
  let c0_i32_33 : BitVec 32 := 0#32
  let v75 : BitVec 1 := Scalar.cmpi .ne v74 c0_i32_33
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== LnInBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_21 : BitVec 32 := 0#32
  let v58 : BitVec 1 := Scalar.cmpi .ne v57 c0_i32_21
  v58

def k0_cond2 (i : grid0.Coords) : BitVec 1 :=
  let arg0 : BitVec 32 := BitVec.ofNat 32 (i 0).val
  let c0_i32_22 : BitVec 32 := 0#32
  let v59 : BitVec 1 := Scalar.cmpi .sgt arg0 c0_i32_22
  let v60 : BitVec 32 := Scalar.extui v59
  let c0_i32_23 : BitVec 32 := 0#32
  let v61 : BitVec 1 := Scalar.cmpi .ne v60 c0_i32_23
  v61

def k0_cond3 (i : grid0.Coords) : BitVec 1 :=
  let arg0 : BitVec 32 := BitVec.ofNat 32 (i 0).val
  let c0_i32_24 : BitVec 32 := 0#32
  let v62 : BitVec 1 := Scalar.cmpi .eq arg0 c0_i32_24
  let v63 : BitVec 32 := Scalar.extui v62
  let c0_i32_25 : BitVec 32 := 0#32
  let v64 : BitVec 1 := Scalar.cmpi .ne v63 c0_i32_25
  v64

def k0_cond4 (i : grid0.Coords) : BitVec 1 :=
  let arg0 : BitVec 32 := BitVec.ofNat 32 (i 0).val
  let c0_i32_26 : BitVec 32 := 0#32
  let v65 : BitVec 1 := Scalar.cmpi .sgt arg0 c0_i32_26
  let v66 : BitVec 32 := Scalar.extui v65
  let c0_i32_27 : BitVec 32 := 0#32
  let v67 : BitVec 1 := Scalar.cmpi .ne v66 c0_i32_27
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnInBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proj.lean ====
abbrev S4096x1024 : Shape := ⟨2, ![4096, 1024]⟩
abbrev S1024x12800 : Shape := ⟨2, ![1024, 12800]⟩
abbrev S4096x12800 : Shape := ⟨2, ![4096, 12800]⟩
abbrev S1024x512 : Shape := ⟨2, ![1024, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x12800, .bf16⟩
  | .hbm, ⟨2, _⟩ => ⟨S4096x12800, .bf16⟩
  | .local _ .vmem, ⟨0, _⟩ => ⟨S4096x1024, .bf16⟩
  | .local _ .vmem, ⟨1, _⟩ => ⟨S1024x512, .bf16⟩
  | .local _ .vmem, ⟨2, _⟩ => ⟨S1024x512, .bf16⟩
  | .local _ .vmem, ⟨3, _⟩ => ⟨S4096x512, .bf16⟩
  | .local _ .vmem, ⟨4, _⟩ => ⟨S4096x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 25, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x12800 : Shape := ⟨2, ![1024, 12800]⟩
abbrev S4096x12800 : Shape := ⟨2, ![4096, 12800]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x12800, .bf16⟩
  | .hbm, ⟨2, _⟩ => ⟨S4096x1024, .f32⟩
  | .hbm, ⟨3, _⟩ => ⟨S1024x12800, .f32⟩
  | .hbm, ⟨4, _⟩ => ⟨S4096x12800, .f32⟩
  | .hbm, ⟨5, _⟩ => ⟨S4096x12800, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchProj.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlpUp.lean ====
abbrev S4096x1024 : Shape := ⟨2, ![4096, 1024]⟩
abbrev S1024x4096 : Shape := ⟨2, ![1024, 4096]⟩
abbrev S4096x4096 : Shape := ⟨2, ![4096, 4096]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .hbm, ⟨3, _⟩ => ⟨S4096x4096, .bf16⟩
  | .local _ .vmem, ⟨0, _⟩ => ⟨S4096x1024, .bf16⟩
  | .local _ .vmem, ⟨1, _⟩ => ⟨S1024x512, .bf16⟩
  | .local _ .vmem, ⟨2, _⟩ => ⟨S1024x512, .bf16⟩
  | .local _ .vmem, ⟨3, _⟩ => ⟨S4096x512, .f32⟩
  | .local _ .vmem, ⟨4, _⟩ => ⟨S4096x512, .f32⟩
  | .local _ .vmem, ⟨5, _⟩ => ⟨S4096x512, .bf16⟩
  | .local _ .vmem, ⟨6, _⟩ => ⟨S4096x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutProjLn.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== OutProjLnRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== MlpDownLn.lean ====
abbrev S4096x4096 : Shape := ⟨2, ![4096, 4096]⟩
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MlpDownLnRefIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== MergeBwd.lean ====
abbrev S4096x1024 : Shape := ⟨2, ![4096, 1024]⟩
abbrev S4096x12800 : Shape := ⟨2, ![4096, 12800]⟩
abbrev S512x1024 : Shape := ⟨2, ![512, 1024]⟩
abbrev S512x3072 : Shape := ⟨2, ![512, 3072]⟩
abbrev S1 : Shape := ⟨1, ![1]⟩
abbrev S512x2048 : Shape := ⟨2, ![512, 2048]⟩
abbrev S_ : Shape := ⟨0, ![]⟩
abbrev S4096x3072 : Shape := ⟨2, ![4096, 3072]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x12800, .bf16⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x12800, .bf16⟩
  | .hbm, ⟨9, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .sgt arg0 c0_i32
  let v49 : BitVec 32 := Scalar.extui v48
  let c0_i32_20 : BitVec 32 := 0#32
  let v50 : BitVec 1 := Scalar.cmpi .ne v49 c0_i32_20
  v50

def k0_mult1 (i : grid0.Coords) : BitVec 32 :=
  let arg0 : BitVec 32 := BitVec.ofNat 32 (i 0).val
  let c1_i32 : BitVec 32 := 1#32
  let v63 : BitVec 32 := Scalar.subi arg0 c1_i32
  let c512_i32_25 : BitVec 32 := 512#32
  let v64 : BitVec 32 := Scalar.muli v63 c512_i32_25
  v64
def k0_off1 (i : grid0.Coords) : Fin 2 → Nat :=
  let arg0 : BitVec 32 := BitVec.ofNat 32 (i 0).val
  let c1_i32 : BitVec 32 := 1#32
  let v63 : BitVec 32 := Scalar.subi arg0 c1_i32
  let c512_i32_25 : BitVec 32 := 512#32
  let v64 : BitVec 32 := Scalar.muli v63 c512_i32_25
  let v65 : BitVec 32 := v64
  let c9216_i32_27 : BitVec 32 := 9216#32
  ![v65.toNat, 9216]
def k0_mult2 (i : grid0.Coords) : BitVec 32 :=
  let arg0 : BitVec 32 := BitVec.ofNat 32 (i 0).val
  let c512_i32 : BitVec 32 := 512#32
  let v55 : BitVec 32 := Scalar.muli arg0 c512_i32
  v55
def k0_off2 (i : grid0.Coords) : Fin 2 → Nat :=
  let arg0 : BitVec 32 := BitVec.ofNat 32 (i 0).val
  let c512_i32 : BitVec 32 := 512#32
  let v55 : BitVec 32 := Scalar.muli arg0 c512_i32
  let v56 : BitVec 32 := v55
  let c9216_i32 : BitVec 32 := 9216#32
  ![v56.toNat, 9216]
def k0_cond2 (i : grid0.Coords) : BitVec 1 :=
  let arg0 : BitVec 32 := BitVec.ofNat 32 (i 0).val
  let c7_i32 : BitVec 32 := 7#32
  let v60 : BitVec 1 := Scalar.cmpi .eq arg0 c7_i32
  let v61 : BitVec 32 := Scalar.extui v60
  let c0_i32_24 : BitVec 32 := 0#32
  let v62 : BitVec 1 := Scalar.cmpi .ne v61 c0_i32_24
  v62

def k0_mult3 (i : grid0.Coords) : BitVec 32 :=
  let arg0 : BitVec 32 := BitVec.ofNat 32 (i 0).val
  let c512_i32_25 : BitVec 32 := 512#32
  let v63 : BitVec 32 := Scalar.muli arg0 c512_i32_25
  v63
def k0_off3 (i : grid0.Coords) : Fin 2 → Nat :=
  let arg0 : BitVec 32 := BitVec.ofNat 32 (i 0).val
  let c512_i32_25 : BitVec 32 := 512#32
  let v63 : BitVec 32 := Scalar.muli arg0 c512_i32_25
  let v64 : BitVec 32 := v63
  let c9216_i32_27 : BitVec 32 := 9216#32
  ![v64.toNat, 9216]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeBwdRefIdeal.lean ====
abbrev S4096x1024 : Shape := ⟨2, ![4096, 1024]⟩
abbrev S4096x12800 : Shape := ⟨2, ![4096, 12800]⟩
abbrev S4096x3072 : Shape := ⟨2, ![4096, 3072]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x12800, .bf16⟩
  | .hbm, ⟨4, _⟩ => ⟨S4096x1024, .f32⟩
  | .hbm, ⟨5, _⟩ => ⟨S4096x3072, .bf16⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x3072, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Merge.lean ====
abbrev S4096x1024 : Shape := ⟨2, ![4096, 1024]⟩
abbrev S4096x12800 : Shape := ⟨2, ![4096, 12800]⟩
abbrev S512x1024 : Shape := ⟨2, ![512, 1024]⟩
abbrev S512x3072 : Shape := ⟨2, ![512, 3072]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x12800, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S4096x1024 : Shape := ⟨2, ![4096, 1024]⟩
abbrev S4096x12800 : Shape := ⟨2, ![4096, 12800]⟩
abbrev S4096x3072 : Shape := ⟨2, ![4096, 3072]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x12800, .bf16⟩
  | .hbm, ⟨4, _⟩ => ⟨S4096x3072, .bf16⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S_, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== LnIn.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnInRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Normgate.lean ====
abbrev S4096x1024 : Shape := ⟨2, ![4096, 1024]⟩
abbrev S4096x12800 : Shape := ⟨2, ![4096, 12800]⟩
abbrev S1x256 : Shape := ⟨2, ![1, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x12800, .bf16⟩
  | .hbm, ⟨3, _⟩ => ⟨S1x256, .f32⟩
  | .hbm, ⟨4, _⟩ => ⟨S4096x1024, .bf16⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x256, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormgateRefIdeal.lean ====
abbrev S4096x1024 : Shape := ⟨2, ![4096, 1024]⟩
abbrev S4096x12800 : Shape := ⟨2, ![4096, 12800]⟩
abbrev S1x256 : Shape := ⟨2, ![1, 256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x12800, .bf16⟩
  | .hbm, ⟨3, _⟩ => ⟨S1x256, .f32⟩
  | .hbm, ⟨4, _⟩ => ⟨S4096x4x256, .f32⟩
  | .hbm, ⟨5, _⟩ => ⟨S4096x4x256, .f32⟩
  | .hbm, ⟨6, _⟩ => ⟨S_, .f32⟩
  | .hbm, ⟨7, _⟩ => ⟨S4096x4, .f32⟩
  | .hbm, ⟨8, _⟩ => ⟨S4096x4x1, .f32⟩
  | .hbm, ⟨9, _⟩ => ⟨S_, .f32⟩
  | .hbm, ⟨10, _⟩ => ⟨S4096x4x1, .f32⟩
  | .hbm, ⟨11, _⟩ => ⟨S4096x4x1, .f32⟩
  | .hbm, ⟨12, _⟩ => ⟨S4096x4x256, .f32⟩
  | .hbm, ⟨13, _⟩ => ⟨S4096x4x256, .f32⟩
  | .hbm, ⟨14, _⟩ => ⟨S4096x4x256, .f32⟩
  | .hbm, ⟨15, _⟩ => ⟨S_, .f32⟩
  | .hbm, ⟨16, _⟩ => ⟨S4096x4, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x1, .f32⟩
  | .hbm, ⟨25, _⟩ => ⟨S4096x4x256, .f32⟩
  | .hbm, ⟨26, _⟩ => ⟨S4096x4x256, .f32⟩
  | .hbm, ⟨27, _⟩ => ⟨S4096x4x256, .f32⟩
  | .hbm, ⟨28, _⟩ => ⟨S_, .f32⟩
  | .hbm, ⟨29, _⟩ => ⟨S4096x4, .f32⟩
  | .hbm, ⟨30, _⟩ => ⟨S4096x4x1, .f32⟩
  | .hbm, ⟨31, _⟩ => ⟨S_, .f32⟩
  | .hbm, ⟨32, _⟩ => ⟨S4096x4x1, .f32⟩
  | .hbm, ⟨33, _⟩ => ⟨S4096x4x1, .f32⟩
  | .hbm, ⟨34, _⟩ => ⟨S_, .f32⟩
  | .hbm, ⟨35, _⟩ => ⟨S4096x4x1, .f32⟩
  | .hbm, ⟨36, _⟩ => ⟨S4096x4x1, .f32⟩
  | .hbm, ⟨37, _⟩ => ⟨S4096x4x1, .f32⟩
  | .hbm, ⟨38, _⟩ => ⟨S4096x4x256, .f32⟩
  | .hbm, ⟨39, _⟩ => ⟨S4096x4x256, .f32⟩
  | .hbm, ⟨40, _⟩ => ⟨S1x1x256, .f32⟩
  | .hbm, ⟨41, _⟩ => ⟨S4096x4x256, .f32⟩
  | .hbm, ⟨42, _⟩ => ⟨S4096x4x256, .f32⟩
  | .hbm, ⟨43, _⟩ => ⟨S4096x1024, .bf16⟩
  | .hbm, ⟨44, _⟩ => ⟨S4096x1024, .f32⟩
  | .hbm, ⟨45, _⟩ => ⟨S4096x1024, .bf16⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .bf16⟩
  | .hbm, ⟨70, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Proof.MlpDownBwd.lean ====
module

public import proofs.«01_k».proof.Proof.Gen.MlpDownBwdIdeal.Frame
public import proofs.«01_k».proof.Proof.Gen.MlpDownBwdRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpDownBwdIdeal.Product
open Cert.MlpDownBwdIdeal Cert.MlpDownBwdIdeal.Gen

variable (m : (ℓ : Loc nD τ sig) → Buf (Elt Ideal) ℓ)

/-- The gradient of `Z` through the square of its positive part and a product with the weight `Y`, over the gradient `X` of the product's result. -/
abbrev REF (X : FVec Ideal S4096x1024 .bf16) (Y : FVec Ideal S4096x1024 .bf16) (Z : FVec Ideal S4096x4096 .f32) : FVec Ideal S4096x4096 .bf16 :=
  truncf .bf16 (select (cmpf .ogt Z (broadcastInDim Cert.MlpDownBwdRefIdeal.S4096x4096 ![] Cert.MlpDownBwdRefIdeal.Gen.bcast_S_S4096x4096 (constant Cert.MlpDownBwdRefIdeal.S_ .f32 0x00000000#32))) (mulf (Host.dotGeneral Cert.MlpDownBwdRefIdeal.dot_S4096x1024_S4096x1024_S4096x4096_1_1_0_0_n_n none (extf .f32 X Cert.MlpDownBwdRefIdeal.Gen.bitsLt_bf16_f32) (extf .f32 Y Cert.MlpDownBwdRefIdeal.Gen.bitsLt_bf16_f32)) (mulf (broadcastInDim Cert.MlpDownBwdRefIdeal.S4096x4096 ![] Cert.MlpDownBwdRefIdeal.Gen.bcast_S_S4096x4096 (constant Cert.MlpDownBwdRefIdeal.S_ .f32 0x40000000#32)) (maximumf Z (broadcastInDim Cert.MlpDownBwdRefIdeal.S4096x4096 ![] Cert.MlpDownBwdRefIdeal.Gen.bcast_S_S4096x4096 (constant Cert.MlpDownBwdRefIdeal.S_ .f32 0x00000000#32))))) (broadcastInDim Cert.MlpDownBwdRefIdeal.S4096x4096 ![] Cert.MlpDownBwdRefIdeal.Gen.bcast_S_S4096x4096 (constant Cert.MlpDownBwdRefIdeal.S_ .f32 0x00000000#32))) Cert.MlpDownBwdRefIdeal.Gen.bitsLt_bf16_f32

/-- Which block of its array each window shows at grid point `t`. -/
theorem idx : ∀ t : Fin cfg0.N, win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, _)

/-- What the body stores at index `y` of its block is the reference at the place where `y` lies in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]
  rename_i hn _
  have e : V m c main_arg2 ((win0_2.blk t).view.emb y)
      = m ((c : Thread nD τ).loc main_arg2) (((cfg0.win 3).blk t).view.emb y) := by
    blk_ext [V, idx t]
  refine Eq.symm ?_
  rw [e, max_eq_right (not_lt.mp hn), mul_zero, mul_zero]

/-- The result array after the run is the reference's value. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The claim on the extended reals: kernel and reference leave the same array. -/
theorem algebraic : Cert.algebraic_MlpDownBwdIdeal_MlpDownBwdRefIdeal (hMlpDownBwdIdeal := Cert.MlpDownBwdIdeal.Gen.facts) (hMlpDownBwdRefIdeal := Cert.MlpDownBwdRefIdeal.Gen.facts) := by
  pair_intro
  · run_from Cert.MlpDownBwdIdeal.Gen.run_main m g
  · run_from Cert.MlpDownBwdRefIdeal.Value.run m' g'
    exact (final m c).symm

end Cert.MlpDownBwdIdeal.Product

end
-- ==== Proof.MlpDownWgrad.lean ====
module

public import proofs.«01_k».proof.Proof.Gen.MlpDownWgradIdeal.Frame
public import proofs.«01_k».proof.Proof.Gen.MlpDownWgradRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpDownWgradIdeal.Product
open Cert.MlpDownWgradIdeal Cert.MlpDownWgradIdeal.Gen

variable (m : (ℓ : Loc nD τ sig) → Buf (Elt Ideal) ℓ)

/-- The gradient of a weight, over the product's input `X` and the gradient `Y` of its result. -/
abbrev REF (X : FVec Ideal S4096x4096 .bf16) (Y : FVec Ideal S4096x1024 .bf16) : FVec Ideal S4096x1024 .bf16 :=
  truncf .bf16 (transpose Cert.MlpDownWgradRefIdeal.S4096x1024 [1, 0] (Host.dotGeneral Cert.MlpDownWgradRefIdeal.dot_S4096x1024_S4096x4096_S1024x4096_0_0_1_1_n_n none (extf .f32 Y Cert.MlpDownWgradRefIdeal.Gen.bitsLt_bf16_f32) (extf .f32 X Cert.MlpDownWgradRefIdeal.Gen.bitsLt_bf16_f32)) Cert.MlpDownWgradRefIdeal.Gen.transposes_S1024x4096_S4096x1024_1_0) Cert.MlpDownWgradRefIdeal.Gen.bitsLt_bf16_f32

/-- Which block of its array each window shows at grid point `t`. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The accumulator after the first point of a run is that point's product. -/
theorem acc_first (c : Dev nD) (t : Fin cfg0.N) (h : t.val % 2 = 0) (j) :
    (outsAt0 m c t.val t.isLt).2 j = (0 : EReal) + k0_pay1 (iblk m c 0 t) (iblk m c 1 t) j := by
  rw [outsAt0_A m c t h (by omega) (by omega)]; frame_out
  rw [zero_add]
  pointwise [k0_pay2]

/-- At every other point of a run the accumulator grows by that point's product. -/
theorem acc_next (c : Dev nD) (t : Fin cfg0.N) (h : ¬t.val % 2 = 0) (j) :
    (outsAt0 m c t.val t.isLt).2 j
      = (outsAt0 m c (t.val - 1) (Nat.lt_of_le_of_lt (Nat.sub_le _ _) t.isLt)).2 j
        + k0_pay1 (iblk m c 0 t) (iblk m c 1 t) j := by
    rw [outsAt0_B m c t h (by omega) (by omega)]; frame_out
    rw [read_unread_whole]
    pointwise [k0_pay3]

/-- At the last point of a run the stored block is the epilogue over the accumulator that point leaves. -/
theorem out_last (c : Dev nD) (t : Fin cfg0.N) (h : t.val % 2 = 1) :
    (outsAt0 m c t.val t.isLt).1 = k0_pay4 (outsAt0 m c t.val t.isLt).2 := by
  rw [outsAt0_B m c t (by omega) (by omega) (by omega)]; frame_out

/-- The accumulator at the last point of a run is the sum of the run's products. -/
theorem acc_last (c : Dev nD) (t : Fin cfg0.N) (h : t.val % 2 = 1) (j) :
    (outsAt0 m c t.val t.isLt).2 j
      = (0 : EReal) + ∑ s : Fin 2, k0_pay1 (iblk m c 0 ⟨2 * (t.val / 2) + s.val, Pipeline.run_point_lt_of_flush t h s⟩)
          (iblk m c 1 ⟨2 * (t.val / 2) + s.val, Pipeline.run_point_lt_of_flush t h s⟩) j :=
  Pipeline.eq_sum_fin_of_reset_step_apply_of_flush (fun n h => (outsAt0 m c n h).2) 2 (fun _ => (0 : EReal))
    (fun p j => k0_pay1 (iblk m c 0 p) (iblk m c 1 p) j) (acc_first m c) (acc_next m c) t h j

/-- The result array after the run is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_last m c t h]
  pointwise [k0_pay4, REF]
  rw [acc_last m c t h, zero_add]
  pointwise [k0_pay1]
  refine Fin.sum_mul_add_congr fun s k hl => ?_
  refine (mul_comm (G := EReal) _ _).trans ?_
  blk_point [iblk, V, idx t, idx ⟨_, Pipeline.run_point_lt_of_flush t h s⟩]

/-- The claim on the extended reals: kernel and reference leave the same array. -/
theorem algebraic : Cert.algebraic_MlpDownWgradIdeal_MlpDownWgradRefIdeal (hMlpDownWgradIdeal := Cert.MlpDownWgradIdeal.Gen.facts) (hMlpDownWgradRefIdeal := Cert.MlpDownWgradRefIdeal.Gen.facts) := by
  pair_intro
  · run_from Cert.MlpDownWgradIdeal.Gen.run_main m g
  · run_from Cert.MlpDownWgradRefIdeal.Value.run m' g'
    exact (final m c).symm

end Cert.MlpDownWgradIdeal.Product

end
-- ==== Proof.MlpUpBwd.lean ====
module

public import proofs.«01_k».proof.Proof.Gen.MlpUpBwdIdeal.Frame
public import proofs.«01_k».proof.Proof.Gen.MlpUpBwdRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpUpBwdIdeal.Product
open Cert.MlpUpBwdIdeal Cert.MlpUpBwdIdeal.Gen

variable (m : (ℓ : Loc nD τ sig) → Buf (Elt Ideal) ℓ)

/-- The gradient of the input of a product, added to the gradient `Z` that reached that input by another way; `X` is the gradient of the product's result, `Y` the weight. -/
abbrev REF (X : FVec Ideal S4096x4096 .bf16) (Y : FVec Ideal S1024x4096 .bf16) (Z : FVec Ideal S4096x1024 .f32) : FVec Ideal S4096x1024 .f32 :=
  addf Z (Host.dotGeneral Cert.MlpUpBwdRefIdeal.dot_S4096x4096_S1024x4096_S4096x1024_1_1_0_0_n_n none (extf .f32 X Cert.MlpUpBwdRefIdeal.Gen.bitsLt_bf16_f32) (extf .f32 Y Cert.MlpUpBwdRefIdeal.Gen.bitsLt_bf16_f32))

/-- Which block of its array each window shows at grid point `t`. -/
theorem idx : ∀ t : Fin cfg0.N, win0_0.index t = ![t.val / 2, t.val % 2] ∧ win0_1.index t = ![0, t.val % 2] ∧ win0_2.index t = ![t.val / 2, 0] ∧ win0_3.index t = ![t.val / 2, 0] :=
  (by decide +kernel : ∀ t : Fin grid0.N, _)

/-- The accumulator after the first point of a run is that point's product. -/
theorem acc_first (c : Dev nD) (t : Fin cfg0.N) (h : t.val % 2 = 0) (j) :
    (outsAt0 m c t.val t.isLt).2 j = (0 : EReal) + k0_pay1 (iblk m c 0 t) (iblk m c 1 t) j := by
  rw [outsAt0_A m c t h (by omega) (by omega)]; frame_out
  rw [zero_add]
  pointwise [k0_pay2]

/-- At every other point of a run the accumulator grows by that point's product. -/
theorem acc_next (c : Dev nD) (t : Fin cfg0.N) (h : ¬t.val % 2 = 0) (j) :
    (outsAt0 m c t.val t.isLt).2 j
      = (outsAt0 m c (t.val - 1) (Nat.lt_of_le_of_lt (Nat.sub_le _ _) t.isLt)).2 j
        + k0_pay1 (iblk m c 0 t) (iblk m c 1 t) j := by
    rw [outsAt0_B m c t h (by omega) (by omega)]; frame_out
    rw [read_unread_whole]
    pointwise [k0_pay3]

/-- At the last point of a run the stored block is the epilogue over the accumulator that point leaves. -/
theorem out_last (c : Dev nD) (t : Fin cfg0.N) (h : t.val % 2 = 1) :
    (outsAt0 m c t.val t.isLt).1 = k0_pay4 (outsAt0 m c t.val t.isLt).2 (iblk m c 2 t) := by
  rw [outsAt0_B m c t (by omega) (by omega) (by omega)]; frame_out

/-- The accumulator at the last point of a run is the sum of the run's products. -/
theorem acc_last (c : Dev nD) (t : Fin cfg0.N) (h : t.val % 2 = 1) (j) :
    (outsAt0 m c t.val t.isLt).2 j
      = (0 : EReal) + ∑ s : Fin 2, k0_pay1 (iblk m c 0 ⟨2 * (t.val / 2) + s.val, Pipeline.run_point_lt_of_flush t h s⟩)
          (iblk m c 1 ⟨2 * (t.val / 2) + s.val, Pipeline.run_point_lt_of_flush t h s⟩) j :=
  Pipeline.eq_sum_fin_of_reset_step_apply_of_flush (fun n h => (outsAt0 m c n h).2) 2 (fun _ => (0 : EReal))
    (fun p j => k0_pay1 (iblk m c 0 p) (iblk m c 1 p) j) (acc_first m c) (acc_next m c) t h j

/-- The result array after the run is the reference's value. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, out_last m c t h]
  pointwise [k0_pay4, REF]
  rw [acc_last m c t h, zero_add]
  pointwise [k0_pay1]
  refine (add_comm (G := EReal) _ _).trans (congrArg₂ (fun a b : EReal => a + b) ?_ (Fin.sum_mul_add_congr fun s k hl => ?_))
  · blk_point [iblk, V, idx t]
  blk_point [iblk, V, idx t, idx ⟨_, Pipeline.run_point_lt_of_flush t h s⟩]

/-- The claim on the extended reals: kernel and reference leave the same array. -/
theorem algebraic : Cert.algebraic_MlpUpBwdIdeal_MlpUpBwdRefIdeal (hMlpUpBwdIdeal := Cert.MlpUpBwdIdeal.Gen.facts) (hMlpUpBwdRefIdeal := Cert.MlpUpBwdRefIdeal.Gen.facts) := by
  pair_intro
  · run_from Cert.MlpUpBwdIdeal.Gen.run_main m g
  · run_from Cert.MlpUpBwdRefIdeal.Value.run m' g'
    exact (final m c).symm

end Cert.MlpUpBwdIdeal.Product

end
-- ==== Proof.MlpUpWgrad.lean ====
module

public import proofs.«01_k».proof.Proof.Gen.MlpUpWgradIdeal.Frame
public import proofs.«01_k».proof.Proof.Gen.MlpUpWgradRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpUpWgradIdeal.Product
open Cert.MlpUpWgradIdeal Cert.MlpUpWgradIdeal.Gen

variable (m : (ℓ : Loc nD τ sig) → Buf (Elt Ideal) ℓ)

/-- The gradient of a weight over the product's input `X` and the gradient `Y` of its result, its columns in eight slabs of 512. -/
abbrev REF (X : FVec Ideal S4096x1024 .bf16) (Y : FVec Ideal S4096x4096 .bf16) : FVec Ideal S8x1024x512 .bf16 :=
  truncf .bf16 ((concatenate Cert.MlpUpWgradRefIdeal.S8x1024x512 0 [⟨Cert.MlpUpWgradRefIdeal.S1x1024x512, ((broadcastInDim Cert.MlpUpWgradRefIdeal.S1x1024x512 ![1, 2] Cert.MlpUpWgradRefIdeal.Gen.bcast_S1024x512_S1x1024x512_1_2 (extractStridedSlice Cert.MlpUpWgradRefIdeal.S1024x512 ![0, 0] (transpose Cert.MlpUpWgradRefIdeal.S1024x4096 [1, 0] (Host.dotGeneral Cert.MlpUpWgradRefIdeal.dot_S4096x4096_S4096x1024_S4096x1024_0_0_1_1_n_n none (extf .f32 Y Cert.MlpUpWgradRefIdeal.Gen.bitsLt_bf16_f32) (extf .f32 X Cert.MlpUpWgradRefIdeal.Gen.bitsLt_bf16_f32)) Cert.MlpUpWgradRefIdeal.Gen.transposes_S4096x1024_S1024x4096_1_0) Cert.MlpUpWgradRefIdeal.Gen.slices_S1024x4096_S1024x512_0_0)) : (⟨Cert.MlpUpWgradRefIdeal.S1x1024x512, .f32⟩ : BufTy).Contents (Elt Ideal))⟩, ⟨Cert.MlpUpWgradRefIdeal.S1x1024x512, ((broadcastInDim Cert.MlpUpWgradRefIdeal.S1x1024x512 ![1, 2] Cert.MlpUpWgradRefIdeal.Gen.bcast_S1024x512_S1x1024x512_1_2 (extractStridedSlice Cert.MlpUpWgradRefIdeal.S1024x512 ![0, 512] (transpose Cert.MlpUpWgradRefIdeal.S1024x4096 [1, 0] (Host.dotGeneral Cert.MlpUpWgradRefIdeal.dot_S4096x4096_S4096x1024_S4096x1024_0_0_1_1_n_n none (extf .f32 Y Cert.MlpUpWgradRefIdeal.Gen.bitsLt_bf16_f32) (extf .f32 X Cert.MlpUpWgradRefIdeal.Gen.bitsLt_bf16_f32)) Cert.MlpUpWgradRefIdeal.Gen.transposes_S4096x1024_S1024x4096_1_0) Cert.MlpUpWgradRefIdeal.Gen.slices_S1024x4096_S1024x512_0_512)) : (⟨Cert.MlpUpWgradRefIdeal.S1x1024x512, .f32⟩ : BufTy).Contents (Elt Ideal))⟩, ⟨Cert.MlpUpWgradRefIdeal.S1x1024x512, ((broadcastInDim Cert.MlpUpWgradRefIdeal.S1x1024x512 ![1, 2] Cert.MlpUpWgradRefIdeal.Gen.bcast_S1024x512_S1x1024x512_1_2 (extractStridedSlice Cert.MlpUpWgradRefIdeal.S1024x512 ![0, 1024] (transpose Cert.MlpUpWgradRefIdeal.S1024x4096 [1, 0] (Host.dotGeneral Cert.MlpUpWgradRefIdeal.dot_S4096x4096_S4096x1024_S4096x1024_0_0_1_1_n_n none (extf .f32 Y Cert.MlpUpWgradRefIdeal.Gen.bitsLt_bf16_f32) (extf .f32 X Cert.MlpUpWgradRefIdeal.Gen.bitsLt_bf16_f32)) Cert.MlpUpWgradRefIdeal.Gen.transposes_S4096x1024_S1024x4096_1_0) Cert.MlpUpWgradRefIdeal.Gen.slices_S1024x4096_S1024x512_0_1024)) : (⟨Cert.MlpUpWgradRefIdeal.S1x1024x512, .f32⟩ : BufTy).Contents (Elt Ideal))⟩, ⟨Cert.MlpUpWgradRefIdeal.S1x1024x512, ((broadcastInDim Cert.MlpUpWgradRefIdeal.S1x1024x512 ![1, 2] Cert.MlpUpWgradRefIdeal.Gen.bcast_S1024x512_S1x1024x512_1_2 (extractStridedSlice Cert.MlpUpWgradRefIdeal.S1024x512 ![0, 1536] (transpose Cert.MlpUpWgradRefIdeal.S1024x4096 [1, 0] (Host.dotGeneral Cert.MlpUpWgradRefIdeal.dot_S4096x4096_S4096x1024_S4096x1024_0_0_1_1_n_n none (extf .f32 Y Cert.MlpUpWgradRefIdeal.Gen.bitsLt_bf16_f32) (extf .f32 X Cert.MlpUpWgradRefIdeal.Gen.bitsLt_bf16_f32)) Cert.MlpUpWgradRefIdeal.Gen.transposes_S4096x1024_S1024x4096_1_0) Cert.MlpUpWgradRefIdeal.Gen.slices_S1024x4096_S1024x512_0_1536)) : (⟨Cert.MlpUpWgradRefIdeal.S1x1024x512, .f32⟩ : BufTy).Contents (Elt Ideal))⟩, ⟨Cert.MlpUpWgradRefIdeal.S1x1024x512, ((broadcastInDim Cert.MlpUpWgradRefIdeal.S1x1024x512 ![1, 2] Cert.MlpUpWgradRefIdeal.Gen.bcast_S1024x512_S1x1024x512_1_2 (extractStridedSlice Cert.MlpUpWgradRefIdeal.S1024x512 ![0, 2048] (transpose Cert.MlpUpWgradRefIdeal.S1024x4096 [1, 0] (Host.dotGeneral Cert.MlpUpWgradRefIdeal.dot_S4096x4096_S4096x1024_S4096x1024_0_0_1_1_n_n none (extf .f32 Y Cert.MlpUpWgradRefIdeal.Gen.bitsLt_bf16_f32) (extf .f32 X Cert.MlpUpWgradRefIdeal.Gen.bitsLt_bf16_f32)) Cert.MlpUpWgradRefIdeal.Gen.transposes_S4096x1024_S1024x4096_1_0) Cert.MlpUpWgradRefIdeal.Gen.slices_S1024x4096_S1024x512_0_2048)) : (⟨Cert.MlpUpWgradRefIdeal.S1x1024x512, .f32⟩ : BufTy).Contents (Elt Ideal))⟩, ⟨Cert.MlpUpWgradRefIdeal.S1x1024x512, ((broadcastInDim Cert.MlpUpWgradRefIdeal.S1x1024x512 ![1, 2] Cert.MlpUpWgradRefIdeal.Gen.bcast_S1024x512_S1x1024x512_1_2 (extractStridedSlice Cert.MlpUpWgradRefIdeal.S1024x512 ![0, 2560] (transpose Cert.MlpUpWgradRefIdeal.S1024x4096 [1, 0] (Host.dotGeneral Cert.MlpUpWgradRefIdeal.dot_S4096x4096_S4096x1024_S4096x1024_0_0_1_1_n_n none (extf .f32 Y Cert.MlpUpWgradRefIdeal.Gen.bitsLt_bf16_f32) (extf .f32 X Cert.MlpUpWgradRefIdeal.Gen.bitsLt_bf16_f32)) Cert.MlpUpWgradRefIdeal.Gen.transposes_S4096x1024_S1024x4096_1_0) Cert.MlpUpWgradRefIdeal.Gen.slices_S1024x4096_S1024x512_0_2560)) : (⟨Cert.MlpUpWgradRefIdeal.S1x1024x512, .f32⟩ : BufTy).Contents (Elt Ideal))⟩, ⟨Cert.MlpUpWgradRefIdeal.S1x1024x512, ((broadcastInDim Cert.MlpUpWgradRefIdeal.S1x1024x512 ![1, 2] Cert.MlpUpWgradRefIdeal.Gen.bcast_S1024x512_S1x1024x512_1_2 (extractStridedSlice Cert.MlpUpWgradRefIdeal.S1024x512 ![0, 3072] (transpose Cert.MlpUpWgradRefIdeal.S1024x4096 [1, 0] (Host.dotGeneral Cert.MlpUpWgradRefIdeal.dot_S4096x4096_S4096x1024_S4096x1024_0_0_1_1_n_n none (extf .f32 Y Cert.MlpUpWgradRefIdeal.Gen.bitsLt_bf16_f32) (extf .f32 X Cert.MlpUpWgradRefIdeal.Gen.bitsLt_bf16_f32)) Cert.MlpUpWgradRefIdeal.Gen.transposes_S4096x1024_S1024x4096_1_0) Cert.MlpUpWgradRefIdeal.Gen.slices_S1024x4096_S1024x512_0_3072)) : (⟨Cert.MlpUpWgradRefIdeal.S1x1024x512, .f32⟩ : BufTy).Contents (Elt Ideal))⟩, ⟨Cert.MlpUpWgradRefIdeal.S1x1024x512, ((broadcastInDim Cert.MlpUpWgradRefIdeal.S1x1024x512 ![1, 2] Cert.MlpUpWgradRefIdeal.Gen.bcast_S1024x512_S1x1024x512_1_2 (extractStridedSlice Cert.MlpUpWgradRefIdeal.S1024x512 ![0, 3584] (transpose Cert.MlpUpWgradRefIdeal.S1024x4096 [1, 0] (Host.dotGeneral Cert.MlpUpWgradRefIdeal.dot_S4096x4096_S4096x1024_S4096x1024_0_0_1_1_n_n none (extf .f32 Y Cert.MlpUpWgradRefIdeal.Gen.bitsLt_bf16_f32) (extf .f32 X Cert.MlpUpWgradRefIdeal.Gen.bitsLt_bf16_f32)) Cert.MlpUpWgradRefIdeal.Gen.transposes_S4096x1024_S1024x4096_1_0) Cert.MlpUpWgradRefIdeal.Gen.slices_S1024x4096_S1024x512_0_3584)) : (⟨Cert.MlpUpWgradRefIdeal.S1x1024x512, .f32⟩ : BufTy).Contents (Elt Ideal))⟩] Cert.MlpUpWgradRefIdeal.Gen.concatenates_S1x1024x512_S1x1024x512_S1x1024x512_S1x1024x512_S1x1024x512_S1x1024x512_S1x1024x512_S1x1024x512_S8x1024x512_d0 : (⟨Cert.MlpUpWgradRefIdeal.S8x1024x512, .f32⟩ : BufTy).Contents (Elt Ideal))) Cert.MlpUpWgradRefIdeal.Gen.bitsLt_bf16_f32

/-- Which block of its array each window shows at grid point `t`. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The accumulator after the first point of a run is that point's product. -/
theorem acc_first (c : Dev nD) (t : Fin cfg0.N) (h : t.val % 2 = 0) (j) :
    (outsAt0 m c t.val t.isLt).2 j = (0 : EReal) + k0_pay1 (iblk m c 0 t) (iblk m c 1 t) j := by
  rw [outsAt0_A m c t h (by omega) (by omega)]; frame_out
  rw [zero_add]
  pointwise [k0_pay2]

/-- At every other point of a run the accumulator grows by that point's product. -/
theorem acc_next (c : Dev nD) (t : Fin cfg0.N) (h : ¬t.val % 2 = 0) (j) :
    (outsAt0 m c t.val t.isLt).2 j
      = (outsAt0 m c (t.val - 1) (Nat.lt_of_le_of_lt (Nat.sub_le _ _) t.isLt)).2 j
        + k0_pay1 (iblk m c 0 t) (iblk m c 1 t) j := by
    rw [outsAt0_B m c t h (by omega) (by omega)]; frame_out
    rw [read_unread_whole]
    pointwise [k0_pay3]

/-- At the last point of a run the stored block is the epilogue over the accumulator that point leaves. -/
theorem out_last (c : Dev nD) (t : Fin cfg0.N) (h : t.val % 2 = 1) :
    (outsAt0 m c t.val t.isLt).1 = k0_pay4 (outsAt0 m c t.val t.isLt).2 := by
  rw [outsAt0_B m c t (by omega) (by omega) (by omega)]; frame_out

/-- The accumulator at the last point of a run is the sum of the run's products. -/
theorem acc_last (c : Dev nD) (t : Fin cfg0.N) (h : t.val % 2 = 1) (j) :
    (outsAt0 m c t.val t.isLt).2 j
      = (0 : EReal) + ∑ s : Fin 2, k0_pay1 (iblk m c 0 ⟨2 * (t.val / 2) + s.val, Pipeline.run_point_lt_of_flush t h s⟩)
          (iblk m c 1 ⟨2 * (t.val / 2) + s.val, Pipeline.run_point_lt_of_flush t h s⟩) j :=
  Pipeline.eq_sum_fin_of_reset_step_apply_of_flush (fun n h => (outsAt0 m c n h).2) 2 (fun _ => (0 : EReal))
    (fun p j => k0_pay1 (iblk m c 0 p) (iblk m c 1 p) j) (acc_first m c) (acc_next m c) t h j

/-- The reference at slab `i 0`, row `i 1`, column `i 2` of the slab. -/
theorem REF_at (X : FVec Ideal S4096x1024 .bf16) (Y : FVec Ideal S4096x4096 .bf16) (i : S8x1024x512.Idx) (l : Fin 4096)
    (hl : (l : ℕ) = 512 * i 0 + i 2) :
    REF X Y i = ∑ k : Fin 4096, Y (ix2 k l) * X (ix2 k (i 1)) := by
  pointwise [REF]
  blk_point [hl]

/-- The result array after the run is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_last m c t h]
  have hy : 512 * (t.val / 2) + (y 2 : ℕ) < 4096 := by
    have h1 : t.val < 16 := lt_of_lt_of_eq t.isLt N_0
    have h2 : (y 2 : ℕ) < 512 := (y 2).isLt
    omega
  refine Eq.trans ?_ (REF_at _ _ _ ⟨512 * (t.val / 2) + (y 2 : ℕ), hy⟩ ?_).symm
  swap
  · blk_simp [idx t]
  pointwise [k0_pay4]
  rw [acc_last m c t h, zero_add]
  pointwise [k0_pay1]
  refine Fin.sum_mul_add_congr fun s k hl => ?_
  refine (mul_comm (G := EReal) _ _).trans ?_
  blk_point [iblk, V, idx t, idx ⟨_, Pipeline.run_point_lt_of_flush t h s⟩]

/-- The claim on the extended reals: kernel and reference leave the same array. -/
theorem algebraic : Cert.algebraic_MlpUpWgradIdeal_MlpUpWgradRefIdeal (hMlpUpWgradIdeal := Cert.MlpUpWgradIdeal.Gen.facts) (hMlpUpWgradRefIdeal := Cert.MlpUpWgradRefIdeal.Gen.facts) := by
  pair_intro
  · run_from Cert.MlpUpWgradIdeal.Gen.run_main m g
  · run_from Cert.MlpUpWgradRefIdeal.Value.run m' g'
    refine Eq.trans (b := REF (m' ((c.tc : Thread Cert.MlpUpWgradRefIdeal.nD Cert.MlpUpWgradRefIdeal.τ).loc Cert.MlpUpWgradRefIdeal.main_arg0))
      (m' ((c.tc : Thread Cert.MlpUpWgradRefIdeal.nD Cert.MlpUpWgradRefIdeal.τ).loc Cert.MlpUpWgradRefIdeal.main_arg1))) rfl ?_
    rw [(hagree c).1, (hagree c).2]
    exact (final m c).symm

end Cert.MlpUpWgradIdeal.Product

end
-- ==== Proof.OutBwd.lean ====
module

public import proofs.«01_k».proof.Proof.Gen.OutBwdIdeal.Frame
public import proofs.«01_k».proof.Proof.Gen.OutBwdRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutBwdIdeal.Product
open Cert.OutBwdIdeal Cert.OutBwdIdeal.Gen

variable (m : (ℓ : Loc nD τ sig) → Buf (Elt Ideal) ℓ)

/-- The gradient of the input of a product, over the gradient `X` of its result and the weight `Y`. -/
abbrev REF (X : FVec Ideal S4096x1024 .bf16) (Y : FVec Ideal S1024x1024 .bf16) : FVec Ideal S4096x1024 .f32 :=
  Host.dotGeneral Cert.OutBwdRefIdeal.dot_S4096x1024_S1024x1024_S4096x1024_1_1_0_0_n_n none (extf .f32 X Cert.OutBwdRefIdeal.Gen.bitsLt_bf16_f32) (extf .f32 Y Cert.OutBwdRefIdeal.Gen.bitsLt_bf16_f32)

/-- Which block of its array each window shows at grid point `t`. -/
theorem idx : ∀ t : Fin cfg0.N, win0_0.index t = ![t.val, 0] ∧ win0_1.index t = ![0, 0] ∧ win0_2.index t = ![t.val, 0] :=
  (by decide +kernel : ∀ t : Fin grid0.N, _)

/-- What the body stores at index `y` of its block is the reference at the place where `y` lies in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The claim on the extended reals: kernel and reference leave the same array. -/
theorem algebraic : Cert.algebraic_OutBwdIdeal_OutBwdRefIdeal (hOutBwdIdeal := Cert.OutBwdIdeal.Gen.facts) (hOutBwdRefIdeal := Cert.OutBwdRefIdeal.Gen.facts) := by
  pair_intro
  · run_from Cert.OutBwdIdeal.Gen.run_main m g
  · run_from Cert.OutBwdRefIdeal.Value.run m' g'
    exact (final m c).symm

end Cert.OutBwdIdeal.Product

end
-- ==== Proof.OutWgrad.lean ====
module

public import proofs.«01_k».proof.Proof.Gen.OutWgradIdeal.Frame
public import proofs.«01_k».proof.Proof.Gen.OutWgradRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutWgradIdeal.Product
open Cert.OutWgradIdeal Cert.OutWgradIdeal.Gen

variable (m : (ℓ : Loc nD τ sig) → Buf (Elt Ideal) ℓ)

/-- The gradient of a weight, over the product's input `X` and the gradient `Y` of its result. -/
abbrev REF (X : FVec Ideal S4096x1024 .bf16) (Y : FVec Ideal S4096x1024 .bf16) : FVec Ideal S1024x1024 .bf16 :=
  truncf .bf16 (transpose Cert.OutWgradRefIdeal.S1024x1024 [1, 0] (Host.dotGeneral Cert.OutWgradRefIdeal.dot_S4096x1024_S4096x1024_S1024x1024_0_0_1_1_n_n none (extf .f32 Y Cert.OutWgradRefIdeal.Gen.bitsLt_bf16_f32) (extf .f32 X Cert.OutWgradRefIdeal.Gen.bitsLt_bf16_f32)) Cert.OutWgradRefIdeal.Gen.transposes_S1024x1024_S1024x1024_1_0) Cert.OutWgradRefIdeal.Gen.bitsLt_bf16_f32

/-- Which block of its array each window shows at grid point `t`. -/
theorem idx : ∀ t : Fin cfg0.N, win0_0.index t = ![t.val % 2, 0] ∧ win0_1.index t = ![t.val % 2, 0] ∧ win0_2.index t = ![0, 0] :=
  (by decide +kernel : ∀ t : Fin grid0.N, _)

/-- The accumulator after the first point of a run is that point's product. -/
theorem acc_first (c : Dev nD) (t : Fin cfg0.N) (h : t.val % 2 = 0) (j) :
    (outsAt0 m c t.val t.isLt).2 j = (0 : EReal) + k0_pay1 (iblk m c 0 t) (iblk m c 1 t) j := by
  rw [outsAt0_A m c t h (by omega) (by omega)]; frame_out
  rw [zero_add]
  pointwise [k0_pay2]

/-- At every other point of a run the accumulator grows by that point's product. -/
theorem acc_next (c : Dev nD) (t : Fin cfg0.N) (h : ¬t.val % 2 = 0) (j) :
    (outsAt0 m c t.val t.isLt).2 j
      = (outsAt0 m c (t.val - 1) (Nat.lt_of_le_of_lt (Nat.sub_le _ _) t.isLt)).2 j
        + k0_pay1 (iblk m c 0 t) (iblk m c 1 t) j := by
    rw [outsAt0_B m c t h (by omega) (by omega)]; frame_out
    rw [read_unread_whole]
    pointwise [k0_pay3]

/-- At the last point of a run the stored block is the epilogue over the accumulator that point leaves. -/
theorem out_last (c : Dev nD) (t : Fin cfg0.N) (h : t.val % 2 = 1) :
    (outsAt0 m c t.val t.isLt).1 = k0_pay4 (outsAt0 m c t.val t.isLt).2 := by
  rw [outsAt0_B m c t (by omega) (by omega) (by omega)]; frame_out

/-- The accumulator at the last point of a run is the sum of the run's products. -/
theorem acc_last (c : Dev nD) (t : Fin cfg0.N) (h : t.val % 2 = 1) (j) :
    (outsAt0 m c t.val t.isLt).2 j
      = (0 : EReal) + ∑ s : Fin 2, k0_pay1 (iblk m c 0 ⟨2 * (t.val / 2) + s.val, Pipeline.run_point_lt_of_flush t h s⟩)
          (iblk m c 1 ⟨2 * (t.val / 2) + s.val, Pipeline.run_point_lt_of_flush t h s⟩) j :=
  Pipeline.eq_sum_fin_of_reset_step_apply_of_flush (fun n h => (outsAt0 m c n h).2) 2 (fun _ => (0 : EReal))
    (fun p j => k0_pay1 (iblk m c 0 p) (iblk m c 1 p) j) (acc_first m c) (acc_next m c) t h j

/-- The result array after the run is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_last m c t h]
  pointwise [k0_pay4, REF]
  rw [acc_last m c t h, zero_add]
  pointwise [k0_pay1]
  refine Fin.sum_mul_add_congr fun s k hl => ?_
  refine (mul_comm (G := EReal) _ _).trans ?_
  blk_point [iblk, V, idx t, idx ⟨_, Pipeline.run_point_lt_of_flush t h s⟩]

/-- The claim on the extended reals: kernel and reference leave the same array. -/
theorem algebraic : Cert.algebraic_OutWgradIdeal_OutWgradRefIdeal (hOutWgradIdeal := Cert.OutWgradIdeal.Gen.facts) (hOutWgradRefIdeal := Cert.OutWgradRefIdeal.Gen.facts) := by
  pair_intro
  · run_from Cert.OutWgradIdeal.Gen.run_main m g
  · run_from Cert.OutWgradRefIdeal.Value.run m' g'
    exact (final m c).symm

end Cert.OutWgradIdeal.Product

end
-- ==== Proof.BranchBwdA.lean ====
module

public import proofs.«01_k».proof.Proof.Gen.BranchBwdAIdeal.Frame
public import proofs.«01_k».proof.Proof.Gen.BranchBwdARefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BranchBwdAIdeal.Product
open Cert.BranchBwdAIdeal Cert.BranchBwdAIdeal.Gen

variable (m : (ℓ : Loc nD τ sig) → Buf (Elt Ideal) ℓ)

/-- The gradient of the input of a product, over the gradient `X` of its result and the weight `Y`. -/
abbrev REF (X : FVec Ideal S4096x1024 .bf16) (Y : FVec Ideal S1024x1024 .bf16) : FVec Ideal S4096x1024 .bf16 :=
  truncf .bf16 (Host.dotGeneral Cert.BranchBwdARefIdeal.dot_S4096x1024_S1024x1024_S4096x1024_1_1_0_0_n_n none (extf .f32 X Cert.BranchBwdARefIdeal.Gen.bitsLt_bf16_f32) (extf .f32 Y Cert.BranchBwdARefIdeal.Gen.bitsLt_bf16_f32)) Cert.BranchBwdARefIdeal.Gen.bitsLt_bf16_f32

/-- Which block of its array each window shows at grid point `t`. -/
theorem idx : ∀ t : Fin cfg0.N, win0_0.index t = ![t.val, 0] ∧ win0_1.index t = ![0, 0] ∧ win0_2.index t = ![t.val, 0] :=
  (by decide +kernel : ∀ t : Fin grid0.N, _)

/-- What the body stores at index `y` of its block is the reference at the place where `y` lies in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The claim on the extended reals: kernel and reference leave the same array. -/
theorem algebraic : Cert.algebraic_BranchBwdAIdeal_BranchBwdARefIdeal (hBranchBwdAIdeal := Cert.BranchBwdAIdeal.Gen.facts) (hBranchBwdARefIdeal := Cert.BranchBwdARefIdeal.Gen.facts) := by
  pair_intro
  · run_from Cert.BranchBwdAIdeal.Gen.run_main m g
  · run_from Cert.BranchBwdARefIdeal.Value.run m' g'
    exact (final m c).symm

end Cert.BranchBwdAIdeal.Product

end
-- ==== Proof.BranchBwd.lean ====
module

public import proofs.«01_k».proof.Proof.Gen.BranchBwdIdeal.Frame
public import proofs.«01_k».proof.Proof.Gen.BranchBwdRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BranchBwdIdeal.Product
open Cert.BranchBwdIdeal Cert.BranchBwdIdeal.Gen

variable (m : (ℓ : Loc nD τ sig) → Buf (Elt Ideal) ℓ)

/-- The gradient of the input of a product, over the gradient `X` of its result and the weight `Y`. -/
abbrev REF (X : FVec Ideal S4096x1024 .bf16) (Y : FVec Ideal S1024x1024 .bf16) : FVec Ideal S4096x1024 .f32 :=
  Host.dotGeneral Cert.BranchBwdRefIdeal.dot_S4096x1024_S1024x1024_S4096x1024_1_1_0_0_n_n none (extf .f32 X Cert.BranchBwdRefIdeal.Gen.bitsLt_bf16_f32) (extf .f32 Y Cert.BranchBwdRefIdeal.Gen.bitsLt_bf16_f32)

/-- Which block of its array each window shows at grid point `t`. -/
theorem idx : ∀ t : Fin cfg0.N, win0_0.index t = ![t.val, 0] ∧ win0_1.index t = ![0, 0] ∧ win0_2.index t = ![t.val, 0] :=
  (by decide +kernel : ∀ t : Fin grid0.N, _)

/-- What the body stores at index `y` of its block is the reference at the place where `y` lies in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The claim on the extended reals: kernel and reference leave the same array. -/
theorem algebraic : Cert.algebraic_BranchBwdIdeal_BranchBwdRefIdeal (hBranchBwdIdeal := Cert.BranchBwdIdeal.Gen.facts) (hBranchBwdRefIdeal := Cert.BranchBwdRefIdeal.Gen.facts) := by
  pair_intro
  · run_from Cert.BranchBwdIdeal.Gen.run_main m g
  · run_from Cert.BranchBwdRefIdeal.Value.run m' g'
    exact (final m c).symm

end Cert.BranchBwdIdeal.Product

end
-- ==== Proof.BranchWgrad.lean ====
module

public import proofs.«01_k».proof.Proof.Gen.BranchWgradIdeal.Frame
public import proofs.«01_k».proof.Proof.Gen.BranchWgradRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BranchWgradIdeal.Product
open Cert.BranchWgradIdeal Cert.BranchWgradIdeal.Gen

variable (m : (ℓ : Loc nD τ sig) → Buf (Elt Ideal) ℓ)

/-- The gradient of a weight, over the product's input `X` and the gradient `Y` of its result. -/
abbrev REF (X : FVec Ideal S4096x1024 .bf16) (Y : FVec Ideal S4096x1024 .bf16) : FVec Ideal S1024x1024 .bf16 :=
  truncf .bf16 (transpose Cert.BranchWgradRefIdeal.S1024x1024 [1, 0] (Host.dotGeneral Cert.BranchWgradRefIdeal.dot_S4096x1024_S4096x1024_S1024x1024_0_0_1_1_n_n none (extf .f32 Y Cert.BranchWgradRefIdeal.Gen.bitsLt_bf16_f32) (extf .f32 X Cert.BranchWgradRefIdeal.Gen.bitsLt_bf16_f32)) Cert.BranchWgradRefIdeal.Gen.transposes_S1024x1024_S1024x1024_1_0) Cert.BranchWgradRefIdeal.Gen.bitsLt_bf16_f32

/-- Which block of its array each window shows at grid point `t`. -/
theorem idx : ∀ t : Fin cfg0.N, win0_0.index t = ![t.val % 2, 0] ∧ win0_1.index t = ![t.val % 2, 0] ∧ win0_2.index t = ![0, 0] :=
  (by decide +kernel : ∀ t : Fin grid0.N, _)

/-- The accumulator after the first point of a run is that point's product. -/
theorem acc_first (c : Dev nD) (t : Fin cfg0.N) (h : t.val % 2 = 0) (j) :
    (outsAt0 m c t.val t.isLt).2 j = (0 : EReal) + k0_pay1 (iblk m c 0 t) (iblk m c 1 t) j := by
  rw [outsAt0_A m c t h (by omega) (by omega)]; frame_out
  rw [zero_add]
  pointwise [k0_pay2]

/-- At every other point of a run the accumulator grows by that point's product. -/
theorem acc_next (c : Dev nD) (t : Fin cfg0.N) (h : ¬t.val % 2 = 0) (j) :
    (outsAt0 m c t.val t.isLt).2 j
      = (outsAt0 m c (t.val - 1) (Nat.lt_of_le_of_lt (Nat.sub_le _ _) t.isLt)).2 j
        + k0_pay1 (iblk m c 0 t) (iblk m c 1 t) j := by
    rw [outsAt0_B m c t h (by omega) (by omega)]; frame_out
    rw [read_unread_whole]
    pointwise [k0_pay3]

/-- At the last point of a run the stored block is the epilogue over the accumulator that point leaves. -/
theorem out_last (c : Dev nD) (t : Fin cfg0.N) (h : t.val % 2 = 1) :
    (outsAt0 m c t.val t.isLt).1 = k0_pay4 (outsAt0 m c t.val t.isLt).2 := by
  rw [outsAt0_B m c t (by omega) (by omega) (by omega)]; frame_out

/-- The accumulator at the last point of a run is the sum of the run's products. -/
theorem acc_last (c : Dev nD) (t : Fin cfg0.N) (h : t.val % 2 = 1) (j) :
    (outsAt0 m c t.val t.isLt).2 j
      = (0 : EReal) + ∑ s : Fin 2, k0_pay1 (iblk m c 0 ⟨2 * (t.val / 2) + s.val, Pipeline.run_point_lt_of_flush t h s⟩)
          (iblk m c 1 ⟨2 * (t.val / 2) + s.val, Pipeline.run_point_lt_of_flush t h s⟩) j :=
  Pipeline.eq_sum_fin_of_reset_step_apply_of_flush (fun n h => (outsAt0 m c n h).2) 2 (fun _ => (0 : EReal))
    (fun p j => k0_pay1 (iblk m c 0 p) (iblk m c 1 p) j) (acc_first m c) (acc_next m c) t h j

/-- The result array after the run is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_last m c t h]
  pointwise [k0_pay4, REF]
  rw [acc_last m c t h, zero_add]
  pointwise [k0_pay1]
  refine Fin.sum_mul_add_congr fun s k hl => ?_
  refine (mul_comm (G := EReal) _ _).trans ?_
  blk_point [iblk, V, idx t, idx ⟨_, Pipeline.run_point_lt_of_flush t h s⟩]

/-- The claim on the extended reals: kernel and reference leave the same array. -/
theorem algebraic : Cert.algebraic_BranchWgradIdeal_BranchWgradRefIdeal (hBranchWgradIdeal := Cert.BranchWgradIdeal.Gen.facts) (hBranchWgradRefIdeal := Cert.BranchWgradRefIdeal.Gen.facts) := by
  pair_intro
  · run_from Cert.BranchWgradIdeal.Gen.run_main m g
  · run_from Cert.BranchWgradRefIdeal.Value.run m' g'
    exact (final m c).symm

end Cert.BranchWgradIdeal.Product

end
-- ==== Proof.ProjWgrad.lean ====
module

public import proofs.«01_k».proof.Proof.Gen.ProjWgradIdeal.Frame
public import proofs.«01_k».proof.Proof.Gen.ProjWgradRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjWgradIdeal.Product
open Cert.ProjWgradIdeal Cert.ProjWgradIdeal.Gen

variable (m : (ℓ : Loc nD τ sig) → Buf (Elt Ideal) ℓ)

/-- The gradient of a weight, over the product's input `X` and the gradient `Y` of its result. -/
abbrev REF (X : FVec Ideal S4096x1024 .bf16) (Y : FVec Ideal S4096x12800 .bf16) : FVec Ideal S1024x12800 .bf16 :=
  truncf .bf16 (transpose Cert.ProjWgradRefIdeal.S1024x12800 [1, 0] (Host.dotGeneral Cert.ProjWgradRefIdeal.dot_S4096x12800_S4096x1024_S12800x1024_0_0_1_1_n_n none (extf .f32 Y Cert.ProjWgradRefIdeal.Gen.bitsLt_bf16_f32) (extf .f32 X Cert.ProjWgradRefIdeal.Gen.bitsLt_bf16_f32)) Cert.ProjWgradRefIdeal.Gen.transposes_S12800x1024_S1024x12800_1_0) Cert.ProjWgradRefIdeal.Gen.bitsLt_bf16_f32

/-- Which block of its array each window shows at grid point `t`. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- The accumulator after the first point of a run is that point's product. -/
theorem acc_first (c : Dev nD) (t : Fin cfg0.N) (h : t.val % 2 = 0) (j) :
    (outsAt0 m c t.val t.isLt).2 j = (0 : EReal) + k0_pay1 (iblk m c 0 t) (iblk m c 1 t) j := by
  rw [outsAt0_A m c t h (by omega) (by omega)]; frame_out
  rw [zero_add]
  pointwise [k0_pay2]

/-- At every other point of a run the accumulator grows by that point's product. -/
theorem acc_next (c : Dev nD) (t : Fin cfg0.N) (h : ¬t.val % 2 = 0) (j) :
    (outsAt0 m c t.val t.isLt).2 j
      = (outsAt0 m c (t.val - 1) (Nat.lt_of_le_of_lt (Nat.sub_le _ _) t.isLt)).2 j
        + k0_pay1 (iblk m c 0 t) (iblk m c 1 t) j := by
    rw [outsAt0_B m c t h (by omega) (by omega)]; frame_out
    rw [read_unread_whole]
    pointwise [k0_pay3]

/-- At the last point of a run the stored block is the epilogue over the accumulator that point leaves. -/
theorem out_last (c : Dev nD) (t : Fin cfg0.N) (h : t.val % 2 = 1) :
    (outsAt0 m c t.val t.isLt).1 = k0_pay4 (outsAt0 m c t.val t.isLt).2 := by
  rw [outsAt0_B m c t (by omega) (by omega) (by omega)]; frame_out

/-- The accumulator at the last point of a run is the sum of the run's products. -/
theorem acc_last (c : Dev nD) (t : Fin cfg0.N) (h : t.val % 2 = 1) (j) :
    (outsAt0 m c t.val t.isLt).2 j
      = (0 : EReal) + ∑ s : Fin 2, k0_pay1 (iblk m c 0 ⟨2 * (t.val / 2) + s.val, Pipeline.run_point_lt_of_flush t h s⟩)
          (iblk m c 1 ⟨2 * (t.val / 2) + s.val, Pipeline.run_point_lt_of_flush t h s⟩) j :=
  Pipeline.eq_sum_fin_of_reset_step_apply_of_flush (fun n h => (outsAt0 m c n h).2) 2 (fun _ => (0 : EReal))
    (fun p j => k0_pay1 (iblk m c 0 p) (iblk m c 1 p) j) (acc_first m c) (acc_next m c) t h j

/-- The result array after the run is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_last m c t h]
  pointwise [k0_pay4, REF]
  rw [acc_last m c t h, zero_add]
  pointwise [k0_pay1]
  refine Fin.sum_mul_add_congr fun s k hl => ?_
  refine (mul_comm (G := EReal) _ _).trans ?_
  blk_point [iblk, V, idx t, idx ⟨_, Pipeline.run_point_lt_of_flush t h s⟩]

/-- The claim on the extended reals: kernel and reference leave the same array. -/
theorem algebraic : Cert.algebraic_ProjWgradIdeal_ProjWgradRefIdeal (hProjWgradIdeal := Cert.ProjWgradIdeal.Gen.facts) (hProjWgradRefIdeal := Cert.ProjWgradRefIdeal.Gen.facts) := by
  pair_intro
  · run_from Cert.ProjWgradIdeal.Gen.run_main m g
  · run_from Cert.ProjWgradRefIdeal.Value.run m' g'
    exact (final m c).symm

end Cert.ProjWgradIdeal.Product

end
-- ==== Proof.ProjBwd.lean ====
module

public import proofs.«01_k».proof.Proof.Gen.ProjBwdIdeal.Frame
public import proofs.«01_k».proof.Proof.Gen.ProjBwdRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjBwdIdeal.Product
open Cert.ProjBwdIdeal Cert.ProjBwdIdeal.Gen

variable (m : (ℓ : Loc nD τ sig) → Buf (Elt Ideal) ℓ)

/-- The gradient of the input of a product, added to the gradient `Z` that reached that input by another way; `X` is the gradient of the product's result, `Y` the weight. -/
abbrev REF (X : FVec Ideal S4096x12800 .bf16) (Y : FVec Ideal S1024x12800 .bf16) (Z : FVec Ideal S4096x1024 .f32) : FVec Ideal S4096x1024 .f32 :=
  addf Z (Host.dotGeneral Cert.ProjBwdRefIdeal.dot_S4096x12800_S1024x12800_S4096x1024_1_1_0_0_n_n none (extf .f32 X Cert.ProjBwdRefIdeal.Gen.bitsLt_bf16_f32) (extf .f32 Y Cert.ProjBwdRefIdeal.Gen.bitsLt_bf16_f32))

/-- Which block of its array each window shows at grid point `t`. -/
theorem idx : ∀ t : Fin cfg0.N, win0_0.index t = ![t.val / 5, t.val % 5] ∧ win0_1.index t = ![0, t.val % 5] ∧ win0_2.index t = ![t.val / 5, 0] ∧ win0_3.index t = ![t.val / 5, 0] :=
  (by decide +kernel : ∀ t : Fin grid0.N, _)

/-- The accumulator after the first point of a run is that point's product. -/
theorem acc_first (c : Dev nD) (t : Fin cfg0.N) (h : t.val % 5 = 0) (j) :
    (outsAt0 m c t.val t.isLt).2 j = (0 : EReal) + k0_pay1 (iblk m c 0 t) (iblk m c 1 t) j := by
  rw [outsAt0_A m c t h (by omega) (by omega)]; frame_out
  rw [zero_add]
  pointwise [k0_pay2]

/-- At every other point of a run the accumulator grows by that point's product. -/
theorem acc_next (c : Dev nD) (t : Fin cfg0.N) (h : ¬t.val % 5 = 0) (j) :
    (outsAt0 m c t.val t.isLt).2 j
      = (outsAt0 m c (t.val - 1) (Nat.lt_of_le_of_lt (Nat.sub_le _ _) t.isLt)).2 j
        + k0_pay1 (iblk m c 0 t) (iblk m c 1 t) j := by
    by_cases hl : t.val % 5 = 4
    · rw [outsAt0_C m c t h (by omega) hl]; frame_out
      rw [read_unread_whole]
      pointwise [k0_pay3]
    · rw [outsAt0_B m c t h (by omega) hl]; frame_out
      rw [read_unread_whole]
      pointwise [k0_pay3]

/-- At the last point of a run the stored block is the epilogue over the accumulator that point leaves. -/
theorem out_last (c : Dev nD) (t : Fin cfg0.N) (h : t.val % 5 = 4) :
    (outsAt0 m c t.val t.isLt).1 = k0_pay4 (outsAt0 m c t.val t.isLt).2 (iblk m c 2 t) := by
  rw [outsAt0_C m c t (by omega) (by omega) (by omega)]; frame_out

/-- The accumulator at the last point of a run is the sum of the run's products. -/
theorem acc_last (c : Dev nD) (t : Fin cfg0.N) (h : t.val % 5 = 4) (j) :
    (outsAt0 m c t.val t.isLt).2 j
      = (0 : EReal) + ∑ s : Fin 5, k0_pay1 (iblk m c 0 ⟨5 * (t.val / 5) + s.val, Pipeline.run_point_lt_of_flush t h s⟩)
          (iblk m c 1 ⟨5 * (t.val / 5) + s.val, Pipeline.run_point_lt_of_flush t h s⟩) j :=
  Pipeline.eq_sum_fin_of_reset_step_apply_of_flush (fun n h => (outsAt0 m c n h).2) 5 (fun _ => (0 : EReal))
    (fun p j => k0_pay1 (iblk m c 0 p) (iblk m c 1 p) j) (acc_first m c) (acc_next m c) t h j

/-- The result array after the run is the reference's value. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, out_last m c t h]
  pointwise [k0_pay4, REF]
  rw [acc_last m c t h, zero_add]
  pointwise [k0_pay1]
  refine (add_comm (G := EReal) _ _).trans (congrArg₂ (fun a b : EReal => a + b) ?_ (Fin.sum_mul_add_congr fun s k hl => ?_))
  · blk_point [iblk, V, idx t]
  blk_point [iblk, V, idx t, idx ⟨_, Pipeline.run_point_lt_of_flush t h s⟩]

/-- The claim on the extended reals: kernel and reference leave the same array. -/
theorem algebraic : Cert.algebraic_ProjBwdIdeal_ProjBwdRefIdeal (hProjBwdIdeal := Cert.ProjBwdIdeal.Gen.facts) (hProjBwdRefIdeal := Cert.ProjBwdRefIdeal.Gen.facts) := by
  pair_intro
  · run_from Cert.ProjBwdIdeal.Gen.run_main m g
  · run_from Cert.ProjBwdRefIdeal.Value.run m' g'
    exact (final m c).symm

end Cert.ProjBwdIdeal.Product

end
-- ==== Proof.LnBwd.lean ====
module

public import proofs.«01_k».proof.Proof.Gen.LnBwdIdeal.Frame
public import proofs.«01_k».proof.Proof.Gen.LnBwdRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LnBwdIdeal.Product
open Cert.LnBwdIdeal Cert.LnBwdIdeal.Gen

variable (m : (ℓ : Loc nD τ sig) → Buf (Elt Ideal) ℓ)

/-- Each row less its mean. -/
abbrev CENTRED (V : FVec Ideal Cert.LnBwdRefIdeal.S4096x1024 .f32) : FVec Ideal Cert.LnBwdRefIdeal.S4096x1024 .f32 :=
  subf V (broadcastInDim Cert.LnBwdRefIdeal.S4096x1024 ![0, 1] Cert.LnBwdRefIdeal.Gen.bcast_S4096x1_S4096x1024_0_1 (Host.divf (broadcastInDim Cert.LnBwdRefIdeal.S4096x1 ![0] Cert.LnBwdRefIdeal.Gen.bcast_S4096_S4096x1_0 (Host.reduceAdd V (constant Cert.LnBwdRefIdeal.S_ .f32 0x00000000#32) Cert.LnBwdRefIdeal.Gen.reducesTo_S4096x1024_S4096_d1 Cert.LnBwdRefIdeal.Gen.h_S_)) (broadcastInDim Cert.LnBwdRefIdeal.S4096x1 ![] Cert.LnBwdRefIdeal.Gen.bcast_S_S4096x1 (constant Cert.LnBwdRefIdeal.S_ .f32 0x44800000#32))))

/-- Each row's variance plus a small number. -/
abbrev VARIANCE (V : FVec Ideal Cert.LnBwdRefIdeal.S4096x1024 .f32) : FVec Ideal Cert.LnBwdRefIdeal.S4096x1 .f32 :=
  addf (Host.divf (broadcastInDim Cert.LnBwdRefIdeal.S4096x1 ![0] Cert.LnBwdRefIdeal.Gen.bcast_S4096_S4096x1_0 (Host.reduceAdd (mulf (CENTRED V) (CENTRED V)) (constant Cert.LnBwdRefIdeal.S_ .f32 0x00000000#32) Cert.LnBwdRefIdeal.Gen.reducesTo_S4096x1024_S4096_d1 Cert.LnBwdRefIdeal.Gen.h_S_)) (broadcastInDim Cert.LnBwdRefIdeal.S4096x1 ![] Cert.LnBwdRefIdeal.Gen.bcast_S_S4096x1 (constant Cert.LnBwdRefIdeal.S_ .f32 0x44800000#32))) (broadcastInDim Cert.LnBwdRefIdeal.S4096x1 ![] Cert.LnBwdRefIdeal.Gen.bcast_S_S4096x1 (constant Cert.LnBwdRefIdeal.S_ .f32 0x3727C5AC#32))

/-- The gradient `D` of the norm times the norm's weight. -/
abbrev SCALED (D : FVec Ideal Cert.LnBwdRefIdeal.S4096x1024 .f32) (G : FVec Ideal Cert.LnBwdRefIdeal.S1x1024 .f32) : FVec Ideal Cert.LnBwdRefIdeal.S4096x1024 .f32 :=
  mulf (shapeCast Cert.LnBwdRefIdeal.S4096x1024 D Cert.LnBwdRefIdeal.Gen.shapeCasts_S4096x1024_S4096x1024) (broadcastInDim Cert.LnBwdRefIdeal.S4096x1024 ![0, 1] Cert.LnBwdRefIdeal.Gen.bcast_S1x1024_S4096x1024_0_1 G)

/-- The gradient of each row's variance, spread over the row. -/
abbrev OFVARIANCE (V D : FVec Ideal Cert.LnBwdRefIdeal.S4096x1024 .f32) (G : FVec Ideal Cert.LnBwdRefIdeal.S1x1024 .f32) : FVec Ideal Cert.LnBwdRefIdeal.S4096x1024 .f32 :=
  broadcastInDim Cert.LnBwdRefIdeal.S4096x1024 ![0] Cert.LnBwdRefIdeal.Gen.bcast_S4096_S4096x1024_0 (Host.reduceAdd (Host.divf (mulf (shapeCast Cert.LnBwdRefIdeal.S4096x1 (Host.reduceAdd (mulf (CENTRED V) (SCALED D G)) (constant Cert.LnBwdRefIdeal.S_ .f32 0x00000000#32) Cert.LnBwdRefIdeal.Gen.reducesTo_S4096x1024_S4096_d1 Cert.LnBwdRefIdeal.Gen.h_S_) Cert.LnBwdRefIdeal.Gen.shapeCasts_S4096_S4096x1) (mulf (broadcastInDim Cert.LnBwdRefIdeal.S4096x1 ![] Cert.LnBwdRefIdeal.Gen.bcast_S_S4096x1 (constant Cert.LnBwdRefIdeal.S_ .f32 0xBF000000#32)) (Host.divf (Host.rsqrt (VARIANCE V)) (VARIANCE V)))) (broadcastInDim Cert.LnBwdRefIdeal.S4096x1 ![] Cert.LnBwdRefIdeal.Gen.bcast_S_S4096x1 (constant Cert.LnBwdRefIdeal.S_ .f32 0x44800000#32))) (constant Cert.LnBwdRefIdeal.S_ .f32 0x00000000#32) Cert.LnBwdRefIdeal.Gen.reducesTo_S4096x1_S4096_d1 Cert.LnBwdRefIdeal.Gen.h_S_)

/-- The gradient of the rows less their means. -/
abbrev OFCENTRED (V D : FVec Ideal Cert.LnBwdRefIdeal.S4096x1024 .f32) (G : FVec Ideal Cert.LnBwdRefIdeal.S1x1024 .f32) : FVec Ideal Cert.LnBwdRefIdeal.S4096x1024 .f32 :=
  addf (addf (mulf (SCALED D G) (broadcastInDim Cert.LnBwdRefIdeal.S4096x1024 ![0, 1] Cert.LnBwdRefIdeal.Gen.bcast_S4096x1_S4096x1024_0_1 (Host.rsqrt (VARIANCE V)))) (mulf (CENTRED V) (OFVARIANCE V D G))) (mulf (OFVARIANCE V D G) (CENTRED V))

/-- The gradient of the norm's input. -/
abbrev OFINPUT (V D : FVec Ideal Cert.LnBwdRefIdeal.S4096x1024 .f32) (G : FVec Ideal Cert.LnBwdRefIdeal.S1x1024 .f32) : FVec Ideal Cert.LnBwdRefIdeal.S4096x1024 .f32 :=
  addf (OFCENTRED V D G) (broadcastInDim Cert.LnBwdRefIdeal.S4096x1024 ![0] Cert.LnBwdRefIdeal.Gen.bcast_S4096_S4096x1024_0 (Host.reduceAdd (Host.divf (shapeCast Cert.LnBwdRefIdeal.S4096x1 (Host.reduceAdd (Host.negf (OFCENTRED V D G)) (constant Cert.LnBwdRefIdeal.S_ .f32 0x00000000#32) Cert.LnBwdRefIdeal.Gen.reducesTo_S4096x1024_S4096_d1 Cert.LnBwdRefIdeal.Gen.h_S_) Cert.LnBwdRefIdeal.Gen.shapeCasts_S4096_S4096x1) (broadcastInDim Cert.LnBwdRefIdeal.S4096x1 ![] Cert.LnBwdRefIdeal.Gen.bcast_S_S4096x1 (constant Cert.LnBwdRefIdeal.S_ .f32 0x44800000#32))) (constant Cert.LnBwdRefIdeal.S_ .f32 0x00000000#32) Cert.LnBwdRefIdeal.Gen.reducesTo_S4096x1_S4096_d1 Cert.LnBwdRefIdeal.Gen.h_S_))

/-- The gradient of the norm's weight. -/
abbrev OFWEIGHT (V D : FVec Ideal Cert.LnBwdRefIdeal.S4096x1024 .f32) : FVec Ideal Cert.LnBwdRefIdeal.S1x1024 .f32 :=
  shapeCast Cert.LnBwdRefIdeal.S1x1024 (Host.reduceAdd (mulf (mulf (CENTRED V) (broadcastInDim Cert.LnBwdRefIdeal.S4096x1024 ![0, 1] Cert.LnBwdRefIdeal.Gen.bcast_S4096x1_S4096x1024_0_1 (Host.rsqrt (VARIANCE V)))) (shapeCast Cert.LnBwdRefIdeal.S4096x1024 D Cert.LnBwdRefIdeal.Gen.shapeCasts_S4096x1024_S4096x1024)) (constant Cert.LnBwdRefIdeal.S_ .f32 0x00000000#32) Cert.LnBwdRefIdeal.Gen.reducesTo_S4096x1024_S1024_d0 Cert.LnBwdRefIdeal.Gen.h_S_) Cert.LnBwdRefIdeal.Gen.shapeCasts_S1024_S1x1024

/-- The gradient of the norm's shift. -/
abbrev OFSHIFT (D : FVec Ideal Cert.LnBwdRefIdeal.S4096x1024 .f32) : FVec Ideal Cert.LnBwdRefIdeal.S1x1024 .f32 :=
  shapeCast Cert.LnBwdRefIdeal.S1x1024 (Host.reduceAdd D (constant Cert.LnBwdRefIdeal.S_ .f32 0x00000000#32) Cert.LnBwdRefIdeal.Gen.reducesTo_S4096x1024_S1024_d0 Cert.LnBwdRefIdeal.Gen.h_S_) Cert.LnBwdRefIdeal.Gen.shapeCasts_S1024_S1x1024

/-- The norm's input: the residual times the fixed factor, plus the branch. -/
abbrev RESIDUAL (X Y : FVec Ideal Cert.LnBwdRefIdeal.S4096x1024 .f32) : FVec Ideal Cert.LnBwdRefIdeal.S4096x1024 .f32 :=
  addf (mulf (broadcastInDim Cert.LnBwdRefIdeal.S4096x1024 ![] Cert.LnBwdRefIdeal.Gen.bcast_S_S4096x1024 (constant Cert.LnBwdRefIdeal.S_ .f32 0x3FB504F3#32)) X) Y

/-- The gradient that goes on along the residual. -/
abbrev ONWARD (V D : FVec Ideal Cert.LnBwdRefIdeal.S4096x1024 .f32) (G : FVec Ideal Cert.LnBwdRefIdeal.S1x1024 .f32) : FVec Ideal Cert.LnBwdRefIdeal.S4096x1024 .f32 :=
  mulf (broadcastInDim Cert.LnBwdRefIdeal.S4096x1024 ![] Cert.LnBwdRefIdeal.Gen.bcast_S_S4096x1024 (constant Cert.LnBwdRefIdeal.S_ .f32 0x3FB504F3#32)) (OFINPUT V D G)

/-- The gradient that goes on into the branch, rounded. -/
abbrev INTO (V D : FVec Ideal Cert.LnBwdRefIdeal.S4096x1024 .f32) (G : FVec Ideal Cert.LnBwdRefIdeal.S1x1024 .f32) : FVec Ideal Cert.LnBwdRefIdeal.S4096x1024 .bf16 :=
  truncf .bf16 (OFINPUT V D G) Cert.LnBwdRefIdeal.Gen.bitsLt_bf16_f32

/-- Which block of its array each window shows at grid point `t`. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![t.val, 0] ∧ win0_7.index t = ![0, 0] ∧ win0_8.index t = ![0, 0] :=
  (by decide +kernel : ∀ t : Fin grid0.N, _)

/-- What the body computes of the norm's input's gradient at index `y` of its block is the reference at the place where
    `y` lies in the array. -/
theorem input_point (c : Dev nD) (t : Fin cfg0.N) (y) :
    k0_pay10 (k0_pay1 (iblk m c 0 t) (iblk m c 1 t)) (k0_pay8 (iblk m c 0 t) (iblk m c 1 t) (iblk m c 2 t) (iblk m c 3 t)) (k0_pay9 (iblk m c 0 t) (iblk m c 1 t) (iblk m c 2 t) (iblk m c 3 t)) (Scalar.ofBits .f32 0x44800000#32) y
      = OFINPUT (RESIDUAL (m ((c : Thread nD τ).loc main_arg0)) (m ((c : Thread nD τ).loc main_arg1))) (m ((c : Thread nD τ).loc main_arg2)) (m ((c : Thread nD τ).loc main_arg3)) (((cfg0.win 5).blk t).view.emb y) := by
  pointwise [k0_pay1, k0_pay2, k0_pay3, k0_pay4, k0_pay7, k0_pay8, k0_pay9, k0_pay10, OFINPUT, OFCENTRED, OFVARIANCE, SCALED, VARIANCE, CENTRED, RESIDUAL, zero_sub]
  blk_point [iblk, V, idx t]

/-- The block of the gradient along the residual, at every grid point. -/
theorem onward_out (c : Dev nD) (t : Fin cfg0.N) : (outsAt0 m c t.val t.isLt).1
    = k0_pay11 (k0_pay1 (iblk m c 0 t) (iblk m c 1 t)) (k0_pay8 (iblk m c 0 t) (iblk m c 1 t) (iblk m c 2 t) (iblk m c 3 t)) (k0_pay9 (iblk m c 0 t) (iblk m c 1 t) (iblk m c 2 t) (iblk m c 3 t)) (Scalar.ofBits .f32 0x44800000#32) := by
  have hN : t.val < 8 := lt_of_lt_of_eq t.isLt N_0
  by_cases h : t.val % 8 = 0
  · rw [outsAt0_A m c t h (by omega) h (by omega)]; frame_out
  · rw [outsAt0_B m c t h (by omega) h (by omega)]; frame_out

/-- The array of the gradient along the residual after the run is the reference's value. -/
theorem onward_final (c : Dev nD) : (dats m 0 c).arrAt 5 (cfgs 0).N = ONWARD (RESIDUAL (m ((c : Thread nD τ).loc main_arg0)) (m ((c : Thread nD τ).loc main_arg1))) (m ((c : Thread nD τ).loc main_arg2)) (m ((c : Thread nD τ).loc main_arg3)) := by
  refine (dats m 0 c).arrAt_eq_of_covers 5 _ (by decide +kernel) fun t _ y => ?_
  blk_simp
  rw [after0_5, onward_out m c t]
  show _ * _ = _ * _
  exact congrArg (_ * ·) (input_point m c t y)

/-- The block of the gradient into the branch, at every grid point. -/
theorem into_out (c : Dev nD) (t : Fin cfg0.N) : (outsAt0 m c t.val t.isLt).2.1
    = k0_pay12 (k0_pay1 (iblk m c 0 t) (iblk m c 1 t)) (k0_pay8 (iblk m c 0 t) (iblk m c 1 t) (iblk m c 2 t) (iblk m c 3 t)) (k0_pay9 (iblk m c 0 t) (iblk m c 1 t) (iblk m c 2 t) (iblk m c 3 t)) (Scalar.ofBits .f32 0x44800000#32) := by
  have hN : t.val < 8 := lt_of_lt_of_eq t.isLt N_0
  by_cases h : t.val % 8 = 0
  · rw [outsAt0_A m c t h (by omega) h (by omega)]; frame_out
  · rw [outsAt0_B m c t h (by omega) h (by omega)]; frame_out

/-- The array of the gradient into the branch after the run is the reference's value. -/
theorem into_final (c : Dev nD) : (dats m 0 c).arrAt 6 (cfgs 0).N = INTO (RESIDUAL (m ((c : Thread nD τ).loc main_arg0)) (m ((c : Thread nD τ).loc main_arg1))) (m ((c : Thread nD τ).loc main_arg2)) (m ((c : Thread nD τ).loc main_arg3)) := by
  refine (dats m 0 c).arrAt_eq_of_covers 6 _ (by decide +kernel) fun t _ y => ?_
  blk_simp
  rw [after0_6, into_out m c t]
  exact input_point m c t y

/-- The sum for `weight` after the first grid point is that point's. -/
theorem weight_first (c : Dev nD) (t : Fin cfg0.N) (h : t.val % 8 = 0) (j) :
    (outsAt0 m c t.val t.isLt).2.2.1 j = (0 : EReal) + k0_pay6 (iblk m c 0 t) (iblk m c 1 t) (iblk m c 2 t) j := by
  have hN : t.val < 8 := lt_of_lt_of_eq t.isLt N_0
  rw [outsAt0_A m c t h (by omega) h (by omega)]; frame_out
  rw [zero_add]

/-- At every other point the sum grows by that point's. -/
theorem weight_next (c : Dev nD) (t : Fin cfg0.N) (h : ¬t.val % 8 = 0) (j) :
    (outsAt0 m c t.val t.isLt).2.2.1 j
      = (outsAt0 m c (t.val - 1) (Nat.lt_of_le_of_lt (Nat.sub_le _ _) t.isLt)).2.2.1 j + k0_pay6 (iblk m c 0 t) (iblk m c 1 t) (iblk m c 2 t) j := by
  rw [outsAt0_B m c t h (by omega) h (by omega)]; frame_out
  pointwise [k0_pay13]

/-- The array of `weight` after the run is the reference's value. -/
theorem weight_final (c : Dev nD) : (dats m 0 c).arrAt 7 (cfgs 0).N = OFWEIGHT (RESIDUAL (m ((c : Thread nD τ).loc main_arg0)) (m ((c : Thread nD τ).loc main_arg1))) (m ((c : Thread nD τ).loc main_arg2)) := by
  refine (dats m 0 c).arrAt_eq_of_covers 7 _ (by decide +kernel) fun t hf y => ?_
  have h := (flush0_7 t).mp hf
  have hN : t.val < 8 := lt_of_lt_of_eq t.isLt N_0
  blk_simp
  rw [after0_7]
  refine (Pipeline.eq_sum_fin_of_reset_step_apply_of_flush (fun n h => (outsAt0 m c n h).2.2.1) 8 (fun _ => (0 : EReal))
    (fun p j => k0_pay6 (iblk m c 0 p) (iblk m c 1 p) (iblk m c 2 p) j) (weight_first m c) (weight_next m c) t h y).trans ?_
  rw [zero_add]
  pointwise [k0_pay6, k0_pay1, k0_pay2, k0_pay3, k0_pay4, OFWEIGHT, VARIANCE, CENTRED, RESIDUAL]
  refine Fin.sum_mul_add_congr fun s k hl => ?_
  blk_point [iblk, V, idx t, idx ⟨_, Pipeline.run_point_lt_of_flush t h s⟩]

/-- The sum for `shift` after the first grid point is that point's. -/
theorem shift_first (c : Dev nD) (t : Fin cfg0.N) (h : t.val % 8 = 0) (j) :
    (outsAt0 m c t.val t.isLt).2.2.2 j = (0 : EReal) + k0_pay5 (iblk m c 2 t) j := by
  have hN : t.val < 8 := lt_of_lt_of_eq t.isLt N_0
  rw [outsAt0_A m c t h (by omega) h (by omega)]; frame_out
  rw [zero_add]

/-- At every other point the sum grows by that point's. -/
theorem shift_next (c : Dev nD) (t : Fin cfg0.N) (h : ¬t.val % 8 = 0) (j) :
    (outsAt0 m c t.val t.isLt).2.2.2 j
      = (outsAt0 m c (t.val - 1) (Nat.lt_of_le_of_lt (Nat.sub_le _ _) t.isLt)).2.2.2 j + k0_pay5 (iblk m c 2 t) j := by
  rw [outsAt0_B m c t h (by omega) h (by omega)]; frame_out
  pointwise [k0_pay14]

/-- The array of `shift` after the run is the reference's value. -/
theorem shift_final (c : Dev nD) : (dats m 0 c).arrAt 8 (cfgs 0).N = OFSHIFT (m ((c : Thread nD τ).loc main_arg2)) := by
  refine (dats m 0 c).arrAt_eq_of_covers 8 _ (by decide +kernel) fun t hf y => ?_
  have h := (flush0_8 t).mp hf
  have hN : t.val < 8 := lt_of_lt_of_eq t.isLt N_0
  blk_simp
  rw [after0_8]
  refine (Pipeline.eq_sum_fin_of_reset_step_apply_of_flush (fun n h => (outsAt0 m c n h).2.2.2) 8 (fun _ => (0 : EReal))
    (fun p j => k0_pay5 (iblk m c 2 p) j) (shift_first m c) (shift_next m c) t h y).trans ?_
  rw [zero_add]
  pointwise [k0_pay5, OFSHIFT]
  refine Fin.sum_mul_add_congr fun s k hl => ?_
  blk_point [iblk, V, idx t, idx ⟨_, Pipeline.run_point_lt_of_flush t h s⟩]

/-- The claim on the extended reals: kernel and reference leave the same arrays. -/
theorem algebraic : Cert.algebraic_LnBwdIdeal_LnBwdRefIdeal (hLnBwdIdeal := Cert.LnBwdIdeal.Gen.facts) (hLnBwdRefIdeal := Cert.LnBwdRefIdeal.Gen.facts) := by
  pair_intro
  · run_from Cert.LnBwdIdeal.Gen.run_main m g
  · refine Idealize.ShloMosaic.θ_run_mono (Cert.LnBwdRefIdeal.Value.run m' g') ?_
    intro r hr c
    have e0 := (hagree c).1
    have e1 := (hagree c).2.1
    have e2 := (hagree c).2.2.1
    have e3 := (hagree c).2.2.2.1
    refine ⟨(hr c).1.trans ?_, (hr c).2.1.trans ?_, (hr c).2.2.1.trans ?_, (hr c).2.2.2.1.trans ?_, (hr c).2.2.2.2⟩
    · rw [onward_final m c, ← e0, ← e1, ← e2, ← e3]; unfold Cert.LnBwdRefIdeal.Value.res_main_v57; rfl
    · rw [into_final m c, ← e0, ← e1, ← e2, ← e3]; unfold Cert.LnBwdRefIdeal.Value.res_main_v58; rfl
    · rw [weight_final m c, ← e0, ← e1, ← e2]
    · rw [shift_final m c, ← e2]

end Cert.LnBwdIdeal.Product

end
-- ==== Proof.LnInBwd.lean ====
module

public import proofs.«01_k».proof.Proof.Gen.LnInBwdIdeal.Frame
public import proofs.«01_k».proof.Proof.Gen.LnInBwdRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LnInBwdIdeal.Product
open Cert.LnInBwdIdeal Cert.LnInBwdIdeal.Gen

variable (m : (ℓ : Loc nD τ sig) → Buf (Elt Ideal) ℓ)

/-- Each row less its mean. -/
abbrev CENTRED (V : FVec Ideal Cert.LnInBwdRefIdeal.S4096x1024 .f32) : FVec Ideal Cert.LnInBwdRefIdeal.S4096x1024 .f32 :=
  subf V (broadcastInDim Cert.LnInBwdRefIdeal.S4096x1024 ![0, 1] Cert.LnInBwdRefIdeal.Gen.bcast_S4096x1_S4096x1024_0_1 (Host.divf (broadcastInDim Cert.LnInBwdRefIdeal.S4096x1 ![0] Cert.LnInBwdRefIdeal.Gen.bcast_S4096_S4096x1_0 (Host.reduceAdd V (constant Cert.LnInBwdRefIdeal.S_ .f32 0x00000000#32) Cert.LnInBwdRefIdeal.Gen.reducesTo_S4096x1024_S4096_d1 Cert.LnInBwdRefIdeal.Gen.h_S_)) (broadcastInDim Cert.LnInBwdRefIdeal.S4096x1 ![] Cert.LnInBwdRefIdeal.Gen.bcast_S_S4096x1 (constant Cert.LnInBwdRefIdeal.S_ .f32 0x44800000#32))))

/-- Each row's variance plus a small number. -/
abbrev VARIANCE (V : FVec Ideal Cert.LnInBwdRefIdeal.S4096x1024 .f32) : FVec Ideal Cert.LnInBwdRefIdeal.S4096x1 .f32 :=
  addf (Host.divf (broadcastInDim Cert.LnInBwdRefIdeal.S4096x1 ![0] Cert.LnInBwdRefIdeal.Gen.bcast_S4096_S4096x1_0 (Host.reduceAdd (mulf (CENTRED V) (CENTRED V)) (constant Cert.LnInBwdRefIdeal.S_ .f32 0x00000000#32) Cert.LnInBwdRefIdeal.Gen.reducesTo_S4096x1024_S4096_d1 Cert.LnInBwdRefIdeal.Gen.h_S_)) (broadcastInDim Cert.LnInBwdRefIdeal.S4096x1 ![] Cert.LnInBwdRefIdeal.Gen.bcast_S_S4096x1 (constant Cert.LnInBwdRefIdeal.S_ .f32 0x44800000#32))) (broadcastInDim Cert.LnInBwdRefIdeal.S4096x1 ![] Cert.LnInBwdRefIdeal.Gen.bcast_S_S4096x1 (constant Cert.LnInBwdRefIdeal.S_ .f32 0x3727C5AC#32))

/-- The gradient `D` of the norm times the norm's weight. -/
abbrev SCALED (D : FVec Ideal Cert.LnInBwdRefIdeal.S4096x1024 .f32) (G : FVec Ideal Cert.LnInBwdRefIdeal.S1x1024 .f32) : FVec Ideal Cert.LnInBwdRefIdeal.S4096x1024 .f32 :=
  mulf (shapeCast Cert.LnInBwdRefIdeal.S4096x1024 D Cert.LnInBwdRefIdeal.Gen.shapeCasts_S4096x1024_S4096x1024) (broadcastInDim Cert.LnInBwdRefIdeal.S4096x1024 ![0, 1] Cert.LnInBwdRefIdeal.Gen.bcast_S1x1024_S4096x1024_0_1 G)

/-- The gradient of each row's variance, spread over the row. -/
abbrev OFVARIANCE (V D : FVec Ideal Cert.LnInBwdRefIdeal.S4096x1024 .f32) (G : FVec Ideal Cert.LnInBwdRefIdeal.S1x1024 .f32) : FVec Ideal Cert.LnInBwdRefIdeal.S4096x1024 .f32 :=
  broadcastInDim Cert.LnInBwdRefIdeal.S4096x1024 ![0] Cert.LnInBwdRefIdeal.Gen.bcast_S4096_S4096x1024_0 (Host.reduceAdd (Host.divf (mulf (shapeCast Cert.LnInBwdRefIdeal.S4096x1 (Host.reduceAdd (mulf (CENTRED V) (SCALED D G)) (constant Cert.LnInBwdRefIdeal.S_ .f32 0x00000000#32) Cert.LnInBwdRefIdeal.Gen.reducesTo_S4096x1024_S4096_d1 Cert.LnInBwdRefIdeal.Gen.h_S_) Cert.LnInBwdRefIdeal.Gen.shapeCasts_S4096_S4096x1) (mulf (broadcastInDim Cert.LnInBwdRefIdeal.S4096x1 ![] Cert.LnInBwdRefIdeal.Gen.bcast_S_S4096x1 (constant Cert.LnInBwdRefIdeal.S_ .f32 0xBF000000#32)) (Host.divf (Host.rsqrt (VARIANCE V)) (VARIANCE V)))) (broadcastInDim Cert.LnInBwdRefIdeal.S4096x1 ![] Cert.LnInBwdRefIdeal.Gen.bcast_S_S4096x1 (constant Cert.LnInBwdRefIdeal.S_ .f32 0x44800000#32))) (constant Cert.LnInBwdRefIdeal.S_ .f32 0x00000000#32) Cert.LnInBwdRefIdeal.Gen.reducesTo_S4096x1_S4096_d1 Cert.LnInBwdRefIdeal.Gen.h_S_)

/-- The gradient of the rows less their means. -/
abbrev OFCENTRED (V D : FVec Ideal Cert.LnInBwdRefIdeal.S4096x1024 .f32) (G : FVec Ideal Cert.LnInBwdRefIdeal.S1x1024 .f32) : FVec Ideal Cert.LnInBwdRefIdeal.S4096x1024 .f32 :=
  addf (addf (mulf (SCALED D G) (broadcastInDim Cert.LnInBwdRefIdeal.S4096x1024 ![0, 1] Cert.LnInBwdRefIdeal.Gen.bcast_S4096x1_S4096x1024_0_1 (Host.rsqrt (VARIANCE V)))) (mulf (CENTRED V) (OFVARIANCE V D G))) (mulf (OFVARIANCE V D G) (CENTRED V))

/-- The gradient of the norm's input. -/
abbrev OFINPUT (V D : FVec Ideal Cert.LnInBwdRefIdeal.S4096x1024 .f32) (G : FVec Ideal Cert.LnInBwdRefIdeal.S1x1024 .f32) : FVec Ideal Cert.LnInBwdRefIdeal.S4096x1024 .f32 :=
  addf (OFCENTRED V D G) (broadcastInDim Cert.LnInBwdRefIdeal.S4096x1024 ![0] Cert.LnInBwdRefIdeal.Gen.bcast_S4096_S4096x1024_0 (Host.reduceAdd (Host.divf (shapeCast Cert.LnInBwdRefIdeal.S4096x1 (Host.reduceAdd (Host.negf (OFCENTRED V D G)) (constant Cert.LnInBwdRefIdeal.S_ .f32 0x00000000#32) Cert.LnInBwdRefIdeal.Gen.reducesTo_S4096x1024_S4096_d1 Cert.LnInBwdRefIdeal.Gen.h_S_) Cert.LnInBwdRefIdeal.Gen.shapeCasts_S4096_S4096x1) (broadcastInDim Cert.LnInBwdRefIdeal.S4096x1 ![] Cert.LnInBwdRefIdeal.Gen.bcast_S_S4096x1 (constant Cert.LnInBwdRefIdeal.S_ .f32 0x44800000#32))) (constant Cert.LnInBwdRefIdeal.S_ .f32 0x00000000#32) Cert.LnInBwdRefIdeal.Gen.reducesTo_S4096x1_S4096_d1 Cert.LnInBwdRefIdeal.Gen.h_S_))

/-- The gradient of the norm's weight. -/
abbrev OFWEIGHT (V D : FVec Ideal Cert.LnInBwdRefIdeal.S4096x1024 .f32) : FVec Ideal Cert.LnInBwdRefIdeal.S1x1024 .f32 :=
  shapeCast Cert.LnInBwdRefIdeal.S1x1024 (Host.reduceAdd (mulf (mulf (CENTRED V) (broadcastInDim Cert.LnInBwdRefIdeal.S4096x1024 ![0, 1] Cert.LnInBwdRefIdeal.Gen.bcast_S4096x1_S4096x1024_0_1 (Host.rsqrt (VARIANCE V)))) (shapeCast Cert.LnInBwdRefIdeal.S4096x1024 D Cert.LnInBwdRefIdeal.Gen.shapeCasts_S4096x1024_S4096x1024)) (constant Cert.LnInBwdRefIdeal.S_ .f32 0x00000000#32) Cert.LnInBwdRefIdeal.Gen.reducesTo_S4096x1024_S1024_d0 Cert.LnInBwdRefIdeal.Gen.h_S_) Cert.LnInBwdRefIdeal.Gen.shapeCasts_S1024_S1x1024

/-- The gradient of the norm's shift. -/
abbrev OFSHIFT (D : FVec Ideal Cert.LnInBwdRefIdeal.S4096x1024 .f32) : FVec Ideal Cert.LnInBwdRefIdeal.S1x1024 .f32 :=
  shapeCast Cert.LnInBwdRefIdeal.S1x1024 (Host.reduceAdd D (constant Cert.LnInBwdRefIdeal.S_ .f32 0x00000000#32) Cert.LnInBwdRefIdeal.Gen.reducesTo_S4096x1024_S1024_d0 Cert.LnInBwdRefIdeal.Gen.h_S_) Cert.LnInBwdRefIdeal.Gen.shapeCasts_S1024_S1x1024

/-- Which block of its array each window shows at grid point `t`. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] :=
  (by decide +kernel : ∀ t : Fin grid0.N, _)

/-- What the body stores of the input's gradient at index `y` of its block is the reference at the place where `y` lies
    in the array. -/
theorem input_point (c : Dev nD) (t : Fin cfg0.N) (y) :
    k0_pay1 (k0_pay4 (iblk m c 0 t)) (k0_pay11 (iblk m c 0 t) (iblk m c 1 t) (iblk m c 2 t)) (k0_pay12 (iblk m c 0 t) (iblk m c 1 t) (iblk m c 2 t)) (k0_pay13 (iblk m c 0 t) (iblk m c 1 t) (iblk m c 2 t)) y
      = OFINPUT (m ((c : Thread nD τ).loc main_arg0)) (m ((c : Thread nD τ).loc main_arg1)) (m ((c : Thread nD τ).loc main_arg2)) (((cfg0.win 4).blk t).view.emb y) := by
  pointwise [k0_pay1, k0_pay4, k0_pay5, k0_pay6, k0_pay7, k0_pay10, k0_pay11, k0_pay12, k0_pay13, OFINPUT, OFCENTRED, OFVARIANCE, SCALED, VARIANCE, CENTRED, zero_sub]
  blk_point [iblk, V, idx t]

/-- The block of the input's gradient, at every grid point. -/
theorem input_out (c : Dev nD) (t : Fin cfg0.N) : (outsAt0 m c t.val t.isLt).1
    = k0_pay1 (k0_pay4 (iblk m c 0 t)) (k0_pay11 (iblk m c 0 t) (iblk m c 1 t) (iblk m c 2 t)) (k0_pay12 (iblk m c 0 t) (iblk m c 1 t) (iblk m c 2 t)) (k0_pay13 (iblk m c 0 t) (iblk m c 1 t) (iblk m c 2 t)) := by
  have hN : t.val < 8 := lt_of_lt_of_eq t.isLt N_0
  by_cases h : t.val % 8 = 0
  · rw [outsAt0_A m c t h (by omega) h (by omega)]; frame_out
  · rw [outsAt0_B m c t h (by omega) h (by omega)]; frame_out

/-- The array of the input's gradient after the run is the reference's value. -/
theorem input_final (c : Dev nD) : (dats m 0 c).arrAt 4 (cfgs 0).N = OFINPUT (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, input_out m c t]
  exact input_point m c t y

/-- The sum for `weight` after the first grid point is that point's. -/
theorem weight_first (c : Dev nD) (t : Fin cfg0.N) (h : t.val % 8 = 0) (j) :
    (outsAt0 m c t.val t.isLt).2.1 j = (0 : EReal) + k0_pay9 (iblk m c 0 t) (iblk m c 1 t) j := by
  have hN : t.val < 8 := lt_of_lt_of_eq t.isLt N_0
  rw [outsAt0_A m c t h (by omega) h (by omega)]; frame_out
  rw [zero_add]

/-- At every other point the sum grows by that point's. -/
theorem weight_next (c : Dev nD) (t : Fin cfg0.N) (h : ¬t.val % 8 = 0) (j) :
    (outsAt0 m c t.val t.isLt).2.1 j
      = (outsAt0 m c (t.val - 1) (Nat.lt_of_le_of_lt (Nat.sub_le _ _) t.isLt)).2.1 j + k0_pay9 (iblk m c 0 t) (iblk m c 1 t) j := by
  rw [outsAt0_B m c t h (by omega) h (by omega)]; frame_out
  pointwise [k0_pay2]

/-- The array of `weight` after the run is the reference's value. -/
theorem weight_final (c : Dev nD) : (dats m 0 c).arrAt 5 (cfgs 0).N = OFWEIGHT (m ((c : Thread nD τ).loc main_arg0)) (m ((c : Thread nD τ).loc main_arg1)) := by
  refine (dats m 0 c).arrAt_eq_of_covers 5 _ (by decide +kernel) fun t hf y => ?_
  have h := (flush0_5 t).mp hf
  have hN : t.val < 8 := lt_of_lt_of_eq t.isLt N_0
  blk_simp
  rw [after0_5]
  refine (Pipeline.eq_sum_fin_of_reset_step_apply_of_flush (fun n h => (outsAt0 m c n h).2.1) 8 (fun _ => (0 : EReal))
    (fun p j => k0_pay9 (iblk m c 0 p) (iblk m c 1 p) j) (weight_first m c) (weight_next m c) t h y).trans ?_
  rw [zero_add]
  pointwise [k0_pay9, k0_pay4, k0_pay5, k0_pay6, k0_pay7, OFWEIGHT, VARIANCE, CENTRED]
  refine Fin.sum_mul_add_congr fun s k hl => ?_
  blk_point [iblk, V, idx t, idx ⟨_, Pipeline.run_point_lt_of_flush t h s⟩]

/-- The sum for `shift` after the first grid point is that point's. -/
theorem shift_first (c : Dev nD) (t : Fin cfg0.N) (h : t.val % 8 = 0) (j) :
    (outsAt0 m c t.val t.isLt).2.2 j = (0 : EReal) + k0_pay8 (iblk m c 1 t) j := by
  have hN : t.val < 8 := lt_of_lt_of_eq t.isLt N_0
  rw [outsAt0_A m c t h (by omega) h (by omega)]; frame_out
  rw [zero_add]

/-- At every other point the sum grows by that point's. -/
theorem shift_next (c : Dev nD) (t : Fin cfg0.N) (h : ¬t.val % 8 = 0) (j) :
    (outsAt0 m c t.val t.isLt).2.2 j
      = (outsAt0 m c (t.val - 1) (Nat.lt_of_le_of_lt (Nat.sub_le _ _) t.isLt)).2.2 j + k0_pay8 (iblk m c 1 t) j := by
  rw [outsAt0_B m c t h (by omega) h (by omega)]; frame_out
  pointwise [k0_pay3]

/-- The array of `shift` after the run is the reference's value. -/
theorem shift_final (c : Dev nD) : (dats m 0 c).arrAt 6 (cfgs 0).N = OFSHIFT (m ((c : Thread nD τ).loc main_arg1)) := by
  refine (dats m 0 c).arrAt_eq_of_covers 6 _ (by decide +kernel) fun t hf y => ?_
  have h := (flush0_6 t).mp hf
  have hN : t.val < 8 := lt_of_lt_of_eq t.isLt N_0
  blk_simp
  rw [after0_6]
  refine (Pipeline.eq_sum_fin_of_reset_step_apply_of_flush (fun n h => (outsAt0 m c n h).2.2) 8 (fun _ => (0 : EReal))
    (fun p j => k0_pay8 (iblk m c 1 p) j) (shift_first m c) (shift_next m c) t h y).trans ?_
  rw [zero_add]
  pointwise [k0_pay8, OFSHIFT]
  refine Fin.sum_mul_add_congr fun s k hl => ?_
  blk_point [iblk, V, idx t, idx ⟨_, Pipeline.run_point_lt_of_flush t h s⟩]

/-- The claim on the extended reals: kernel and reference leave the same arrays. -/
theorem algebraic : Cert.algebraic_LnInBwdIdeal_LnInBwdRefIdeal (hLnInBwdIdeal := Cert.LnInBwdIdeal.Gen.facts) (hLnInBwdRefIdeal := Cert.LnInBwdRefIdeal.Gen.facts) := by
  pair_intro
  · run_from Cert.LnInBwdIdeal.Gen.run_main m g
  · refine Idealize.ShloMosaic.θ_run_mono (Cert.LnInBwdRefIdeal.Value.run m' g') ?_
    intro r hr c
    have e0 := (hagree c).1
    have e1 := (hagree c).2.1
    have e2 := (hagree c).2.2.1
    refine ⟨(hr c).1.trans ?_, (hr c).2.1.trans ?_, (hr c).2.2.1.trans ?_, (hr c).2.2.2⟩
    · rw [input_final m c, ← e0, ← e1, ← e2]; unfold Cert.LnInBwdRefIdeal.Value.res_main_v52; rfl
    · rw [weight_final m c, ← e0, ← e1]; rfl
    · rw [shift_final m c, ← e1]

end Cert.LnInBwdIdeal.Product

end
-- ==== Proof.Proj.lean ====
module

public import proofs.«01_k».proof.Proof.Gen.ProjIdeal.Frame
public import proofs.«01_k».proof.Proof.Gen.ProjRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Product
open Cert.ProjIdeal Cert.ProjIdeal.Gen

variable (m : (ℓ : Loc nD τ sig) → Buf (Elt Ideal) ℓ)

/-- The product of `X` and the weight `Y`. -/
abbrev REF (X : FVec Ideal S4096x1024 .bf16) (Y : FVec Ideal S1024x12800 .bf16) : FVec Ideal S4096x12800 .bf16 :=
  truncf .bf16 (Host.dotGeneral Cert.ProjRefIdeal.dot_S4096x1024_S1024x12800_S4096x12800_1_0_0_1_n_n none (extf .f32 X Cert.ProjRefIdeal.Gen.bitsLt_bf16_f32) (extf .f32 Y Cert.ProjRefIdeal.Gen.bitsLt_bf16_f32)) Cert.ProjRefIdeal.Gen.bitsLt_bf16_f32

/-- Which block of its array each window shows at grid point `t`. -/
theorem idx : ∀ t : Fin cfg0.N, win0_0.index t = ![0, 0] ∧ win0_1.index t = ![0, t.val] ∧ win0_2.index t = ![0, t.val] :=
  (by decide +kernel : ∀ t : Fin grid0.N, _)

/-- What the body stores of `REF` at index `y` of its block is the reference at the place where `y` lies in the array. -/
theorem point_REF (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array of `REF` after the run is the reference's value. -/
theorem final_REF (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_REF m c t y

/-- The claim on the extended reals: kernel and reference leave the same arrays. -/
theorem algebraic : Cert.algebraic_ProjIdeal_ProjRefIdeal (hProjIdeal := Cert.ProjIdeal.Gen.facts) (hProjRefIdeal := Cert.ProjRefIdeal.Gen.facts) := by
  pair_intro
  · run_from Cert.ProjIdeal.Gen.run_main m g
  · run_from Cert.ProjRefIdeal.Value.run m' g'
    exact (final_REF m c).symm

end Cert.ProjIdeal.Product

end
-- ==== Proof.BranchProj.lean ====
module

public import proofs.«01_k».proof.Proof.Gen.BranchProjIdeal.Frame
public import proofs.«01_k».proof.Proof.Gen.BranchProjRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BranchProjIdeal.Product
open Cert.BranchProjIdeal Cert.BranchProjIdeal.Gen

variable (m : (ℓ : Loc nD τ sig) → Buf (Elt Ideal) ℓ)

/-- The product of `X` and the weight `Y`. -/
abbrev REF (X : FVec Ideal S4096x1024 .bf16) (Y : FVec Ideal S1024x1024 .bf16) : FVec Ideal S4096x1024 .f32 :=
  Host.dotGeneral Cert.BranchProjRefIdeal.dot_S4096x1024_S1024x1024_S4096x1024_1_0_0_1_n_n none (extf .f32 X Cert.BranchProjRefIdeal.Gen.bitsLt_bf16_f32) (extf .f32 Y Cert.BranchProjRefIdeal.Gen.bitsLt_bf16_f32)

/-- Which block of its array each window shows at grid point `t`. -/
theorem idx : ∀ t : Fin cfg0.N, win0_0.index t = ![t.val, 0] ∧ win0_1.index t = ![0, 0] ∧ win0_2.index t = ![t.val, 0] :=
  (by decide +kernel : ∀ t : Fin grid0.N, _)

/-- What the body stores of `REF` at index `y` of its block is the reference at the place where `y` lies in the array. -/
theorem point_REF (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array of `REF` after the run is the reference's value. -/
theorem final_REF (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_REF m c t y

/-- The claim on the extended reals: kernel and reference leave the same arrays. -/
theorem algebraic : Cert.algebraic_BranchProjIdeal_BranchProjRefIdeal (hBranchProjIdeal := Cert.BranchProjIdeal.Gen.facts) (hBranchProjRefIdeal := Cert.BranchProjRefIdeal.Gen.facts) := by
  pair_intro
  · run_from Cert.BranchProjIdeal.Gen.run_main m g
  · run_from Cert.BranchProjRefIdeal.Value.run m' g'
    exact (final_REF m c).symm

end Cert.BranchProjIdeal.Product

end
-- ==== Proof.MlpUp.lean ====
module

public import proofs.«01_k».proof.Proof.Gen.MlpUpIdeal.Frame
public import proofs.«01_k».proof.Proof.Gen.MlpUpRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpUpIdeal.Product
open Cert.MlpUpIdeal Cert.MlpUpIdeal.Gen

variable (m : (ℓ : Loc nD τ sig) → Buf (Elt Ideal) ℓ)

/-- The product of `X` and the weight `Y`. -/
abbrev PRE (X : FVec Ideal S4096x1024 .bf16) (Y : FVec Ideal S1024x4096 .bf16) : FVec Ideal S4096x4096 .f32 :=
  Host.dotGeneral Cert.MlpUpRefIdeal.dot_S4096x1024_S1024x4096_S4096x4096_1_0_0_1_n_n none (extf .f32 X Cert.MlpUpRefIdeal.Gen.bitsLt_bf16_f32) (extf .f32 Y Cert.MlpUpRefIdeal.Gen.bitsLt_bf16_f32)

/-- The square of the product's positive part. -/
abbrev ACT (X : FVec Ideal S4096x1024 .bf16) (Y : FVec Ideal S1024x4096 .bf16) : FVec Ideal S4096x4096 .bf16 :=
  truncf .bf16 (mulf (maximumf (Host.dotGeneral Cert.MlpUpRefIdeal.dot_S4096x1024_S1024x4096_S4096x4096_1_0_0_1_n_n none (extf .f32 X Cert.MlpUpRefIdeal.Gen.bitsLt_bf16_f32) (extf .f32 Y Cert.MlpUpRefIdeal.Gen.bitsLt_bf16_f32)) (broadcastInDim Cert.MlpUpRefIdeal.S4096x4096 ![] Cert.MlpUpRefIdeal.Gen.bcast_S_S4096x4096 (constant Cert.MlpUpRefIdeal.S_ .f32 0x00000000#32))) (maximumf (Host.dotGeneral Cert.MlpUpRefIdeal.dot_S4096x1024_S1024x4096_S4096x4096_1_0_0_1_n_n none (extf .f32 X Cert.MlpUpRefIdeal.Gen.bitsLt_bf16_f32) (extf .f32 Y Cert.MlpUpRefIdeal.Gen.bitsLt_bf16_f32)) (broadcastInDim Cert.MlpUpRefIdeal.S4096x4096 ![] Cert.MlpUpRefIdeal.Gen.bcast_S_S4096x4096 (constant Cert.MlpUpRefIdeal.S_ .f32 0x00000000#32)))) Cert.MlpUpRefIdeal.Gen.bitsLt_bf16_f32

/-- Which block of its array each window shows at grid point `t`. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- What the body stores of `PRE` at index `y` of its block is the reference at the place where `y` lies in the array. -/
theorem point_PRE (c : Dev nD) (t : Fin cfg0.N) (y) : k0_pay1 (iblk m c 0 t) (iblk m c 1 t) y
    = PRE (m ((c : Thread nD τ).loc main_arg0)) (m ((c : Thread nD τ).loc main_arg1)) (((cfg0.win 2).blk t).view.emb y) := by
  pointwise [k0_pay1, PRE]
  blk_point [iblk, V, idx t]

/-- The array of `PRE` after the run is the reference's value. -/
theorem final_PRE (c : Dev nD) : (dats m 0 c).arrAt 2 (cfgs 0).N = PRE (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_PRE m c t y

/-- What the body stores of `ACT` at index `y` of its block is the reference at the place where `y` lies in the array. -/
theorem point_ACT (c : Dev nD) (t : Fin cfg0.N) (y) : k0_pay2 (iblk m c 0 t) (iblk m c 1 t) y
    = ACT (m ((c : Thread nD τ).loc main_arg0)) (m ((c : Thread nD τ).loc main_arg1)) (((cfg0.win 3).blk t).view.emb y) := by
  pointwise [k0_pay2, k0_pay1, ACT]
  blk_point [iblk, V, idx t]

/-- The array of `ACT` after the run is the reference's value. -/
theorem final_ACT (c : Dev nD) : (dats m 0 c).arrAt 3 (cfgs 0).N = ACT (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_ACT m c t y

/-- The claim on the extended reals: kernel and reference leave the same arrays. -/
theorem algebraic : Cert.algebraic_MlpUpIdeal_MlpUpRefIdeal (hMlpUpIdeal := Cert.MlpUpIdeal.Gen.facts) (hMlpUpRefIdeal := Cert.MlpUpRefIdeal.Gen.facts) := by
  pair_intro
  · run_from Cert.MlpUpIdeal.Gen.run_main m g
  · run_from Cert.MlpUpRefIdeal.Value.run m' g'
    · exact (final_PRE m c).symm
    · exact (final_ACT m c).symm

end Cert.MlpUpIdeal.Product

end
-- ==== Proof.OutProjLn.lean ====
module

public import proofs.«01_k».proof.Proof.Gen.OutProjLnIdeal.Frame
public import proofs.«01_k».proof.Proof.Gen.OutProjLnRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjLnIdeal.Product
open Cert.OutProjLnIdeal Cert.OutProjLnIdeal.Gen

variable (m : (ℓ : Loc nD τ sig) → Buf (Elt Ideal) ℓ)

/-- Each row less its mean. -/
abbrev CENTRED (V : FVec Ideal S4096x1024 .f32) : FVec Ideal S4096x1024 .f32 :=
  subf V (broadcastInDim Cert.OutProjLnRefIdeal.S4096x1024 ![0, 1] Cert.OutProjLnRefIdeal.Gen.bcast_S4096x1_S4096x1024_0_1 (Host.divf (broadcastInDim Cert.OutProjLnRefIdeal.S4096x1 ![0] Cert.OutProjLnRefIdeal.Gen.bcast_S4096_S4096x1_0 (Host.reduceAdd V (constant Cert.OutProjLnRefIdeal.S_ .f32 0x00000000#32) Cert.OutProjLnRefIdeal.Gen.reducesTo_S4096x1024_S4096_d1 Cert.OutProjLnRefIdeal.Gen.h_S_)) (broadcastInDim Cert.OutProjLnRefIdeal.S4096x1 ![] Cert.OutProjLnRefIdeal.Gen.bcast_S_S4096x1 (constant Cert.OutProjLnRefIdeal.S_ .f32 0x44800000#32))))

/-- One over the root of each row's variance plus a small number. -/
abbrev SCALE (V : FVec Ideal S4096x1024 .f32) : FVec Ideal Cert.OutProjLnRefIdeal.S4096x1 .f32 :=
  Host.rsqrt (addf (Host.divf (broadcastInDim Cert.OutProjLnRefIdeal.S4096x1 ![0] Cert.OutProjLnRefIdeal.Gen.bcast_S4096_S4096x1_0 (Host.reduceAdd (mulf (CENTRED V) (CENTRED V)) (constant Cert.OutProjLnRefIdeal.S_ .f32 0x00000000#32) Cert.OutProjLnRefIdeal.Gen.reducesTo_S4096x1024_S4096_d1 Cert.OutProjLnRefIdeal.Gen.h_S_)) (broadcastInDim Cert.OutProjLnRefIdeal.S4096x1 ![] Cert.OutProjLnRefIdeal.Gen.bcast_S_S4096x1 (constant Cert.OutProjLnRefIdeal.S_ .f32 0x44800000#32))) (broadcastInDim Cert.OutProjLnRefIdeal.S4096x1 ![] Cert.OutProjLnRefIdeal.Gen.bcast_S_S4096x1 (constant Cert.OutProjLnRefIdeal.S_ .f32 0x3727C5AC#32)))

/-- The layer norm of each row of `V` with weight `G` and shift `B`. -/
abbrev NORM (V : FVec Ideal S4096x1024 .f32) (G B : FVec Ideal S1x1024 .f32) : FVec Ideal S4096x1024 .f32 :=
  addf (mulf (mulf (CENTRED V) (broadcastInDim Cert.OutProjLnRefIdeal.S4096x1024 ![0, 1] Cert.OutProjLnRefIdeal.Gen.bcast_S4096x1_S4096x1024_0_1 (SCALE V))) (broadcastInDim Cert.OutProjLnRefIdeal.S4096x1024 ![0, 1] Cert.OutProjLnRefIdeal.Gen.bcast_S1x1024_S4096x1024_0_1 G)) (broadcastInDim Cert.OutProjLnRefIdeal.S4096x1024 ![0, 1] Cert.OutProjLnRefIdeal.Gen.bcast_S1x1024_S4096x1024_0_1 B)

/-- `X` times the fourth root of four, plus `Y`. -/
abbrev RESIDUAL (X Y : FVec Ideal S4096x1024 .f32) : FVec Ideal S4096x1024 .f32 :=
  addf (mulf (broadcastInDim Cert.OutProjLnRefIdeal.S4096x1024 ![] Cert.OutProjLnRefIdeal.Gen.bcast_S_S4096x1024 (constant Cert.OutProjLnRefIdeal.S_ .f32 0x3FB504F3#32)) X) Y

/-- The norm of the residual and the product. -/
abbrev OUT (X : FVec Ideal S4096x1024 .bf16) (Y : FVec Ideal S1024x1024 .bf16) (Z : FVec Ideal S4096x1024 .f32) (G : FVec Ideal S1x1024 .f32) (B : FVec Ideal S1x1024 .f32) : FVec Ideal S4096x1024 .f32 :=
  NORM (RESIDUAL Z (Host.dotGeneral Cert.OutProjLnRefIdeal.dot_S4096x1024_S1024x1024_S4096x1024_1_0_0_1_n_n none (extf .f32 X Cert.OutProjLnRefIdeal.Gen.bitsLt_bf16_f32) (extf .f32 Y Cert.OutProjLnRefIdeal.Gen.bitsLt_bf16_f32))) G B

/-- The same, rounded. -/
abbrev OUTB (X : FVec Ideal S4096x1024 .bf16) (Y : FVec Ideal S1024x1024 .bf16) (Z : FVec Ideal S4096x1024 .f32) (G : FVec Ideal S1x1024 .f32) (B : FVec Ideal S1x1024 .f32) : FVec Ideal S4096x1024 .bf16 :=
  truncf .bf16 (NORM (RESIDUAL Z (Host.dotGeneral Cert.OutProjLnRefIdeal.dot_S4096x1024_S1024x1024_S4096x1024_1_0_0_1_n_n none (extf .f32 X Cert.OutProjLnRefIdeal.Gen.bitsLt_bf16_f32) (extf .f32 Y Cert.OutProjLnRefIdeal.Gen.bitsLt_bf16_f32))) G B) Cert.OutProjLnRefIdeal.Gen.bitsLt_bf16_f32

/-- The product of `X` and the weight `Y`. -/
abbrev MIX (X : FVec Ideal S4096x1024 .bf16) (Y : FVec Ideal S1024x1024 .bf16) (Z : FVec Ideal S4096x1024 .f32) (G : FVec Ideal S1x1024 .f32) (B : FVec Ideal S1x1024 .f32) : FVec Ideal S4096x1024 .f32 :=
  Host.dotGeneral Cert.OutProjLnRefIdeal.dot_S4096x1024_S1024x1024_S4096x1024_1_0_0_1_n_n none (extf .f32 X Cert.OutProjLnRefIdeal.Gen.bitsLt_bf16_f32) (extf .f32 Y Cert.OutProjLnRefIdeal.Gen.bitsLt_bf16_f32)

/-- Which block of its array each window shows at grid point `t`. -/
theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- What the body stores of `OUT` at index `y` of its block is the reference at the place where `y` lies in the array. -/
theorem point_OUT (c : Dev nD) (t : Fin cfg0.N) (y) : k0_pay2 (iblk m c 0 t) (iblk m c 1 t) (iblk m c 2 t) (iblk m c 3 t) (iblk m c 4 t) y
    = OUT (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay2, k0_pay1, OUT, NORM, CENTRED, SCALE, RESIDUAL]
  blk_point [iblk, V, idx t]

/-- The array of `OUT` after the run is the reference's value. -/
theorem final_OUT (c : Dev nD) : (dats m 0 c).arrAt 5 (cfgs 0).N = OUT (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point_OUT m c t y

/-- What the body stores of `OUTB` at index `y` of its block is the reference at the place where `y` lies in the array. -/
theorem point_OUTB (c : Dev nD) (t : Fin cfg0.N) (y) : k0_pay3 (iblk m c 0 t) (iblk m c 1 t) (iblk m c 2 t) (iblk m c 3 t) (iblk m c 4 t) y
    = OUTB (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  exact point_OUT m c t y

/-- The array of `OUTB` after the run is the reference's value. -/
theorem final_OUTB (c : Dev nD) : (dats m 0 c).arrAt 6 (cfgs 0).N = OUTB (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_OUTB m c t y

/-- What the body stores of `MIX` at index `y` of its block is the reference at the place where `y` lies in the array. -/
theorem point_MIX (c : Dev nD) (t : Fin cfg0.N) (y) : k0_pay1 (iblk m c 0 t) (iblk m c 1 t) y
    = MIX (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay1, MIX]
  blk_point [iblk, V, idx t]

/-- The array of `MIX` after the run is the reference's value. -/
theorem final_MIX (c : Dev nD) : (dats m 0 c).arrAt 7 (cfgs 0).N = MIX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  exact point_MIX m c t y

/-- The claim on the extended reals: kernel and reference leave the same arrays. -/
theorem algebraic : Cert.algebraic_OutProjLnIdeal_OutProjLnRefIdeal (hOutProjLnIdeal := Cert.OutProjLnIdeal.Gen.facts) (hOutProjLnRefIdeal := Cert.OutProjLnRefIdeal.Gen.facts) := by
  pair_intro
  · run_from Cert.OutProjLnIdeal.Gen.run_main m g
  · run_from Cert.OutProjLnRefIdeal.Value.run m' g'
    · exact (final_OUT m c).symm
    · exact (final_OUTB m c).symm
    · exact (final_MIX m c).symm

end Cert.OutProjLnIdeal.Product

end
-- ==== Proof.MlpDownLn.lean ====
module

public import proofs.«01_k».proof.Proof.Gen.MlpDownLnIdeal.Frame
public import proofs.«01_k».proof.Proof.Gen.MlpDownLnRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpDownLnIdeal.Product
open Cert.MlpDownLnIdeal Cert.MlpDownLnIdeal.Gen

variable (m : (ℓ : Loc nD τ sig) → Buf (Elt Ideal) ℓ)

/-- Each row less its mean. -/
abbrev CENTRED (V : FVec Ideal S4096x1024 .f32) : FVec Ideal S4096x1024 .f32 :=
  subf V (broadcastInDim Cert.MlpDownLnRefIdeal.S4096x1024 ![0, 1] Cert.MlpDownLnRefIdeal.Gen.bcast_S4096x1_S4096x1024_0_1 (Host.divf (broadcastInDim Cert.MlpDownLnRefIdeal.S4096x1 ![0] Cert.MlpDownLnRefIdeal.Gen.bcast_S4096_S4096x1_0 (Host.reduceAdd V (constant Cert.MlpDownLnRefIdeal.S_ .f32 0x00000000#32) Cert.MlpDownLnRefIdeal.Gen.reducesTo_S4096x1024_S4096_d1 Cert.MlpDownLnRefIdeal.Gen.h_S_)) (broadcastInDim Cert.MlpDownLnRefIdeal.S4096x1 ![] Cert.MlpDownLnRefIdeal.Gen.bcast_S_S4096x1 (constant Cert.MlpDownLnRefIdeal.S_ .f32 0x44800000#32))))

/-- One over the root of each row's variance plus a small number. -/
abbrev SCALE (V : FVec Ideal S4096x1024 .f32) : FVec Ideal Cert.MlpDownLnRefIdeal.S4096x1 .f32 :=
  Host.rsqrt (addf (Host.divf (broadcastInDim Cert.MlpDownLnRefIdeal.S4096x1 ![0] Cert.MlpDownLnRefIdeal.Gen.bcast_S4096_S4096x1_0 (Host.reduceAdd (mulf (CENTRED V) (CENTRED V)) (constant Cert.MlpDownLnRefIdeal.S_ .f32 0x00000000#32) Cert.MlpDownLnRefIdeal.Gen.reducesTo_S4096x1024_S4096_d1 Cert.MlpDownLnRefIdeal.Gen.h_S_)) (broadcastInDim Cert.MlpDownLnRefIdeal.S4096x1 ![] Cert.MlpDownLnRefIdeal.Gen.bcast_S_S4096x1 (constant Cert.MlpDownLnRefIdeal.S_ .f32 0x44800000#32))) (broadcastInDim Cert.MlpDownLnRefIdeal.S4096x1 ![] Cert.MlpDownLnRefIdeal.Gen.bcast_S_S4096x1 (constant Cert.MlpDownLnRefIdeal.S_ .f32 0x3727C5AC#32)))

/-- The layer norm of each row of `V` with weight `G` and shift `B`. -/
abbrev NORM (V : FVec Ideal S4096x1024 .f32) (G B : FVec Ideal S1x1024 .f32) : FVec Ideal S4096x1024 .f32 :=
  addf (mulf (mulf (CENTRED V) (broadcastInDim Cert.MlpDownLnRefIdeal.S4096x1024 ![0, 1] Cert.MlpDownLnRefIdeal.Gen.bcast_S4096x1_S4096x1024_0_1 (SCALE V))) (broadcastInDim Cert.MlpDownLnRefIdeal.S4096x1024 ![0, 1] Cert.MlpDownLnRefIdeal.Gen.bcast_S1x1024_S4096x1024_0_1 G)) (broadcastInDim Cert.MlpDownLnRefIdeal.S4096x1024 ![0, 1] Cert.MlpDownLnRefIdeal.Gen.bcast_S1x1024_S4096x1024_0_1 B)

/-- `X` times the fourth root of four, plus `Y`. -/
abbrev RESIDUAL (X Y : FVec Ideal S4096x1024 .f32) : FVec Ideal S4096x1024 .f32 :=
  addf (mulf (broadcastInDim Cert.MlpDownLnRefIdeal.S4096x1024 ![] Cert.MlpDownLnRefIdeal.Gen.bcast_S_S4096x1024 (constant Cert.MlpDownLnRefIdeal.S_ .f32 0x3FB504F3#32)) X) Y

/-- The product of `X` and the weight `Y`. -/
abbrev MIX (X : FVec Ideal S4096x4096 .bf16) (Y : FVec Ideal S4096x1024 .bf16) : FVec Ideal S4096x1024 .f32 :=
  Host.dotGeneral Cert.MlpDownLnRefIdeal.dot_S4096x4096_S4096x1024_S4096x1024_1_0_0_1_n_n none (extf .f32 X Cert.MlpDownLnRefIdeal.Gen.bitsLt_bf16_f32) (extf .f32 Y Cert.MlpDownLnRefIdeal.Gen.bitsLt_bf16_f32)

/-- The norm of the residual and the product. -/
abbrev OUT (X : FVec Ideal S4096x4096 .bf16) (Y : FVec Ideal S4096x1024 .bf16) (Z : FVec Ideal S4096x1024 .f32) (G B : FVec Ideal S1x1024 .f32) : FVec Ideal S4096x1024 .f32 :=
  NORM (RESIDUAL Z (MIX X Y)) G B

/-- Which block of its array each window shows at grid point `t`. -/
theorem idx : ∀ t : Fin cfg0.N, win0_0.index t = ![t.val / 4, t.val % 4] ∧ win0_1.index t = ![t.val % 4, 0] ∧ win0_2.index t = ![t.val / 4, 0] ∧ win0_3.index t = ![0, 0] ∧ win0_4.index t = ![0, 0] ∧ win0_5.index t = ![t.val / 4, 0] ∧ win0_6.index t = ![t.val / 4, 0] ∧ win0_7.index t = ![t.val / 4, 0] :=
  (by decide +kernel : ∀ t : Fin grid0.N, _)

/-- The accumulator after the first point of a run is that point's product. -/
theorem acc_first (c : Dev nD) (t : Fin cfg0.N) (h : t.val % 4 = 0) (j) :
    (outsAt0 m c t.val t.isLt).2.2.2 j = (0 : EReal) + k0_pay1 (iblk m c 0 t) (iblk m c 1 t) j := by
  rw [outsAt0_A m c t h (by omega) (by omega)]; frame_out
  rw [zero_add]
  pointwise [k0_pay2]

/-- At every other point of a run the accumulator grows by that point's product. -/
theorem acc_next (c : Dev nD) (t : Fin cfg0.N) (h : ¬t.val % 4 = 0) (j) :
    (outsAt0 m c t.val t.isLt).2.2.2 j
      = (outsAt0 m c (t.val - 1) (Nat.lt_of_le_of_lt (Nat.sub_le _ _) t.isLt)).2.2.2 j
        + k0_pay1 (iblk m c 0 t) (iblk m c 1 t) j := by
  by_cases hl : t.val % 4 = 3
  · rw [outsAt0_C m c t h (by omega) hl]; frame_out
    rw [read_unread_whole]
    pointwise [k0_pay3]
  · rw [outsAt0_B m c t h (by omega) hl]; frame_out
    rw [read_unread_whole]
    pointwise [k0_pay3]

/-- The accumulator at the last point of a run is the product, at the rows of that run. -/
theorem acc_last (c : Dev nD) (t : Fin cfg0.N) (h : t.val % 4 = 3) :
    (outsAt0 m c t.val t.isLt).2.2.2 = fun j => MIX (m ((c : Thread nD τ).loc main_arg0)) (m ((c : Thread nD τ).loc main_arg1)) (((cfg0.win 7).blk t).view.emb j) := by
  funext j
  refine (Pipeline.eq_sum_fin_of_reset_step_apply_of_flush (fun n h => (outsAt0 m c n h).2.2.2) 4 (fun _ => (0 : EReal))
    (fun p j => k0_pay1 (iblk m c 0 p) (iblk m c 1 p) j) (acc_first m c) (acc_next m c) t h j).trans ?_
  rw [zero_add]
  pointwise [k0_pay1, MIX]
  refine Fin.sum_mul_add_congr fun s k hl => ?_
  blk_point [iblk, V, idx t, idx ⟨_, Pipeline.run_point_lt_of_flush t h s⟩]

/-- At the last point of a run the stored blocks are the norm over the accumulator that point leaves, the same rounded,
    and the accumulator itself. -/
theorem out_last (c : Dev nD) (t : Fin cfg0.N) (h : t.val % 4 = 3) :
    (outsAt0 m c t.val t.isLt).1 = k0_pay4 (outsAt0 m c t.val t.isLt).2.2.2 (iblk m c 2 t) (iblk m c 3 t) (iblk m c 4 t)
    ∧ (outsAt0 m c t.val t.isLt).2.1 = k0_pay5 (outsAt0 m c t.val t.isLt).2.2.2 (iblk m c 2 t) (iblk m c 3 t) (iblk m c 4 t)
    ∧ (outsAt0 m c t.val t.isLt).2.2.1 = (outsAt0 m c t.val t.isLt).2.2.2 := by
  rw [outsAt0_C m c t (by omega) (by omega) h]
  refine ⟨?_, ?_, ?_⟩ <;> frame_out

/-- The stored norm at index `y` of its block is the reference at the place where `y` lies in the array. -/
theorem point_OUT (c : Dev nD) (t : Fin cfg0.N) (h : t.val % 4 = 3) (y) :
    k0_pay4 (outsAt0 m c t.val t.isLt).2.2.2 (iblk m c 2 t) (iblk m c 3 t) (iblk m c 4 t) y
      = OUT (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [acc_last m c t h]
  pointwise [k0_pay4, OUT, NORM, CENTRED, SCALE, RESIDUAL, MIX]
  blk_point [iblk, V, idx t]

/-- The norm's array after the run is the reference's value. -/
theorem final_OUT (c : Dev nD) : (dats m 0 c).arrAt 5 (cfgs 0).N = OUT (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h := (flush0_5 t).mp hf
  blk_simp
  rw [after0_5, (out_last m c t h).1]
  exact point_OUT m c t h y

/-- The rounded norm's array after the run is the reference's value. -/
theorem final_OUTB (c : Dev nD) : (dats m 0 c).arrAt 6 (cfgs 0).N = truncf .bf16 (OUT (m ((c : Thread nD τ).loc main_arg0)) (m ((c : Thread nD τ).loc main_arg1)) (m ((c : Thread nD τ).loc main_arg2)) (m ((c : Thread nD τ).loc main_arg3)) (m ((c : Thread nD τ).loc main_arg4))) Cert.MlpDownLnRefIdeal.Gen.bitsLt_bf16_f32 := by
  refine (dats m 0 c).arrAt_eq_of_covers 6 _ (by decide +kernel) fun t hf y => ?_
  have h := (flush0_6 t).mp hf
  blk_simp
  rw [after0_6, (out_last m c t h).2.1]
  exact point_OUT m c t h y

/-- The product's array after the run is the reference's value. -/
theorem final_MIX (c : Dev nD) : (dats m 0 c).arrAt 7 (cfgs 0).N = MIX (m ((c : Thread nD τ).loc main_arg0)) (m ((c : Thread nD τ).loc main_arg1)) := by
  refine (dats m 0 c).arrAt_eq_of_covers 7 _ (by decide +kernel) fun t hf y => ?_
  have h := (flush0_7 t).mp hf
  blk_simp
  rw [after0_7, (out_last m c t h).2.2, acc_last m c t h]

/-- The claim on the extended reals: kernel and reference leave the same arrays. -/
theorem algebraic : Cert.algebraic_MlpDownLnIdeal_MlpDownLnRefIdeal (hMlpDownLnIdeal := Cert.MlpDownLnIdeal.Gen.facts) (hMlpDownLnRefIdeal := Cert.MlpDownLnRefIdeal.Gen.facts) := by
  pair_intro
  · run_from Cert.MlpDownLnIdeal.Gen.run_main m g
  · run_from Cert.MlpDownLnRefIdeal.Value.run m' g'
    · exact (final_OUT m c).symm
    · exact (final_OUTB m c).symm
    · exact (final_MIX m c).symm

end Cert.MlpDownLnIdeal.Product

end
-- ==== Proof.MergeBwdBody.lean ====
module

public import proofs.«01_k».proof.Proof.Gen.MergeBwdIdeal.Frame
public import proofs.«01_k».proof.Proof.Gen.MergeBwdIdeal.Skeleton
public import Idealize.ShloMosaic.Lib.Pipeline.FrameSuffixV
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Tactic
public import Idealize.ShloMosaic.Lib.Claim

/-! The gradient of the merge writes three results through the pipeline and copies its fourth, the gates' gradient, out of
    a stage by its own transfers: point `t` waits for the copy of the point before it, overwrites the stage and starts its
    own copy, and the last point also waits for its own. This module runs the body at the first, a middle and the last
    point. -/

@[expose] public section

set_option maxRecDepth 16384

noncomputable section

namespace Cert.MergeBwdIdeal.Hand

open Cert.MergeBwdIdeal Cert.MergeBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The array the copies land in, and the stage they are read from. -/
abbrev hM : Memref sig .tc .hbm S4096x12800 .bf16 := Memref.whole main_v0_3
abbrev stg : Memref sig .tc .vmem S512x3072 .bf16 := Memref.whole cc0_scratch0
/-- The rows and columns of the array that the copy of point `i` writes. -/
abbrev win (i : grid0.Coords) : Memref sig .tc .hbm S512x3072 .bf16 :=
  hM.slice (Rect.unit (s := S4096x12800) (k0_off2 i) S512x3072.size (k0_off2_inb i)) (fun _ => rfl)
/-- The contents of a memref's buffer on core `c`. -/
abbrev Bf (c : Dev nD) {sp : Space} {S : Shape} {e : EltTy} (M : Memref sig .tc sp S e) : Type := Buf (Elt F) (M.view.loc (c : Thread nD τ))
/-- The array after the words `p` have landed in the window of point `i`. -/
abbrev landed (c : Dev nD) (i : grid0.Coords) (g : Bf (F := F) c hM) (p : Vec F S512x3072 .bf16) : Bf (F := F) c hM :=
  View.write (Elt F) (win i).view g p Finset.univ
/-- The array held whole. -/
abbrev whole (c : Dev nD) (g : Bf (F := F) c hM) : sProp 𝕄 := hM.view.loc (c : Thread nD τ) ↦{fullShare} g
/-- The stage held whole, at some contents. -/
abbrev stage (c : Dev nD) : sProp 𝕄 := iprop(∃ s : Bf (F := F) c stg, stg.view.loc (c : Thread nD τ) ↦[stg.view.set]{fullShare} s)
/-- The copies' counter at zero. -/
abbrev idle (c : Dev nD) : sProp 𝕄 := semVal ((c : Thread nD τ), SemLoc.dma ⟨16, by decide⟩) 0
/-- A copy in flight: it brings back the array at `g` and the stage at some contents. -/
abbrev inFlight (c : Dev nD) (g : Bf (F := F) c hM) : sProp 𝕄 :=
  iprop(∃ s : Bf (F := F) c stg, Transfers.Flight (countersEmb (U := Pipeline.UD sig nD τ)) (c : Thread nD τ) (SemLoc.dma ⟨16, by decide⟩) default 98304
    iprop((hM.view.loc (c : Thread nD τ) ↦{fullShare} g) ∗ stg.view.loc (c : Thread nD τ) ↦[stg.view.set]{fullShare} s))

/-- What the body stores, block by block: the gradients of the three branches and of the gates. -/
abbrev of0 (Lg : Vec F S512x3072 .bf16) (D : Vec F S512x1024 .f32) : Vec F S512x1024 .bf16 := k0_pay13 Lg D
abbrev of1 (Lg : Vec F S512x3072 .bf16) (D : Vec F S512x1024 .f32) : Vec F S512x1024 .bf16 := k0_pay1 (k0_pay11 Lg D)
abbrev of2 (Lg : Vec F S512x3072 .bf16) (D : Vec F S512x1024 .f32) : Vec F S512x1024 .bf16 := k0_pay2 (k0_pay10 Lg D)
abbrev ofGates (P0 P1 P2 : Vec F S512x1024 .f32) (Lg : Vec F S512x3072 .bf16) (D : Vec F S512x1024 .f32) : Vec F S512x3072 .bf16 :=
  k0_pay3 (k0_pay12 P0 P1 P2 Lg D)

section
variable (c : Dev nD) (i : grid0.Coords)
  (M1 : Memref sig .tc .vmem S512x1024 .f32) (h1 : M1.IsWhole) (M2 : Memref sig .tc .vmem S512x1024 .f32) (h2 : M2.IsWhole)
  (M3 : Memref sig .tc .vmem S512x1024 .f32) (h3 : M3.IsWhole) (M4 : Memref sig .tc .vmem S512x3072 .bf16) (h4 : M4.IsWhole)
  (M5 : Memref sig .tc .vmem S512x1024 .f32) (h5 : M5.IsWhole) (M6 : Memref sig .tc .vmem S512x1024 .bf16) (h6 : M6.IsWhole)
  (M7 : Memref sig .tc .vmem S512x1024 .bf16) (h7 : M7.IsWhole) (M8 : Memref sig .tc .vmem S512x1024 .bf16) (h8 : M8.IsWhole)
  (x0 x1 x2 : Vec F S512x1024 .f32) (x3 : Vec F S512x3072 .bf16) (x4 : Vec F S512x1024 .f32)

/-- The blocks the body reads. -/
abbrev reads : sProp 𝕄 :=
  iprop(owns (c : Thread nD τ) M1 fullShare x0 ∗ owns (c : Thread nD τ) M2 fullShare x1 ∗ owns (c : Thread nD τ) M3 fullShare x2
    ∗ owns (c : Thread nD τ) M4 fullShare x3 ∗ owns (c : Thread nD τ) M5 fullShare x4)
/-- The blocks it writes, before and after. -/
abbrev before : sProp 𝕄 :=
  iprop((∃ d, owns (c : Thread nD τ) M6 fullShare d) ∗ (∃ d, owns (c : Thread nD τ) M7 fullShare d) ∗ ∃ d, owns (c : Thread nD τ) M8 fullShare d)
abbrev after : sProp 𝕄 :=
  iprop(owns (c : Thread nD τ) M6 fullShare (of0 x3 x4) ∗ owns (c : Thread nD τ) M7 fullShare (of1 x3 x4) ∗ owns (c : Thread nD τ) M8 fullShare (of2 x3 x4))
/-- The body at point `i`. -/
abbrev body : Prog (TpuEff nD τ sig (Elt F) Λ₀ .tc) PUnit :=
  cc0_merge_bwd i M1 h1 M2 h2 M3 h3 M4 h4 M5 h5 M6 h6 M7 h7 M8 h8 hM (Memref.isWhole_whole _) stg (Memref.isWhole_whole _) cc0_scratch1
/-- The body turns the copies' state `A` into `B`, and stores its blocks. -/
abbrev Steps (A B : sProp 𝕄) : Prop := ∀ (W : Waits sig Unit) (K : PUnit → sProp 𝕄),
  iprop(reads c M1 M2 M3 M4 M5 x0 x1 x2 x3 x4 ∗ before c M6 M7 M8 ∗ A ∗ owes (c : Thread nD τ) 0 W
      ∗ (iprop(reads c M1 M2 M3 M4 M5 x0 x1 x2 x3 x4 ∗ after c M6 M7 M8 x3 x4 ∗ B ∗ ∃ W', owes (c : Thread nD τ) 0 W') -∗ K ⟨⟩))
    ⊢ wp frame (wpE (defs₀ (F := F)) Variants.none c none) Set.univ (body i M1 h1 M2 h2 M3 h3 M4 h4 M5 h5 M6 h6 M7 h7 M8 h8) K

/-- A buffer held at contents that read as `x` is a block at `x`. -/
theorem back {sp : Space} {S : Shape} {e : EltTy} (M : Memref sig .tc sp S e) {f : Bf (F := F) c M} {x : Vec F S e} (h : M.view.read (Elt F) f = x) :
    (iprop(M.view.loc (c : Thread nD τ) ↦[M.view.set]{fullShare} f) : sProp 𝕄) ⊢ iprop(∃ f : Bf (F := F) c M, ⌜M.view.read (Elt F) f = x⌝ ∗ M.view.loc (c : Thread nD τ) ↦[M.view.set]{fullShare} f) := by
  iintro H; iexists f; isplitr; · ipureintro; exact h
  iexact H

/-- The stage after it is overwritten reads as the words stored. -/
theorem restaged (s : Bf (F := F) c stg) (p : Vec F S512x3072 .bf16) :
    stg.view.read (Elt F) (stg.view.writes (Elt F) s [⟨Rect.unit (s := S512x3072) ![0, 0] S512x3072.size inb_S512x3072_S512x3072_0_0, p⟩]) = p :=
  View.read_writes_full stg.view s _ _ _

set_option maxHeartbeats 1000000 in
/-- The first point starts its copy. -/
theorem first (hc1 : ¬ k0_cond1 i = 1#1) (hc2 : ¬ k0_cond2 i = 1#1) (g : Bf (F := F) c hM) :
    Steps c i M1 h1 M2 h2 M3 h3 M4 h4 M5 h5 M6 h6 M7 h7 M8 h8 x0 x1 x2 x3 x4
      iprop(whole c g ∗ stage c ∗ idle c) (inFlight c (landed c i g (ofGates x0 x1 x2 x3 x4))) := by
  intro W K
  unfold body reads before after whole stage idle inFlight owns
  iintro ⟨⟨⟨%f1, %e1, H1⟩, ⟨%f2, %e2, H2⟩, ⟨%f3, %e3, H3⟩, ⟨%f4, %e4, H4⟩, ⟨%f5, %e5, H5⟩⟩, ⟨⟨%d6, %f6, -, H6⟩, ⟨%d7, %f7, -, H7⟩, ⟨%d8, %f8, -, H8⟩⟩, ⟨Hg, ⟨%s, Hs⟩, Hv⟩, HO, Hk⟩
  obtain rfl := h1.eq_unread e1; obtain rfl := h2.eq_unread e2; obtain rfl := h3.eq_unread e3; obtain rfl := h4.eq_unread e4; obtain rfl := h5.eq_unread e5
  sl_exec_parts!
  sl_step
  have eg : first.sl.Hg_w0 c i M1 h1 M2 h2 M3 h3 M4 h4 M5 h5 x0 x1 x2 x3 x4 g s = landed c i g (ofGates x0 x1 x2 x3 x4) := by
    unfold first.sl.Hg_w0
    frame_out
    exact congrArg (fun p => View.write (Elt F) (win i).view g p Finset.univ) (restaged c s _)
  have e6 : M6.view.read (Elt F) (M6.view.writes (Elt F) M6.view.junk (first.sl.H6_1 c M4 h4 M5 h5 x3 x4)) = of0 x3 x4 := by frame_out
  have e7 : M7.view.read (Elt F) (M7.view.writes (Elt F) M7.view.junk (first.sl.H7_1 c M4 h4 M5 h5 x3 x4)) = of1 x3 x4 := by frame_out
  have e8 : M8.view.read (Elt F) (M8.view.writes (Elt F) M8.view.junk (first.sl.H8_1 c M4 h4 M5 h5 x3 x4)) = of2 x3 x4 := by frame_out
  rw [eg]
  iapply Hk
  isplitl [H1 H2 H3 H4 H5]
  · isplitl [H1]; · iapply (back c M1 e1) $$ H1
    isplitl [H2]; · iapply (back c M2 e2) $$ H2
    isplitl [H3]; · iapply (back c M3 e3) $$ H3
    isplitl [H4]; · iapply (back c M4 e4) $$ H4
    iapply (back c M5 e5) $$ H5
  isplitl [H6 H7 H8]
  · isplitl [H6]; · iapply (back c M6 e6) $$ H6
    isplitl [H7]; · iapply (back c M7 e7) $$ H7
    iapply (back c M8 e8) $$ H8
  isplitl [Hv]; · iexists _; iexact Hv
  iexists _; iexact HO

set_option maxHeartbeats 1000000 in
/-- A middle point waits for the copy of the point before it and starts its own. -/
theorem middle (hc1 : k0_cond1 i = 1#1) (hc2 : ¬ k0_cond2 i = 1#1) (g : Bf (F := F) c hM) :
    Steps c i M1 h1 M2 h2 M3 h3 M4 h4 M5 h5 M6 h6 M7 h7 M8 h8 x0 x1 x2 x3 x4
      (inFlight c g) (inFlight c (landed c i g (ofGates x0 x1 x2 x3 x4))) := by
  intro W K
  unfold body reads before after inFlight owns
  iintro ⟨⟨⟨%f1, %e1, H1⟩, ⟨%f2, %e2, H2⟩, ⟨%f3, %e3, H3⟩, ⟨%f4, %e4, H4⟩, ⟨%f5, %e5, H5⟩⟩, ⟨⟨%d6, %f6, -, H6⟩, ⟨%d7, %f7, -, H7⟩, ⟨%d8, %f8, -, H8⟩⟩, ⟨%s, Hf⟩, HO, Hk⟩
  obtain rfl := h1.eq_unread e1; obtain rfl := h2.eq_unread e2; obtain rfl := h3.eq_unread e3; obtain rfl := h4.eq_unread e4; obtain rfl := h5.eq_unread e5
  sl_exec_parts!
  sl_step
  have eg : middle.sl.Hf_dst_w0 c i M1 h1 M2 h2 M3 h3 M4 h4 M5 h5 x0 x1 x2 x3 x4 g s = landed c i g (ofGates x0 x1 x2 x3 x4) := by
    unfold middle.sl.Hf_dst_w0
    frame_out
    exact congrArg (fun p => View.write (Elt F) (win i).view g p Finset.univ) (restaged c s _)
  have e6 : M6.view.read (Elt F) (M6.view.writes (Elt F) M6.view.junk (middle.sl.H6_1 c M4 h4 M5 h5 x3 x4)) = of0 x3 x4 := by frame_out
  have e7 : M7.view.read (Elt F) (M7.view.writes (Elt F) M7.view.junk (middle.sl.H7_1 c M4 h4 M5 h5 x3 x4)) = of1 x3 x4 := by frame_out
  have e8 : M8.view.read (Elt F) (M8.view.writes (Elt F) M8.view.junk (middle.sl.H8_1 c M4 h4 M5 h5 x3 x4)) = of2 x3 x4 := by frame_out
  rw [eg]
  iapply Hk
  isplitl [H1 H2 H3 H4 H5]
  · isplitl [H1]; · iapply (back c M1 e1) $$ H1
    isplitl [H2]; · iapply (back c M2 e2) $$ H2
    isplitl [H3]; · iapply (back c M3 e3) $$ H3
    isplitl [H4]; · iapply (back c M4 e4) $$ H4
    iapply (back c M5 e5) $$ H5
  isplitl [H6 H7 H8]
  · isplitl [H6]; · iapply (back c M6 e6) $$ H6
    isplitl [H7]; · iapply (back c M7 e7) $$ H7
    iapply (back c M8 e8) $$ H8
  isplitl [Hf]; · iexists _; iexact Hf
  iexists _; iexact HO

set_option maxHeartbeats 1000000 in
/-- The last point also waits for its own copy. -/
theorem last (hc1 : k0_cond1 i = 1#1) (hc2 : k0_cond2 i = 1#1) (g : Bf (F := F) c hM) :
    Steps c i M1 h1 M2 h2 M3 h3 M4 h4 M5 h5 M6 h6 M7 h7 M8 h8 x0 x1 x2 x3 x4
      (inFlight c g) iprop(whole c (landed c i g (ofGates x0 x1 x2 x3 x4)) ∗ stage c ∗ idle c) := by
  intro W K
  unfold body reads before after whole stage idle inFlight owns
  iintro ⟨⟨⟨%f1, %e1, H1⟩, ⟨%f2, %e2, H2⟩, ⟨%f3, %e3, H3⟩, ⟨%f4, %e4, H4⟩, ⟨%f5, %e5, H5⟩⟩, ⟨⟨%d6, %f6, -, H6⟩, ⟨%d7, %f7, -, H7⟩, ⟨%d8, %f8, -, H8⟩⟩, ⟨%s, Hf⟩, HO, Hk⟩
  obtain rfl := h1.eq_unread e1; obtain rfl := h2.eq_unread e2; obtain rfl := h3.eq_unread e3; obtain rfl := h4.eq_unread e4; obtain rfl := h5.eq_unread e5
  sl_exec_parts!
  sl_step
  have eg : last.sl.Hf_dst_w0 c i M1 h1 M2 h2 M3 h3 M4 h4 M5 h5 x0 x1 x2 x3 x4 g s = landed c i g (ofGates x0 x1 x2 x3 x4) := by
    unfold last.sl.Hf_dst_w0
    frame_out
    exact congrArg (fun p => View.write (Elt F) (win i).view g p Finset.univ) (restaged c s _)
  have e6 : M6.view.read (Elt F) (M6.view.writes (Elt F) M6.view.junk (last.sl.H6_1 c M4 h4 M5 h5 x3 x4)) = of0 x3 x4 := by frame_out
  have e7 : M7.view.read (Elt F) (M7.view.writes (Elt F) M7.view.junk (last.sl.H7_1 c M4 h4 M5 h5 x3 x4)) = of1 x3 x4 := by frame_out
  have e8 : M8.view.read (Elt F) (M8.view.writes (Elt F) M8.view.junk (last.sl.H8_1 c M4 h4 M5 h5 x3 x4)) = of2 x3 x4 := by frame_out
  rw [eg]
  iapply Hk
  isplitl [H1 H2 H3 H4 H5]
  · isplitl [H1]; · iapply (back c M1 e1) $$ H1
    isplitl [H2]; · iapply (back c M2 e2) $$ H2
    isplitl [H3]; · iapply (back c M3 e3) $$ H3
    isplitl [H4]; · iapply (back c M4 e4) $$ H4
    iapply (back c M5 e5) $$ H5
  isplitl [H6 H7 H8]
  · isplitl [H6]; · iapply (back c M6 e6) $$ H6
    isplitl [H7]; · iapply (back c M7 e7) $$ H7
    iapply (back c M8 e8) $$ H8
  isplitl [Hf_dst Hf_src Hf]
  · isplitl [Hf_dst]; · iexact Hf_dst
    isplitl [Hf_src]; · iexists _; iexact Hf_src
    iexact Hf
  iexists _; iexact HO

end

end Cert.MergeBwdIdeal.Hand

end
-- ==== Proof.MergeBwdFrame.lean ====
module

public import proofs.«01_k».proof.Proof.MergeBwdBody
public import proofs.«01_k».proof.Proof.Gen.MergeBwdIdeal.Points
public import proofs.«01_k».proof.Proof.Gen.MergeBwd
public import proofs.«01_k».proof.Defs

/-! The run of the gradient of the merge: the invariant of the copies, the body against it at every point, the launch,
    and what the arrays hold afterwards. -/

@[expose] public section

set_option maxRecDepth 16384

noncomputable section

namespace Cert.MergeBwdIdeal.Hand

open Cert.MergeBwdIdeal Cert.MergeBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The gates' gradient that point `t` stores into the stage. -/
abbrev words (c : Dev nD) (t : Fin cfg0.N) : Vec F S512x3072 .bf16 :=
  ofGates (iblk m c 0 t) (iblk m c 1 t) (iblk m c 2 t) (X0_3 m c t) (iblk m c 4 t)

/-- The array left in HBM once the copies of the first `n` points have landed. -/
def grown (c : Dev nD) : ℕ → Bf (F := F) c hM
  | 0 => V m c main_v0_3
  | n + 1 => if h : n < cfg0.N then landed c (cfg0.grid.coords ⟨n, h⟩) (grown c n) (words m c ⟨n, h⟩) else grown c n

theorem grown_succ (c : Dev nD) (t : Fin cfg0.N) : grown m c (t.val + 1) = landed c (cfg0.grid.coords t) (grown m c t.val) (words m c t) :=
  dif_pos t.isLt

/-- What the copies hold before point `n`: everything at rest before the first and after the last, else one in flight. -/
def held (c : Dev nD) (n : ℕ) : sProp 𝕄 :=
  if 0 < n ∧ n < 8 then inFlight c (grown m c n) else iprop(whole c (grown m c n) ∗ stage c ∗ idle c)

/-- The proof data: inputs stay at their blocks, the outputs take what the body stores. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => of0 (X0_3 m c t) (iblk m c 4 t)
    | ⟨6, _⟩ => of1 (X0_3 m c t) (iblk m c 4 t)
    | ⟨7, _⟩ => of2 (X0_3 m c t) (iblk m c 4 t)
  Φ t := held m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = of0 (X0_3 m c t) (iblk m c 4 t) := by dsimp only [dats]
theorem after_6 (c : Dev nD) (t : Fin cfg0.N) : (dats m 0 c).after 6 t = of1 (X0_3 m c t) (iblk m c 4 t) := by dsimp only [dats]
theorem after_7 (c : Dev nD) (t : Fin cfg0.N) : (dats m 0 c).after 7 t = of2 (X0_3 m c t) (iblk m c 4 t) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = X0_3 m c t :=
  ((dats m 0 c).before_in_eq_fetched 3 rfl (fun _ => rfl)
      (fun t t' h => funext fun a => congrArg (fun n => Pipeline.Clip.of n ((cfg0.win 3).size a) (S4096x12800.size a)) (congrFun h a))
      (fun t => by rw [after_3]; unfold X0_3; rw [Pipeline.Window.cut_fill]; unfold Dat.blockOf iblk; rw [A_eq]) t d).trans
    (by unfold Dat.fetched X0_3; rw [fill0_3 t d dflt0_3]; unfold Dat.blockOf iblk; rw [A_eq])
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)

/-- The conditions of the body: only the first point does not wait for an earlier copy, only the last waits for its own. -/
theorem waits : ∀ t : Fin cfg0.N, (k0_cond1 (cfg0.grid.coords t) = 1#1 ↔ 0 < t.val) ∧ (k0_cond2 (cfg0.grid.coords t) = 1#1 ↔ t.val = 7) :=
  (by decide +kernel : ∀ t : Fin grid0.N, _)

/-- The body at point `t` takes the copies from one point to the next. -/
theorem steps (c : Dev nD) (t : Fin cfg0.N) : Steps c (cfg0.grid.coords t)
    (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (iblk m c 0 t) (iblk m c 1 t) (iblk m c 2 t) (X0_3 m c t) (iblk m c 4 t) (held m c t.val) (held m c (t.val + 1)) := by
  have hN : t.val < 8 := t.isLt
  unfold held
  rw [grown_succ]
  by_cases h0 : 0 < t.val
  · by_cases h7 : t.val = 7
    · rw [if_pos ⟨h0, hN⟩, if_neg (by omega)]
      exact last c _ _ _ _ _ _ _ _ _ _ _ _ _ _ _ _ _ _ _ _ _ _ ((waits t).1.mpr h0) ((waits t).2.mpr h7) _
    · rw [if_pos ⟨h0, hN⟩, if_pos (by omega)]
      exact middle c _ _ _ _ _ _ _ _ _ _ _ _ _ _ _ _ _ _ _ _ _ _ ((waits t).1.mpr h0) (fun h => h7 ((waits t).2.mp h)) _
  · rw [if_neg (fun h => h0 h.1), if_pos (by omega)]
    exact first c _ _ _ _ _ _ _ _ _ _ _ _ _ _ _ _ _ _ _ _ _ _ (fun h => h0 ((waits t).1.mp h)) (fun h => by have := (waits t).2.mp h; omega) _

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4, after_5, after_6, after_7]
  rw [show (dats m 0 c).Φ t.castSucc = held m c t.val from rfl, show (dats m 0 c).Φ t.succ = held m c (t.val + 1) from rfl]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (steps m c t W _)
  isplitl [H0 H1 H2 H3 H4]
  · isplitl [H0]; · iexact H0
    isplitl [H1]; · iexact H1
    isplitl [H2]; · iexact H2
    isplitl [H3]; · iexact H3
    iexact H4
  isplitl [H5 H6 H7]
  · isplitl [H5]; · iexists _; iexact H5
    isplitl [H6]; · iexists _; iexact H6
    iexists _; iexact H7
  isplitl [HΦ]; · iexact HΦ
  isplitl [HW]; · iexact HW
  iintro ⟨⟨H0, H1, H2, H3, H4⟩, ⟨H5, H6, H7⟩, HΦ, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The copies' counter, the one semaphore the body uses itself. -/
abbrev osem : Fin 1 → SemLoc sig := fun _ => SemLoc.dma ⟨16, by decide⟩
theorem ownSems_eq (c : Dev nD) :
    (Pipeline.ownSems0 (Ix := Unit) (Name := ℕ) (U := Pipeline.UD sig nD τ) (Lvl := ℕ) (Val := Elt F) (τ := τ) osem c : sProp 𝕄) = idle c := by
  rw [Pipeline.ownSems0_eq_of_list c osem [0] (by decide) (by decide), BI.bigSepL_singleton]

/-- The stage held whole, however it is spelt. -/
theorem stage_eq (c : Dev nD) : (stage c : sProp 𝕄) = iprop(∃ f : Buf (Elt F) ((c : Thread nD τ).loc cc0_scratch0), ((c : Thread nD τ).loc cc0_scratch0) ↦{fullShare} f) := by
  unfold stage; simp only [stg, Memref.view_whole, View.set_whole]

/-- The contents the run leaves in the buffers it writes by copies. -/
abbrev left (c : Dev nD) (b : Ref sig .tc) : Buf (Elt F) ((c : Thread nD τ).loc b) := Function.update (V m c) main_v0_3 (grown m c 8) b

theorem resources (c : Dev nD) (G : (c : Dev nD) → (b : Ref sig .tc) → Buf (Elt F) ((c : Thread nD τ).loc b)) :
    (Pipeline.ΦDRV osem spec0 ∅ {main_v0_3} (V m) G c : sProp 𝕄) = iprop(stage c ∗ idle c ∗ emp ∗ whole c (G c main_v0_3)) := by
  unfold Pipeline.ΦDRV
  rw [scopedRest0_eq, ownSems_eq, ← stage_eq, BI.bigSep_empty, BI.bigSep_singleton]; rfl

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall]) (by simp only [List.Forall]) main_chain

/-- What holds after the run: the windows' arrays, the other buffers after the slice of the copied array, the counters. -/
abbrev Post (r : PUnit × MemSt nD τ sig (Elt F)) : Prop :=
  (∀ c : Dev nD, (∀ w, r.2.mem ((spec0 w).arr.view.loc (c : Thread nD τ)) = (dats m 0 c).arrAt w cfg0.N)
    ∧ ∀ b ∈ Pipeline.restRefs sig spec0, r.2.mem ((c : Thread nD τ).loc b) = StableHlo.after ([hostOps1] : List (List (HloOp τ sig (Elt F)))).flatten
        (Pipeline.withArrays spec0 c (Pipeline.withR (V0 m c) {main_v0_3} c (left m c)) fun w => (dats m 0 c).arrAt w cfg0.N) (Proc.devRef .tc b))
  ∧ r.2.sem = fun _ => 0

set_option backward.isDefEq.respectTransparency.types false in
theorem run_main : θ_run defs (onTc (τ := τ) (main (F := F))) (s₀ m ρ) (Post m) :=
  Pipeline.θ_run_frame_dmaR_aroundV cfgs (dats m) (0 : Fin 1) launch0 osem defs₀ Variants.none (by decide) ∅ {main_v0_3} (by decide) (by decide) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := left m)
    (hmain := hmain m Variants.none) (hA := A_eq m)
    (hin := fun c => by
      show (Pipeline.ΦDRV osem spec0 ∅ {main_v0_3} (V m) (V m) c : sProp 𝕄) ⊢ held m c 0
      rw [resources]; unfold held; rw [if_neg (by decide)]
      iintro ⟨Hs, Hi, -, Hw⟩
      isplitl [Hw]; · iexact Hw
      isplitl [Hs]; · iexact Hs
      iexact Hi)
    (hout := fun c => by
      show held m c 8 ⊢ (Pipeline.ΦDRV osem spec0 ∅ {main_v0_3} (V m) (left m) c : sProp 𝕄)
      rw [resources]; unfold held; rw [if_neg (by decide), show left m c main_v0_3 = grown m c 8 from Function.update_self ..]
      iintro ⟨Hw, Hs, Hi⟩
      isplitl [Hs]; · iexact Hs
      isplitl [Hi]; · iexact Hi
      isplitr; · iempintro
      iexact Hw)
    (Q' := Post m) (hQ' := fun _ h => h)

/-- The arguments stay. -/
theorem stays (r) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have hw := (h.1 c).1
  ⟨(hw 0).trans (((dats m 0 c).arrAt_in 0 rfl _).trans ((A_eq m c 0).trans (V_main_arg0 m c))),
    (hw 1).trans (((dats m 0 c).arrAt_in 1 rfl _).trans ((A_eq m c 1).trans (V_main_arg1 m c))),
    (hw 2).trans (((dats m 0 c).arrAt_in 2 rfl _).trans ((A_eq m c 2).trans (V_main_arg2 m c))),
    (hw 3).trans (((dats m 0 c).arrAt_in 3 rfl _).trans ((A_eq m c 3).trans (V_main_arg3 m c))),
    (hw 4).trans (((dats m 0 c).arrAt_in 4 rfl _).trans ((A_eq m c 4).trans (V_main_arg4 m c)))⟩

/-- The frame: the program runs to its end, its arguments stay and every counter is zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨stays m r h, h.2⟩) (run_main m ρ)

/-- The two programs run the same body, under the same table. -/
theorem bodies : Cert.MergeBwd.defs₀ (F := F) = Cert.MergeBwdIdeal.defs₀ := by
  unfold Cert.MergeBwd.defs₀ Cert.MergeBwdIdeal.defs₀
  refine congrArg Defs.onTc (funext fun l => ?_)
  change Fin 1 at l
  obtain rfl : l = 0 := Subsingleton.elim _ _
  exact funext fun _ => rfl
theorem tables : Cert.MergeBwd.defs (F := F) = Cert.MergeBwdIdeal.defs := congrArg (Pipeline.defs Cert.MergeBwdIdeal.pcfgs) bodies

/-- The frame of the call as written, from the same run. -/
theorem frame_kernel : Cert.quiescent_MergeBwd := fun m ρ _ => by
  rw [tables]
  exact (θ_run Cert.MergeBwdIdeal.defs _ _).mono (fun _ h => h) (frame (F := Bits) m ρ)

end Cert.MergeBwdIdeal.Hand

end
-- ==== Proof.MergeBwd.lean ====
module

public import proofs.«01_k».proof.Proof.MergeBwdFrame
public import proofs.«01_k».proof.Proof.Gen.MergeBwdRefIdeal.Run
public import proofs.«01_k».proof.Defs
public import Idealize.ShloMosaic.Lib.Pipeline.ValueKit
public import Idealize.ShloMosaic.Lib.Pipeline.ReadBack
public import Idealize.ShloMosaic.Lib.Claim

/-! The four arrays the gradient of the merge leaves, against the reference's. -/

@[expose] public section

set_option maxRecDepth 16384

noncomputable section

open Idealize.ShloMosaic Idealize.ShloMosaic.TcCoe Idealize.SL.Sem
open Idealize.ShloMosaic.Pipeline (Dat)

namespace Cert.MergeBwdIdeal.Product
open Cert.MergeBwdIdeal Cert.MergeBwdIdeal.Gen Cert.MergeBwdIdeal.Hand

variable (m : (ℓ : Loc nD τ sig) → Buf (Elt Ideal) ℓ)

/-- The three gates of each row, side by side. -/
abbrev SIG (L : FVec Ideal S4096x12800 .bf16) : FVec Ideal S4096x3072 .f32 :=
  Host.divf (broadcastInDim Cert.MergeBwdRefIdeal.S4096x3072 ![] Cert.MergeBwdRefIdeal.Gen.bcast_S_S4096x3072 (constant Cert.MergeBwdRefIdeal.S_ .f32 0x3F800000#32)) (addf (broadcastInDim Cert.MergeBwdRefIdeal.S4096x3072 ![] Cert.MergeBwdRefIdeal.Gen.bcast_S_S4096x3072 (constant Cert.MergeBwdRefIdeal.S_ .f32 0x3F800000#32)) (Host.exp (Host.negf (extf .f32 (extractStridedSlice Cert.MergeBwdRefIdeal.S4096x3072 ![0, 9216] L Cert.MergeBwdRefIdeal.Gen.slices_S4096x12800_S4096x3072_0_9216) Cert.MergeBwdRefIdeal.Gen.bitsLt_bf16_f32))))
/-- The gradients of the three branches: the gate times the gradient that comes in. -/
abbrev BRANCH0 (L : FVec Ideal S4096x12800 .bf16) (D : FVec Ideal S4096x1024 .f32) : FVec Ideal S4096x1024 .bf16 :=
  truncf .bf16 (mulf (extractStridedSlice Cert.MergeBwdRefIdeal.S4096x1024 ![0, 0] (SIG L) Cert.MergeBwdRefIdeal.Gen.slices_S4096x3072_S4096x1024_0_0) (shapeCast _ D Cert.MergeBwdRefIdeal.Gen.shapeCasts_S4096x1024_S4096x1024)) Cert.MergeBwdRefIdeal.Gen.bitsLt_bf16_f32
abbrev BRANCH1 (L : FVec Ideal S4096x12800 .bf16) (D : FVec Ideal S4096x1024 .f32) : FVec Ideal S4096x1024 .bf16 :=
  truncf .bf16 (mulf (extractStridedSlice Cert.MergeBwdRefIdeal.S4096x1024 ![0, 1024] (SIG L) Cert.MergeBwdRefIdeal.Gen.slices_S4096x3072_S4096x1024_0_1024) (shapeCast _ D Cert.MergeBwdRefIdeal.Gen.shapeCasts_S4096x1024_S4096x1024)) Cert.MergeBwdRefIdeal.Gen.bitsLt_bf16_f32
abbrev BRANCH2 (L : FVec Ideal S4096x12800 .bf16) (D : FVec Ideal S4096x1024 .f32) : FVec Ideal S4096x1024 .bf16 :=
  truncf .bf16 (mulf (extractStridedSlice Cert.MergeBwdRefIdeal.S4096x1024 ![0, 2048] (SIG L) Cert.MergeBwdRefIdeal.Gen.slices_S4096x3072_S4096x1024_0_2048) (shapeCast _ D Cert.MergeBwdRefIdeal.Gen.shapeCasts_S4096x1024_S4096x1024)) Cert.MergeBwdRefIdeal.Gen.bitsLt_bf16_f32
/-- The gradient of the gates: the branch times the gradient that comes in, times the sigmoid's slope. -/
abbrev GATES (P0 P1 P2 : FVec Ideal S4096x1024 .f32) (L : FVec Ideal S4096x12800 .bf16) (D : FVec Ideal S4096x1024 .f32) : FVec Ideal S4096x3072 .bf16 :=
  truncf .bf16 (mulf (addf (addf (pad Cert.MergeBwdRefIdeal.S4096x3072 ![0, 2048] ![0, 0] ![0, 0] (mulf (shapeCast _ D Cert.MergeBwdRefIdeal.Gen.shapeCasts_S4096x1024_S4096x1024) P2) (constant Cert.MergeBwdRefIdeal.S_ .f32 0x00000000#32) Cert.MergeBwdRefIdeal.Gen.pads_S4096x1024_S4096x3072_000_204800 Cert.MergeBwdRefIdeal.Gen.h_S_) (pad Cert.MergeBwdRefIdeal.S4096x3072 ![0, 1024] ![0, 1024] ![0, 0] (mulf (shapeCast _ D Cert.MergeBwdRefIdeal.Gen.shapeCasts_S4096x1024_S4096x1024) P1) (constant Cert.MergeBwdRefIdeal.S_ .f32 0x00000000#32) Cert.MergeBwdRefIdeal.Gen.pads_S4096x1024_S4096x3072_000_102410240 Cert.MergeBwdRefIdeal.Gen.h_S_)) (pad Cert.MergeBwdRefIdeal.S4096x3072 ![0, 0] ![0, 2048] ![0, 0] (mulf (shapeCast _ D Cert.MergeBwdRefIdeal.Gen.shapeCasts_S4096x1024_S4096x1024) P0) (constant Cert.MergeBwdRefIdeal.S_ .f32 0x00000000#32) Cert.MergeBwdRefIdeal.Gen.pads_S4096x1024_S4096x3072_000_020480 Cert.MergeBwdRefIdeal.Gen.h_S_))
    (mulf (SIG L) (subf (broadcastInDim Cert.MergeBwdRefIdeal.S4096x3072 ![] Cert.MergeBwdRefIdeal.Gen.bcast_S_S4096x3072 (constant Cert.MergeBwdRefIdeal.S_ .f32 0x3F800000#32)) (SIG L)))) Cert.MergeBwdRefIdeal.Gen.bitsLt_bf16_f32

/-- Which block of its array each window shows at grid point `t`, and where the point's copy lands. -/
theorem idx : ∀ t : Fin cfg0.N, win0_0.index t = ![t.val, 0] ∧ win0_1.index t = ![t.val, 0] ∧ win0_2.index t = ![t.val, 0] ∧ win0_3.index t = ![t.val, 3] ∧ win0_4.index t = ![t.val, 0] ∧ win0_5.index t = ![t.val, 0] ∧ win0_6.index t = ![t.val, 0] ∧ win0_7.index t = ![t.val, 0] :=
  (by decide +kernel : ∀ t : Fin grid0.N, _)
theorem lands : ∀ t : Fin cfg0.N, k0_off2 (cfg0.grid.coords t) 0 = 512 * t.val ∧ k0_off2 (cfg0.grid.coords t) 1 = 9216 :=
  (by decide +kernel : ∀ t : Fin grid0.N, _)

/-- The block of the gates at point `t`: columns 9216 and on of the rows of the point. -/
theorem gates (c : Dev nD) (t : Fin cfg0.N) (j : S512x3072.Idx) (k : S4096x12800.Idx)
    (h0 : (k 0).val = 512 * t.val + (j 0).val) (h1 : (k 1).val = 9216 + (j 1).val) :
    X0_3 m c t j = m ((c : Thread nD τ).loc main_arg3) k := by
  unfold X0_3 Pipeline.Window.fill
  rw [dif_pos (moved0_3 t j)]
  refine congrArg (m ((c : Thread nD τ).loc main_arg3)) ?_
  funext a
  fin_cases a
  · refine Fin.ext ?_
    show win0_3.index t 0 * 512 + 1 * (j 0).val = (k 0).val
    rw [(idx t).2.2.2.1, h0]; simp; omega
  · refine Fin.ext ?_
    show win0_3.index t 1 * 3072 + 1 * (j 1).val = (k 1).val
    rw [(idx t).2.2.2.1, h1]; simp

theorem point0 (c : Dev nD) (t : Fin cfg0.N) (y) : of0 (X0_3 m c t) (iblk m c 4 t) y = BRANCH0 (m ((c : Thread nD τ).loc main_arg3)) (m ((c : Thread nD τ).loc main_arg4)) (((cfg0.win 5).blk t).view.emb y) := by
  have row : (((cfg0.win 5).blk t).view.emb y 0).val = 512 * t.val + (y 0).val := by
    show win0_5.index t 0 * 512 + 1 * (y 0).val = _
    rw [(idx t).2.2.2.2.2.1]; simp; omega
  pointwise [of0, k0_pay13, k0_pay5, k0_pay4, k0_pay8, BRANCH0, SIG]
  rw [gates m c t (ix2 (y 0) ⟨(y 1).val, by have : (y 1).val < 1024 := (y 1).isLt; omega⟩) (ix2 ((((cfg0.win 5).blk t).view.emb y) 0) ⟨9216 + (y 1).val, by have : (y 1).val < 1024 := (y 1).isLt; omega⟩) row rfl]
  blk_point [iblk, V, idx t] <;> rfl

theorem final0 (c : Dev nD) : (dats m 0 c).arrAt 5 (cfgs 0).N = BRANCH0 (m ((c : Thread nD τ).loc main_arg3)) (m ((c : Thread nD τ).loc main_arg4)) := by
  refine (dats m 0 c).arrAt_eq_of_covers 5 _ (by decide +kernel) fun t _ y => ?_
  blk_simp
  rw [after_5]
  exact point0 m c t y

theorem point1 (c : Dev nD) (t : Fin cfg0.N) (y) : of1 (X0_3 m c t) (iblk m c 4 t) y = BRANCH1 (m ((c : Thread nD τ).loc main_arg3)) (m ((c : Thread nD τ).loc main_arg4)) (((cfg0.win 6).blk t).view.emb y) := by
  have row : (((cfg0.win 6).blk t).view.emb y 0).val = 512 * t.val + (y 0).val := by
    show win0_6.index t 0 * 512 + 1 * (y 0).val = _
    rw [(idx t).2.2.2.2.2.2.1]; simp; omega
  pointwise [of1, k0_pay1, k0_pay11, k0_pay6, k0_pay4, k0_pay8, BRANCH1, SIG]
  rw [gates m c t (ix2 (y 0) ⟨1024 + (y 1).val, by have : (y 1).val < 1024 := (y 1).isLt; omega⟩) (ix2 ((((cfg0.win 6).blk t).view.emb y) 0) ⟨9216 + (1024 + (y 1).val), by have : (y 1).val < 1024 := (y 1).isLt; omega⟩) row rfl]
  blk_point [iblk, V, idx t] <;> rfl

theorem final1 (c : Dev nD) : (dats m 0 c).arrAt 6 (cfgs 0).N = BRANCH1 (m ((c : Thread nD τ).loc main_arg3)) (m ((c : Thread nD τ).loc main_arg4)) := by
  refine (dats m 0 c).arrAt_eq_of_covers 6 _ (by decide +kernel) fun t _ y => ?_
  blk_simp
  rw [after_6]
  exact point1 m c t y

theorem point2 (c : Dev nD) (t : Fin cfg0.N) (y) : of2 (X0_3 m c t) (iblk m c 4 t) y = BRANCH2 (m ((c : Thread nD τ).loc main_arg3)) (m ((c : Thread nD τ).loc main_arg4)) (((cfg0.win 7).blk t).view.emb y) := by
  have row : (((cfg0.win 7).blk t).view.emb y 0).val = 512 * t.val + (y 0).val := by
    show win0_7.index t 0 * 512 + 1 * (y 0).val = _
    rw [(idx t).2.2.2.2.2.2.2]; simp; omega
  pointwise [of2, k0_pay2, k0_pay10, k0_pay7, k0_pay4, k0_pay9, BRANCH2, SIG]
  rw [gates m c t (ix2 (y 0) ⟨2048 + (y 1).val, by have : (y 1).val < 1024 := (y 1).isLt; omega⟩) (ix2 ((((cfg0.win 7).blk t).view.emb y) 0) ⟨9216 + (2048 + (y 1).val), by have : (y 1).val < 1024 := (y 1).isLt; omega⟩) row rfl]
  blk_point [iblk, V, idx t] <;> rfl

theorem final2 (c : Dev nD) : (dats m 0 c).arrAt 7 (cfgs 0).N = BRANCH2 (m ((c : Thread nD τ).loc main_arg3)) (m ((c : Thread nD τ).loc main_arg4)) := by
  refine (dats m 0 c).arrAt_eq_of_covers 7 _ (by decide +kernel) fun t _ y => ?_
  blk_simp
  rw [after_7]
  exact point2 m c t y

/-- The row of a block of point `t` as a row of the array. -/
abbrev rowOf (t : Fin cfg0.N) (y : Fin 512) : Fin 4096 := ⟨512 * t.val + y.val, by have : t.val < 8 := t.isLt; omega⟩

/-- An entry of an input block of a branch. -/
theorem in0 (c : Dev nD) (t : Fin cfg0.N) (y : S512x1024.Idx) : (iblk m c 0 t : S512x1024.Idx → _) y = m ((c : Thread nD τ).loc main_arg0) (ix2 (rowOf t (y 0)) (y 1)) := by
  refine congrArg (m ((c : Thread nD τ).loc main_arg0)) ?_
  funext a
  fin_cases a
  · refine Fin.ext ?_
    show win0_0.index t 0 * 512 + 1 * (y 0).val = 512 * t.val + (y 0).val
    rw [(idx t).1]; simp; omega
  · refine Fin.ext ?_
    show win0_0.index t 1 * 1024 + 1 * (y 1).val = (y 1).val
    rw [(idx t).1]; simp
theorem in1 (c : Dev nD) (t : Fin cfg0.N) (y : S512x1024.Idx) : (iblk m c 1 t : S512x1024.Idx → _) y = m ((c : Thread nD τ).loc main_arg1) (ix2 (rowOf t (y 0)) (y 1)) := by
  refine congrArg (m ((c : Thread nD τ).loc main_arg1)) ?_
  funext a
  fin_cases a
  · refine Fin.ext ?_
    show win0_1.index t 0 * 512 + 1 * (y 0).val = 512 * t.val + (y 0).val
    rw [(idx t).2.1]; simp; omega
  · refine Fin.ext ?_
    show win0_1.index t 1 * 1024 + 1 * (y 1).val = (y 1).val
    rw [(idx t).2.1]; simp
theorem in2 (c : Dev nD) (t : Fin cfg0.N) (y : S512x1024.Idx) : (iblk m c 2 t : S512x1024.Idx → _) y = m ((c : Thread nD τ).loc main_arg2) (ix2 (rowOf t (y 0)) (y 1)) := by
  refine congrArg (m ((c : Thread nD τ).loc main_arg2)) ?_
  funext a
  fin_cases a
  · refine Fin.ext ?_
    show win0_2.index t 0 * 512 + 1 * (y 0).val = 512 * t.val + (y 0).val
    rw [(idx t).2.2.1]; simp; omega
  · refine Fin.ext ?_
    show win0_2.index t 1 * 1024 + 1 * (y 1).val = (y 1).val
    rw [(idx t).2.2.1]; simp
theorem in4 (c : Dev nD) (t : Fin cfg0.N) (y : S512x1024.Idx) : (iblk m c 4 t : S512x1024.Idx → _) y = m ((c : Thread nD τ).loc main_arg4) (ix2 (rowOf t (y 0)) (y 1)) := by
  refine congrArg (m ((c : Thread nD τ).loc main_arg4)) ?_
  funext a
  fin_cases a
  · refine Fin.ext ?_
    show win0_4.index t 0 * 512 + 1 * (y 0).val = 512 * t.val + (y 0).val
    rw [(idx t).2.2.2.2.1]; simp; omega
  · refine Fin.ext ?_
    show win0_4.index t 1 * 1024 + 1 * (y 1).val = (y 1).val
    rw [(idx t).2.2.2.2.1]; simp

/-- What point `t` copies out, entry by entry. -/
theorem copied (c : Dev nD) (t : Fin cfg0.N) (y : S512x3072.Idx) :
    words m c t y = GATES (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t (y 0)) (y 1)) := by
  pointwise [words, ofGates, k0_pay3, k0_pay12, k0_pay5, k0_pay6, k0_pay7, k0_pay4, k0_pay8, k0_pay9, GATES, SIG]
  have hr : 512 * t.val + (y 0).val < 4096 := (rowOf t (y 0)).isLt
  have h3 : (y 1).val < 3072 := (y 1).isLt
  have hL := gates m c t y (ix2 (rowOf t (y 0)) ⟨9216 + (y 1).val, by omega⟩) rfl rfl
  have shift (o : ℕ) (h : o ≤ (y 1).val) (h') : (ix2 (y 0) ⟨o + ((y 1).val - o), h'⟩ : S512x3072.Idx) = y := by
    funext a
    fin_cases a
    · rfl
    · exact Fin.ext (Nat.add_sub_cancel' h)
  rcases lt_or_ge (y 1).val 1024 with a | a
  · have b : (y 1).val < 2048 := by omega
    simp only [a, b, hr, not_le.mpr a, not_le.mpr b, true_and, false_and, and_false, and_self, ↓reduceDIte, zero_add, add_zero]
    rw [in4, in0, hL]; rfl
  · rcases lt_or_ge (y 1).val 2048 with b | b
    · have d : (y 1).val - 1024 < 1024 := by omega
      simp only [a, b, d, hr, not_lt.mpr a, not_le.mpr b, true_and, false_and, and_false, and_self, ↓reduceDIte, zero_add, add_zero, shift 1024 a]
      rw [in4, in1, hL]; rfl
    · have d : (y 1).val - 2048 < 1024 := by omega
      have e : ¬ (y 1).val - 1024 < 1024 := by omega
      simp only [a, b, d, e, hr, not_lt.mpr a, not_lt.mpr b, true_and, false_and, and_false, and_self, ↓reduceDIte, zero_add, add_zero, shift 2048 b]
      rw [in4, in2, hL]; rfl

/-- After `n` points the rows of those points hold the gates' gradient. -/
theorem grown_at (c : Dev nD) (n : ℕ) (hn : n ≤ 8) (k : S4096x12800.Idx) (j : S4096x3072.Idx) (h0 : k 0 = j 0) (h1 : (k 1).val = 9216 + (j 1).val)
    (hr : (j 0).val < 512 * n) : grown m c n k = GATES (m ((c : Thread nD τ).loc main_arg0)) (m ((c : Thread nD τ).loc main_arg1)) (m ((c : Thread nD τ).loc main_arg2)) (m ((c : Thread nD τ).loc main_arg3)) (m ((c : Thread nD τ).loc main_arg4)) j := by
  induction n with
  | zero => omega
  | succ n ih =>
    have hN : n < cfg0.N := hn
    rw [grown_succ m c ⟨n, hN⟩]
    by_cases hlt : (j 0).val < 512 * n
    · refine (View.write_of_not_mem _ _ _ ?_).trans (ih (by omega) hlt)
      intro hk
      obtain ⟨x, -, e⟩ := Finset.mem_map.mp hk
      have e0 : k0_off2 (cfg0.grid.coords ⟨n, hN⟩) 0 + 1 * (x 0).val = (k 0).val := congrArg (fun f : S4096x12800.Idx => (f 0).val) e
      rw [(lands ⟨n, hN⟩).1, h0] at e0
      simp at e0
      omega
    · have hy : (j 0).val - 512 * n < 512 := by omega
      have hk : k = (Hand.win (cfg0.grid.coords ⟨n, hN⟩)).view.emb (ix2 ⟨(j 0).val - 512 * n, hy⟩ (j 1)) := by
        funext a
        fin_cases a
        · refine Fin.ext ?_
          show (k 0).val = k0_off2 (cfg0.grid.coords ⟨n, hN⟩) 0 + 1 * ((j 0).val - 512 * n)
          rw [(lands ⟨n, hN⟩).1, h0]; simp; omega
        · refine Fin.ext ?_
          show (k 1).val = k0_off2 (cfg0.grid.coords ⟨n, hN⟩) 1 + 1 * (j 1).val
          rw [(lands ⟨n, hN⟩).2, h1]; simp
      rw [hk]
      refine (View.write_emb_of_mem _ _ (Finset.mem_univ _)).trans ?_
      refine (copied m c ⟨n, hN⟩ _).trans (congrArg (GATES _ _ _ _ _) ?_)
      funext a
      fin_cases a
      · refine Fin.ext ?_
        show 512 * n + ((j 0).val - 512 * n) = (j 0).val
        omega
      · rfl

theorem finalG (c : Dev nD) : extractStridedSlice S4096x3072 ![0, 9216] (grown m c 8 : FVec Ideal S4096x12800 .bf16) slices_S4096x12800_S4096x3072_0_9216 = GATES (m ((c : Thread nD τ).loc main_arg0)) (m ((c : Thread nD τ).loc main_arg1)) (m ((c : Thread nD τ).loc main_arg2)) (m ((c : Thread nD τ).loc main_arg3)) (m ((c : Thread nD τ).loc main_arg4)) := by
  funext j
  exact grown_at m c 8 le_rfl _ j (Fin.ext (Nat.zero_add _)) rfl (by have : (j 0).val < 4096 := (j 0).isLt; omega)

/-- The arrays after the run are the reference's values. -/
theorem results (r) (h : Post m r) (c : Dev nD) : r.2.mem ((c : Thread nD τ).loc main_v1) = GATES (m ((c : Thread nD τ).loc main_arg0)) (m ((c : Thread nD τ).loc main_arg1)) (m ((c : Thread nD τ).loc main_arg2)) (m ((c : Thread nD τ).loc main_arg3)) (m ((c : Thread nD τ).loc main_arg4)) := by
  refine ((h.1 c).2 main_v1 (Pipeline.mem_restRefs_of main_v1 (by decide) (by decide))).trans (Eq.trans ?_ (finalG m c))
  rw [show ([hostOps1] : List (List (HloOp τ sig (Elt Ideal)))).flatten = hostOps1 from rfl]
  after_results_simp
  rw [Pipeline.withArrays_of_ne _ _ _ _ main_v0_3 (by decide), Pipeline.withR_of_mem _ _ _ _ main_v0_3 (by decide), show left m c main_v0_3 = grown m c 8 from Function.update_self ..]

/-- The claim on the extended reals: kernel and reference leave the same arrays. -/
theorem algebraic : Cert.algebraic_MergeBwdIdeal_MergeBwdRefIdeal (hMergeBwdIdeal := Cert.MergeBwdIdeal.Gen.facts) (hMergeBwdRefIdeal := Cert.MergeBwdRefIdeal.Gen.facts) := by
  intro m g m' g' _ hagree
  refine ⟨fun c => BRANCH0 (m ((c : Thread nD τ).loc main_arg3)) (m ((c : Thread nD τ).loc main_arg4)), fun c => BRANCH1 (m ((c : Thread nD τ).loc main_arg3)) (m ((c : Thread nD τ).loc main_arg4)), fun c => BRANCH2 (m ((c : Thread nD τ).loc main_arg3)) (m ((c : Thread nD τ).loc main_arg4)), fun c => GATES (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine Idealize.ShloMosaic.θ_run_mono (Cert.MergeBwdIdeal.Hand.run_main m g) ?_
    intro r h c
    exact ⟨((h.1 c).1 5).trans (final0 m c), ((h.1 c).1 6).trans (final1 m c), ((h.1 c).1 7).trans (final2 m c), results m r h c, stays m r h c⟩
  · refine Idealize.ShloMosaic.θ_run_mono (Cert.MergeBwdRefIdeal.Value.run m' g') ?_
    intro r hr c
    obtain ⟨e0, e1, e2, e3, e4⟩ := hagree c
    refine ⟨(hr c).1.trans ?_, (hr c).2.1.trans ?_, (hr c).2.2.1.trans ?_, (hr c).2.2.2.1.trans ?_, (hr c).2.2.2.2⟩
    · rw [e3, e4]
    · rw [e3, e4]
    · rw [e3, e4]
    · rw [e0, e1, e2, e3, e4]

end Cert.MergeBwdIdeal.Product

end
-- ==== Proof.Merge.lean ====
module

public import proofs.«01_k».proof.Proof.Gen.MergeIdeal.Frame
public import proofs.«01_k».proof.Proof.Gen.MergeRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Product
open Cert.MergeIdeal Cert.MergeIdeal.Gen

variable (m : (ℓ : Loc nD τ sig) → Buf (Elt Ideal) ℓ)

/-- The three branches, each weighted by its gate, added up. -/
abbrev MERGED (P0 P1 P2 : FVec Ideal S4096x1024 .f32) (GATES : FVec Ideal S4096x12800 .bf16) : FVec Ideal S4096x1024 .bf16 :=
  truncf .bf16 (addf (addf (mulf (extractStridedSlice Cert.MergeRefIdeal.S4096x1024 ![0, 0] (Host.divf (broadcastInDim Cert.MergeRefIdeal.S4096x3072 ![] Cert.MergeRefIdeal.Gen.bcast_S_S4096x3072 (constant Cert.MergeRefIdeal.S_ .f32 0x3F800000#32)) (addf (broadcastInDim Cert.MergeRefIdeal.S4096x3072 ![] Cert.MergeRefIdeal.Gen.bcast_S_S4096x3072 (constant Cert.MergeRefIdeal.S_ .f32 0x3F800000#32)) (Host.exp (Host.negf (extf .f32 (extractStridedSlice Cert.MergeRefIdeal.S4096x3072 ![0, 9216] GATES Cert.MergeRefIdeal.Gen.slices_S4096x12800_S4096x3072_0_9216) Cert.MergeRefIdeal.Gen.bitsLt_bf16_f32))))) Cert.MergeRefIdeal.Gen.slices_S4096x3072_S4096x1024_0_0) P0) (mulf (extractStridedSlice Cert.MergeRefIdeal.S4096x1024 ![0, 1024] (Host.divf (broadcastInDim Cert.MergeRefIdeal.S4096x3072 ![] Cert.MergeRefIdeal.Gen.bcast_S_S4096x3072 (constant Cert.MergeRefIdeal.S_ .f32 0x3F800000#32)) (addf (broadcastInDim Cert.MergeRefIdeal.S4096x3072 ![] Cert.MergeRefIdeal.Gen.bcast_S_S4096x3072 (constant Cert.MergeRefIdeal.S_ .f32 0x3F800000#32)) (Host.exp (Host.negf (extf .f32 (extractStridedSlice Cert.MergeRefIdeal.S4096x3072 ![0, 9216] GATES Cert.MergeRefIdeal.Gen.slices_S4096x12800_S4096x3072_0_9216) Cert.MergeRefIdeal.Gen.bitsLt_bf16_f32))))) Cert.MergeRefIdeal.Gen.slices_S4096x3072_S4096x1024_0_1024) P1)) (mulf (extractStridedSlice Cert.MergeRefIdeal.S4096x1024 ![0, 2048] (Host.divf (broadcastInDim Cert.MergeRefIdeal.S4096x3072 ![] Cert.MergeRefIdeal.Gen.bcast_S_S4096x3072 (constant Cert.MergeRefIdeal.S_ .f32 0x3F800000#32)) (addf (broadcastInDim Cert.MergeRefIdeal.S4096x3072 ![] Cert.MergeRefIdeal.Gen.bcast_S_S4096x3072 (constant Cert.MergeRefIdeal.S_ .f32 0x3F800000#32)) (Host.exp (Host.negf (extf .f32 (extractStridedSlice Cert.MergeRefIdeal.S4096x3072 ![0, 9216] GATES Cert.MergeRefIdeal.Gen.slices_S4096x12800_S4096x3072_0_9216) Cert.MergeRefIdeal.Gen.bitsLt_bf16_f32))))) Cert.MergeRefIdeal.Gen.slices_S4096x3072_S4096x1024_0_2048) P2)) Cert.MergeRefIdeal.Gen.bitsLt_bf16_f32

/-- Which block of its array each window shows at grid point `t`. -/
theorem idx : ∀ t : Fin cfg0.N, win0_0.index t = ![t.val, 0] ∧ win0_1.index t = ![t.val, 0] ∧ win0_2.index t = ![t.val, 0] ∧ win0_3.index t = ![t.val, 3] ∧ win0_4.index t = ![t.val, 0] :=
  (by decide +kernel : ∀ t : Fin grid0.N, _)

/-- The block of the gates at point `t`: columns 9216 and on of the rows of the point. -/
theorem gates (c : Dev nD) (t : Fin cfg0.N) (j : S512x3072.Idx) (k : S4096x12800.Idx)
    (h0 : (k 0).val = 512 * t.val + (j 0).val) (h1 : (k 1).val = 9216 + (j 1).val) :
    X0_3 m c t j = m ((c : Thread nD τ).loc main_arg3) k := by
  unfold X0_3 Pipeline.Window.fill
  rw [dif_pos (moved0_3 t j)]
  refine congrArg (m ((c : Thread nD τ).loc main_arg3)) ?_
  funext a
  fin_cases a
  · refine Fin.ext ?_
    show win0_3.index t 0 * 512 + 1 * (j 0).val = (k 0).val
    rw [(idx t).2.2.2.1, h0]; simp; omega
  · refine Fin.ext ?_
    show win0_3.index t 1 * 3072 + 1 * (j 1).val = (k 1).val
    rw [(idx t).2.2.2.1, h1]; simp

/-- Where row `y` of a block of point `t` lies in the result. -/
theorem row (t : Fin cfg0.N) (y : S512x1024.Idx) : (((cfg0.win 4).blk t).view.emb y 0).val = 512 * t.val + (y 0).val := by
  show win0_4.index t 0 * 512 + 1 * (y 0).val = _
  rw [(idx t).2.2.2.2]; simp; omega

/-- What the body stores at index `y` of its block is the reference at the place where `y` lies in the array. -/
theorem point (c : Dev nD) (t : Fin cfg0.N) (y) : k0_pay1 (iblk m c 0 t) (iblk m c 1 t) (iblk m c 2 t) (X0_3 m c t) y
    = MERGED (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, MERGED]
  rw [gates m c t (ix2 (y 0) ⟨(y 1).val, by have : (y 1).val < 1024 := (y 1).isLt; omega⟩) (ix2 ((((cfg0.win 4).blk t).view.emb y) 0) ⟨9216 + (y 1).val, by have : (y 1).val < 1024 := (y 1).isLt; omega⟩) (row t y) rfl,
    gates m c t (ix2 (y 0) ⟨1024 + (y 1).val, by have : (y 1).val < 1024 := (y 1).isLt; omega⟩) (ix2 ((((cfg0.win 4).blk t).view.emb y) 0) ⟨9216 + (1024 + (y 1).val), by have : (y 1).val < 1024 := (y 1).isLt; omega⟩) (row t y) rfl,
    gates m c t (ix2 (y 0) ⟨2048 + (y 1).val, by have : (y 1).val < 1024 := (y 1).isLt; omega⟩) (ix2 ((((cfg0.win 4).blk t).view.emb y) 0) ⟨9216 + (2048 + (y 1).val), by have : (y 1).val < 1024 := (y 1).isLt; omega⟩) (row t y) rfl]
  blk_point [iblk, V, idx t] <;> rfl

/-- The array after the run is the reference's value. -/
theorem final (c : Dev nD) : (dats m 0 c).arrAt 4 (cfgs 0).N = MERGED (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; unfold outsAt0 out0_A_4; frame_out
  exact point m c t y

/-- The claim on the extended reals: kernel and reference leave the same arrays. -/
theorem algebraic : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    · exact (final m c).symm

end Cert.MergeIdeal.Product

end
-- ==== Proof.LnIn.lean ====
module

public import proofs.«01_k».proof.Proof.Gen.LnInIdeal.Frame
public import proofs.«01_k».proof.Proof.Gen.LnInRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LnInIdeal.Product
open Cert.LnInIdeal Cert.LnInIdeal.Gen

variable (m : (ℓ : Loc nD τ sig) → Buf (Elt Ideal) ℓ)

/-- Each row less its mean. -/
abbrev CENTRED (V : FVec Ideal S4096x1024 .f32) : FVec Ideal S4096x1024 .f32 :=
  subf V (broadcastInDim Cert.LnInRefIdeal.S4096x1024 ![0, 1] Cert.LnInRefIdeal.Gen.bcast_S4096x1_S4096x1024_0_1 (Host.divf (broadcastInDim Cert.LnInRefIdeal.S4096x1 ![0] Cert.LnInRefIdeal.Gen.bcast_S4096_S4096x1_0 (Host.reduceAdd V (constant Cert.LnInRefIdeal.S_ .f32 0x00000000#32) Cert.LnInRefIdeal.Gen.reducesTo_S4096x1024_S4096_d1 Cert.LnInRefIdeal.Gen.h_S_)) (broadcastInDim Cert.LnInRefIdeal.S4096x1 ![] Cert.LnInRefIdeal.Gen.bcast_S_S4096x1 (constant Cert.LnInRefIdeal.S_ .f32 0x44800000#32))))

/-- One over the root of each row's variance plus a small number. -/
abbrev SCALE (V : FVec Ideal S4096x1024 .f32) : FVec Ideal Cert.LnInRefIdeal.S4096x1 .f32 :=
  Host.rsqrt (addf (Host.divf (broadcastInDim Cert.LnInRefIdeal.S4096x1 ![0] Cert.LnInRefIdeal.Gen.bcast_S4096_S4096x1_0 (Host.reduceAdd (mulf (CENTRED V) (CENTRED V)) (constant Cert.LnInRefIdeal.S_ .f32 0x00000000#32) Cert.LnInRefIdeal.Gen.reducesTo_S4096x1024_S4096_d1 Cert.LnInRefIdeal.Gen.h_S_)) (broadcastInDim Cert.LnInRefIdeal.S4096x1 ![] Cert.LnInRefIdeal.Gen.bcast_S_S4096x1 (constant Cert.LnInRefIdeal.S_ .f32 0x44800000#32))) (broadcastInDim Cert.LnInRefIdeal.S4096x1 ![] Cert.LnInRefIdeal.Gen.bcast_S_S4096x1 (constant Cert.LnInRefIdeal.S_ .f32 0x3727C5AC#32)))

/-- The layer norm of each row of `V` with weight `G` and shift `B`. -/
abbrev NORM (V : FVec Ideal S4096x1024 .f32) (G B : FVec Ideal S1x1024 .f32) : FVec Ideal S4096x1024 .f32 :=
  addf (mulf (mulf (CENTRED V) (broadcastInDim Cert.LnInRefIdeal.S4096x1024 ![0, 1] Cert.LnInRefIdeal.Gen.bcast_S4096x1_S4096x1024_0_1 (SCALE V))) (broadcastInDim Cert.LnInRefIdeal.S4096x1024 ![0, 1] Cert.LnInRefIdeal.Gen.bcast_S1x1024_S4096x1024_0_1 G)) (broadcastInDim Cert.LnInRefIdeal.S4096x1024 ![0, 1] Cert.LnInRefIdeal.Gen.bcast_S1x1024_S4096x1024_0_1 B)

/-- The norm, rounded. -/
abbrev NORMB (V : FVec Ideal S4096x1024 .f32) (G B : FVec Ideal S1x1024 .f32) : FVec Ideal S4096x1024 .bf16 :=
  truncf .bf16 (NORM V G B) Cert.LnInRefIdeal.Gen.bitsLt_bf16_f32

/-- Which block of its array each window shows at grid point `t`. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- What the body stores of `NORM` at index `y` of its block is the reference at the place where `y` lies in the array. -/
theorem point_NORM (c : Dev nD) (t : Fin cfg0.N) (y) : k0_pay1 (iblk m c 0 t) (iblk m c 1 t) (iblk m c 2 t) y
    = NORM (m ((c : Thread nD τ).loc main_arg0)) (m ((c : Thread nD τ).loc main_arg1)) (m ((c : Thread nD τ).loc main_arg2)) (((cfg0.win 3).blk t).view.emb y) := by
  pointwise [k0_pay1, NORM, CENTRED, SCALE]
  blk_point [iblk, V, idx t]

/-- The array of `NORM` after the run is the reference's value. -/
theorem final_NORM (c : Dev nD) : (dats m 0 c).arrAt 3 (cfgs 0).N = NORM (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point_NORM m c t y

/-- What the body stores of `NORMB` at index `y` of its block is the reference at the place where `y` lies in the array. -/
theorem point_NORMB (c : Dev nD) (t : Fin cfg0.N) (y) : k0_pay2 (iblk m c 0 t) (iblk m c 1 t) (iblk m c 2 t) y
    = NORMB (m ((c : Thread nD τ).loc main_arg0)) (m ((c : Thread nD τ).loc main_arg1)) (m ((c : Thread nD τ).loc main_arg2)) (((cfg0.win 4).blk t).view.emb y) := by
  exact point_NORM m c t y

/-- The array of `NORMB` after the run is the reference's value. -/
theorem final_NORMB (c : Dev nD) : (dats m 0 c).arrAt 4 (cfgs 0).N = NORMB (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_NORMB m c t y

/-- The claim on the extended reals: kernel and reference leave the same arrays. -/
theorem algebraic : Cert.algebraic_LnInIdeal_LnInRefIdeal (hLnInIdeal := Cert.LnInIdeal.Gen.facts) (hLnInRefIdeal := Cert.LnInRefIdeal.Gen.facts) := by
  pair_intro
  · run_from Cert.LnInIdeal.Gen.run_main m g
  · run_from Cert.LnInRefIdeal.Value.run m' g'
    · exact (final_NORM m c).symm
    · exact (final_NORMB m c).symm

end Cert.LnInIdeal.Product

end
-- ==== Proof.Normgate.lean ====
module

public import proofs.«01_k».proof.Proof.Gen.NormgateIdeal.Frame
public import proofs.«01_k».proof.Proof.Gen.NormgateRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormgateIdeal.Product
open Cert.NormgateIdeal Cert.NormgateIdeal.Gen

variable (m : (ℓ : Loc nD τ sig) → Buf (Elt Ideal) ℓ)

/-- The columns of each row in four heads of 256. -/
abbrev HEADS (X : FVec Ideal S4096x1024 .f32) : FVec Ideal Cert.NormgateRefIdeal.S4096x4x256 .f32 :=
  shapeCast Cert.NormgateRefIdeal.S4096x4x256 X Cert.NormgateRefIdeal.Gen.shapeCasts_S4096x1024_S4096x4x256

/-- Each head less its mean. -/
abbrev CENTRED (X : FVec Ideal Cert.NormgateRefIdeal.S4096x4x256 .f32) : FVec Ideal Cert.NormgateRefIdeal.S4096x4x256 .f32 :=
  subf X (broadcastInDim Cert.NormgateRefIdeal.S4096x4x256 ![0, 1, 2] Cert.NormgateRefIdeal.Gen.bcast_S4096x4x1_S4096x4x256_0_1_2 (Host.divf (broadcastInDim Cert.NormgateRefIdeal.S4096x4x1 ![0, 1] Cert.NormgateRefIdeal.Gen.bcast_S4096x4_S4096x4x1_0_1 (Host.reduceAdd X (constant Cert.NormgateRefIdeal.S_ .f32 0x00000000#32) Cert.NormgateRefIdeal.Gen.reducesTo_S4096x4x256_S4096x4_d2 Cert.NormgateRefIdeal.Gen.h_S_)) (broadcastInDim Cert.NormgateRefIdeal.S4096x4x1 ![] Cert.NormgateRefIdeal.Gen.bcast_S_S4096x4x1 (constant Cert.NormgateRefIdeal.S_ .f32 0x43800000#32))))

/-- Each head over the root of its mean square plus a small number. -/
abbrev SCALED (X : FVec Ideal Cert.NormgateRefIdeal.S4096x4x256 .f32) : FVec Ideal Cert.NormgateRefIdeal.S4096x4x256 .f32 :=
  mulf X (broadcastInDim Cert.NormgateRefIdeal.S4096x4x256 ![0, 1, 2] Cert.NormgateRefIdeal.Gen.bcast_S4096x4x1_S4096x4x256_0_1_2 (Host.rsqrt (addf (Host.divf (broadcastInDim Cert.NormgateRefIdeal.S4096x4x1 ![0, 1] Cert.NormgateRefIdeal.Gen.bcast_S4096x4_S4096x4x1_0_1 (Host.reduceAdd (mulf X X) (constant Cert.NormgateRefIdeal.S_ .f32 0x00000000#32) Cert.NormgateRefIdeal.Gen.reducesTo_S4096x4x256_S4096x4_d2 Cert.NormgateRefIdeal.Gen.h_S_)) (broadcastInDim Cert.NormgateRefIdeal.S4096x4x1 ![] Cert.NormgateRefIdeal.Gen.bcast_S_S4096x4x1 (constant Cert.NormgateRefIdeal.S_ .f32 0x43800000#32))) (broadcastInDim Cert.NormgateRefIdeal.S4096x4x1 ![] Cert.NormgateRefIdeal.Gen.bcast_S_S4096x4x1 (constant Cert.NormgateRefIdeal.S_ .f32 0x3727C5AC#32)))))

/-- The first result: each centred and scaled head times its gate. -/
abbrev RET (X : FVec Ideal S4096x1024 .f32) (PROJ : FVec Ideal S4096x12800 .bf16) : FVec Ideal S4096x1024 .bf16 :=
  truncf .bf16 (mulf (mulf (extf .f32 (extractStridedSlice Cert.NormgateRefIdeal.S4096x1024 ![0, 5120] PROJ Cert.NormgateRefIdeal.Gen.slices_S4096x12800_S4096x1024_0_5120) Cert.NormgateRefIdeal.Gen.bitsLt_bf16_f32) (Host.divf (broadcastInDim Cert.NormgateRefIdeal.S4096x1024 ![] Cert.NormgateRefIdeal.Gen.bcast_S_S4096x1024 (constant Cert.NormgateRefIdeal.S_ .f32 0x3F800000#32)) (addf (broadcastInDim Cert.NormgateRefIdeal.S4096x1024 ![] Cert.NormgateRefIdeal.Gen.bcast_S_S4096x1024 (constant Cert.NormgateRefIdeal.S_ .f32 0x3F800000#32)) (Host.exp (Host.negf (extf .f32 (extractStridedSlice Cert.NormgateRefIdeal.S4096x1024 ![0, 5120] PROJ Cert.NormgateRefIdeal.Gen.slices_S4096x12800_S4096x1024_0_5120) Cert.NormgateRefIdeal.Gen.bitsLt_bf16_f32)))))) (shapeCast Cert.NormgateRefIdeal.S4096x1024 (SCALED (CENTRED (HEADS X))) Cert.NormgateRefIdeal.Gen.shapeCasts_S4096x4x256_S4096x1024)) Cert.NormgateRefIdeal.Gen.bitsLt_bf16_f32

/-- The second result: each scaled head times the weight and its gate. -/
abbrev GLA (X : FVec Ideal S4096x1024 .f32) (PROJ : FVec Ideal S4096x12800 .bf16) (W : FVec Ideal S1x256 .f32) : FVec Ideal S4096x1024 .bf16 :=
  truncf .bf16 (mulf (mulf (extf .f32 (extractStridedSlice Cert.NormgateRefIdeal.S4096x1024 ![0, 8192] PROJ Cert.NormgateRefIdeal.Gen.slices_S4096x12800_S4096x1024_0_8192) Cert.NormgateRefIdeal.Gen.bitsLt_bf16_f32) (Host.divf (broadcastInDim Cert.NormgateRefIdeal.S4096x1024 ![] Cert.NormgateRefIdeal.Gen.bcast_S_S4096x1024 (constant Cert.NormgateRefIdeal.S_ .f32 0x3F800000#32)) (addf (broadcastInDim Cert.NormgateRefIdeal.S4096x1024 ![] Cert.NormgateRefIdeal.Gen.bcast_S_S4096x1024 (constant Cert.NormgateRefIdeal.S_ .f32 0x3F800000#32)) (Host.exp (Host.negf (extf .f32 (extractStridedSlice Cert.NormgateRefIdeal.S4096x1024 ![0, 8192] PROJ Cert.NormgateRefIdeal.Gen.slices_S4096x12800_S4096x1024_0_8192) Cert.NormgateRefIdeal.Gen.bitsLt_bf16_f32)))))) (shapeCast Cert.NormgateRefIdeal.S4096x1024 (mulf (SCALED (HEADS X)) (broadcastInDim Cert.NormgateRefIdeal.S4096x4x256 ![0, 1, 2] Cert.NormgateRefIdeal.Gen.bcast_S1x1x256_S4096x4x256_0_1_2 (broadcastInDim Cert.NormgateRefIdeal.S1x1x256 ![1, 2] Cert.NormgateRefIdeal.Gen.bcast_S1x256_S1x1x256_1_2 W))) Cert.NormgateRefIdeal.Gen.shapeCasts_S4096x4x256_S4096x1024)) Cert.NormgateRefIdeal.Gen.bitsLt_bf16_f32

/-- Which block of its array each window shows at grid point `t`. -/
theorem idx : ∀ t : Fin cfg0.N, win0_0.index t = ![t.val, 0] ∧ win0_1.index t = ![t.val, 5] ∧ win0_2.index t = ![t.val, 0] ∧ win0_3.index t = ![t.val, 8] ∧ win0_4.index t = ![0, 0] ∧ win0_5.index t = ![t.val, 0] ∧ win0_6.index t = ![t.val, 0] :=
  (by decide +kernel : ∀ t : Fin grid0.N, _)

/-- The block of the gate in window 1 at point `t`: columns 5120 and on of the rows of the point. -/
theorem gate1 (c : Dev nD) (t : Fin cfg0.N) (j : S512x1024.Idx) (k : S4096x12800.Idx)
    (h0 : (k 0).val = 512 * t.val + (j 0).val) (h1 : (k 1).val = 5120 + (j 1).val) :
    X0_1 m c t j = m ((c : Thread nD τ).loc main_arg2) k := by
  unfold X0_1 Pipeline.Window.fill
  rw [dif_pos (moved0_1 t j)]
  refine congrArg (m ((c : Thread nD τ).loc main_arg2)) ?_
  funext a
  fin_cases a
  · refine Fin.ext ?_
    show win0_1.index t 0 * 512 + 1 * (j 0).val = (k 0).val
    rw [(idx t).2.1, h0]; simp; omega
  · refine Fin.ext ?_
    show win0_1.index t 1 * 1024 + 1 * (j 1).val = (k 1).val
    rw [(idx t).2.1, h1]; simp

/-- The block of the gate in window 3 at point `t`: columns 8192 and on of the rows of the point. -/
theorem gate3 (c : Dev nD) (t : Fin cfg0.N) (j : S512x1024.Idx) (k : S4096x12800.Idx)
    (h0 : (k 0).val = 512 * t.val + (j 0).val) (h1 : (k 1).val = 8192 + (j 1).val) :
    X0_3 m c t j = m ((c : Thread nD τ).loc main_arg2) k := by
  unfold X0_3 Pipeline.Window.fill
  rw [dif_pos (moved0_3 t j)]
  refine congrArg (m ((c : Thread nD τ).loc main_arg2)) ?_
  funext a
  fin_cases a
  · refine Fin.ext ?_
    show win0_3.index t 0 * 512 + 1 * (j 0).val = (k 0).val
    rw [(idx t).2.2.2.1, h0]; simp; omega
  · refine Fin.ext ?_
    show win0_3.index t 1 * 1024 + 1 * (j 1).val = (k 1).val
    rw [(idx t).2.2.2.1, h1]; simp

/-- The block of the first array at point `t`: the rows of the point. -/
theorem in0 (c : Dev nD) (t : Fin cfg0.N) (j : S512x1024.Idx) (k : S4096x1024.Idx)
    (h0 : (k 0).val = 512 * t.val + (j 0).val) (h1 : (k 1).val = (j 1).val) :
    iblk m c 0 t j = m ((c : Thread nD τ).loc main_arg0) k := by
  refine congrArg (m ((c : Thread nD τ).loc main_arg0)) ?_
  funext a
  fin_cases a
  · refine Fin.ext ?_
    show win0_0.index t 0 * 512 + 1 * (j 0).val = (k 0).val
    rw [(idx t).1, h0]; simp; omega
  · refine Fin.ext ?_
    show win0_0.index t 1 * 1024 + 1 * (j 1).val = (k 1).val
    rw [(idx t).1, h1]; simp

/-- The block of the second array at point `t`: the rows of the point. -/
theorem in2 (c : Dev nD) (t : Fin cfg0.N) (j : S512x1024.Idx) (k : S4096x1024.Idx)
    (h0 : (k 0).val = 512 * t.val + (j 0).val) (h1 : (k 1).val = (j 1).val) :
    iblk m c 2 t j = m ((c : Thread nD τ).loc main_arg1) k := by
  refine congrArg (m ((c : Thread nD τ).loc main_arg1)) ?_
  funext a
  fin_cases a
  · refine Fin.ext ?_
    show win0_2.index t 0 * 512 + 1 * (j 0).val = (k 0).val
    rw [(idx t).2.2.1, h0]; simp; omega
  · refine Fin.ext ?_
    show win0_2.index t 1 * 1024 + 1 * (j 1).val = (k 1).val
    rw [(idx t).2.2.1, h1]; simp

/-- The block of the weight at every point: the whole weight. -/
theorem in4 (c : Dev nD) (t : Fin cfg0.N) (j : S1x256.Idx) (k : S1x256.Idx)
    (h0 : (k 0).val = (j 0).val) (h1 : (k 1).val = (j 1).val) :
    iblk m c 4 t j = m ((c : Thread nD τ).loc main_arg3) k := by
  refine congrArg (m ((c : Thread nD τ).loc main_arg3)) ?_
  funext a
  fin_cases a
  · refine Fin.ext ?_
    show win0_4.index t 0 * 1 + 1 * (j 0).val = (k 0).val
    rw [(idx t).2.2.2.2.1, h0]; simp
  · refine Fin.ext ?_
    show win0_4.index t 1 * 256 + 1 * (j 1).val = (k 1).val
    rw [(idx t).2.2.2.2.1, h1]; simp

/-- Where index `y` of a block of window 5 at point `t` lies in the array. -/
theorem place5 (t : Fin cfg0.N) (y : S512x1024.Idx) : (((cfg0.win 5).blk t).view.emb y 0).val = 512 * t.val + (y 0).val ∧ (((cfg0.win 5).blk t).view.emb y 1).val = (y 1).val := by
  constructor
  · show win0_5.index t 0 * 512 + 1 * (y 0).val = _
    rw [(idx t).2.2.2.2.2.1]; simp; omega
  · show win0_5.index t 1 * 1024 + 1 * (y 1).val = _
    rw [(idx t).2.2.2.2.2.1]; simp

/-- Where index `y` of a block of window 6 at point `t` lies in the array. -/
theorem place6 (t : Fin cfg0.N) (y : S512x1024.Idx) : (((cfg0.win 6).blk t).view.emb y 0).val = 512 * t.val + (y 0).val ∧ (((cfg0.win 6).blk t).view.emb y 1).val = (y 1).val := by
  constructor
  · show win0_6.index t 0 * 512 + 1 * (y 0).val = _
    rw [(idx t).2.2.2.2.2.2]; simp; omega
  · show win0_6.index t 1 * 1024 + 1 * (y 1).val = _
    rw [(idx t).2.2.2.2.2.2]; simp

/-- What the body stores of `RET` at index `y` of its block is the reference at the place `k` where `y` lies in the array. In
    each of the four heads the columns that are averaged are the same on both sides. -/
theorem point_RET (c : Dev nD) (t : Fin cfg0.N) (y : S512x1024.Idx) (k : S4096x1024.Idx) (h0 : (k 0).val = 512 * t.val + (y 0).val) (h1 : (k 1).val = (y 1).val) :
    k0_pay14 (iblk m c 0 t) (k0_pay2 (X0_1 m c t)) (k0_pay4 (iblk m c 0 t)) (k0_pay8 (k0_pay6 (iblk m c 0 t)) (k0_pay7 (iblk m c 0 t))) (k0_pay10 (iblk m c 0 t)) y = RET (m ((c : Thread nD τ).loc main_arg0)) (m ((c : Thread nD τ).loc main_arg2)) k := by
  pointwise [k0_pay14, k0_pay2, k0_pay4, k0_pay8, k0_pay6, k0_pay7, k0_pay10, RET, SCALED, CENTRED, HEADS]
  have hy : (y 1).val < 1024 := (y 1).isLt
  have hk : k = ix2 (k 0) (k 1) := by funext a; fin_cases a <;> rfl
  have hx : iblk m c 0 t y = m ((c : Thread nD τ).loc main_arg0) (ix2 (k 0) (k 1)) := in0 m c t y _ h0 h1
  have hrow (j) : iblk m c 0 t (ix2 (y 0) j) = m ((c : Thread nD τ).loc main_arg0) (ix2 (k 0) j) := in0 m c t _ _ h0 rfl
  have hthis : m ((c : Thread nD τ).loc main_arg0) k = m ((c : Thread nD τ).loc main_arg0) (ix2 (k 0) (k 1)) := congrArg _ hk
  refine congrArg₂ (· * ·) ?_ ?_
  · rw [gate1 m c t y (ix2 (k 0) ⟨5120 + (k 1).val, by omega⟩) h0 (by show 5120 + (k 1).val = _; rw [h1])]; rfl
  · rw [hx, hthis]
    simp only [hrow]
    split_ifs <;> congr! <;> first | omega | exact congrArg (ix2 (k 0)) (Fin.ext (by show _ = (k 1).val; dsimp only; omega))

/-- The array of `RET` after the run is the reference's value. -/
theorem final_RET (c : Dev nD) : (dats m 0 c).arrAt 5 (cfgs 0).N = RET (m ((c : Thread nD τ).loc main_arg0)) (m ((c : Thread nD τ).loc main_arg2)) := by
  refine (dats m 0 c).arrAt_eq_of_covers 5 _ (by decide +kernel) fun t _ y => ?_
  blk_simp
  rw [after0_5]; unfold outsAt0 out0_A_5; frame_out
  exact point_RET m c t y _ (place5 t y).1 (place5 t y).2

/-- What the body stores of `GLA` at index `y` of its block is the reference at the place `k` where `y` lies in the array. In
    each of the four heads the columns that are averaged are the same on both sides. -/
theorem point_GLA (c : Dev nD) (t : Fin cfg0.N) (y : S512x1024.Idx) (k : S4096x1024.Idx) (h0 : (k 0).val = 512 * t.val + (y 0).val) (h1 : (k 1).val = (y 1).val) :
    k0_pay1 (k0_pay13 (iblk m c 2 t) (k0_pay3 (X0_3 m c t)) (iblk m c 4 t) (k0_pay5 (iblk m c 2 t) (iblk m c 4 t)) (k0_pay9 (iblk m c 2 t) (iblk m c 4 t)) (k0_pay11 (iblk m c 2 t)) (k0_pay12 (iblk m c 2 t))) y = GLA (m ((c : Thread nD τ).loc main_arg1)) (m ((c : Thread nD τ).loc main_arg2)) (m ((c : Thread nD τ).loc main_arg3)) k := by
  pointwise [k0_pay1, k0_pay13, k0_pay3, k0_pay5, k0_pay9, k0_pay11, k0_pay12, GLA, SCALED, HEADS]
  have hy : (y 1).val < 1024 := (y 1).isLt
  have hk : k = ix2 (k 0) (k 1) := by funext a; fin_cases a <;> rfl
  have hx : iblk m c 2 t y = m ((c : Thread nD τ).loc main_arg1) (ix2 (k 0) (k 1)) := in2 m c t y _ h0 h1
  have hrow (j) : iblk m c 2 t (ix2 (y 0) j) = m ((c : Thread nD τ).loc main_arg1) (ix2 (k 0) j) := in2 m c t _ _ h0 rfl
  have hthis : m ((c : Thread nD τ).loc main_arg1) k = m ((c : Thread nD τ).loc main_arg1) (ix2 (k 0) (k 1)) := congrArg _ hk
  have hw (j) : iblk m c 4 t (ix2 0 j) = m ((c : Thread nD τ).loc main_arg3) (ix2 0 j) := in4 m c t _ _ rfl rfl
  refine congrArg₂ (· * ·) ?_ ?_
  · rw [gate3 m c t y (ix2 (k 0) ⟨8192 + (k 1).val, by omega⟩) h0 (by show 8192 + (k 1).val = _; rw [h1])]; rfl
  · rw [hx, hthis]
    simp only [hrow, hw]
    split_ifs
    all_goals
      refine congrArg₂ (· * ·) (congrArg₂ (· * ·) ?_ ?_) ?_
      · exact congrArg (fun j => m ((c : Thread nD τ).loc main_arg1) (ix2 (k 0) j)) (Fin.ext (by show _ = (k 1).val; first | omega | (dsimp only; omega)))
      · congr! <;> omega
      · exact congrArg (fun j => m ((c : Thread nD τ).loc main_arg3) (ix2 0 j)) (Fin.ext (by show _ = (k 1).val % 256; first | omega | (dsimp only; omega)))

/-- The array of `GLA` after the run is the reference's value. -/
theorem final_GLA (c : Dev nD) : (dats m 0 c).arrAt 6 (cfgs 0).N = GLA (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; unfold outsAt0 out0_A_6; frame_out
  exact point_GLA m c t y _ (place6 t y).1 (place6 t y).2

/-- The claim on the extended reals: kernel and reference leave the same arrays. -/
theorem algebraic : Cert.algebraic_NormgateIdeal_NormgateRefIdeal (hNormgateIdeal := Cert.NormgateIdeal.Gen.facts) (hNormgateRefIdeal := Cert.NormgateRefIdeal.Gen.facts) := by
  pair_intro
  · run_from Cert.NormgateIdeal.Gen.run_main m g
  · run_from Cert.NormgateRefIdeal.Value.run m' g'
    · exact (final_RET m c).symm
    · exact (final_GLA m c).symm

end Cert.NormgateIdeal.Product

end
-- ==== Proof.lean ====
module

public import proofs.«01_k».proof.Defs
public import proofs.«01_k».proof.Proof.Gen.MlpDownBwd
public import proofs.«01_k».proof.Proof.Gen.MlpDownBwd.Frame
public import proofs.«01_k».proof.Proof.MlpDownBwd
public import proofs.«01_k».proof.Proof.Gen.MlpDownWgrad
public import proofs.«01_k».proof.Proof.Gen.MlpDownWgrad.Frame
public import proofs.«01_k».proof.Proof.MlpDownWgrad
public import proofs.«01_k».proof.Proof.Gen.MlpUpBwd
public import proofs.«01_k».proof.Proof.Gen.MlpUpBwd.Frame
public import proofs.«01_k».proof.Proof.MlpUpBwd
public import proofs.«01_k».proof.Proof.Gen.MlpUpWgrad
public import proofs.«01_k».proof.Proof.Gen.MlpUpWgrad.Frame
public import proofs.«01_k».proof.Proof.MlpUpWgrad
public import proofs.«01_k».proof.Proof.Gen.OutBwd
public import proofs.«01_k».proof.Proof.Gen.OutBwd.Frame
public import proofs.«01_k».proof.Proof.OutBwd
public import proofs.«01_k».proof.Proof.Gen.OutWgrad
public import proofs.«01_k».proof.Proof.Gen.OutWgrad.Frame
public import proofs.«01_k».proof.Proof.OutWgrad
public import proofs.«01_k».proof.Proof.Gen.BranchBwdA
public import proofs.«01_k».proof.Proof.Gen.BranchBwdA.Frame
public import proofs.«01_k».proof.Proof.BranchBwdA
public import proofs.«01_k».proof.Proof.Gen.BranchBwd
public import proofs.«01_k».proof.Proof.Gen.BranchBwd.Frame
public import proofs.«01_k».proof.Proof.BranchBwd
public import proofs.«01_k».proof.Proof.Gen.BranchWgrad
public import proofs.«01_k».proof.Proof.Gen.BranchWgrad.Frame
public import proofs.«01_k».proof.Proof.BranchWgrad
public import proofs.«01_k».proof.Proof.Gen.ProjWgrad
public import proofs.«01_k».proof.Proof.Gen.ProjWgrad.Frame
public import proofs.«01_k».proof.Proof.ProjWgrad
public import proofs.«01_k».proof.Proof.Gen.ProjBwd
public import proofs.«01_k».proof.Proof.Gen.ProjBwd.Frame
public import proofs.«01_k».proof.Proof.ProjBwd
public import proofs.«01_k».proof.Proof.Gen.LnBwd
public import proofs.«01_k».proof.Proof.Gen.LnBwd.Frame
public import proofs.«01_k».proof.Proof.LnBwd
public import proofs.«01_k».proof.Proof.Gen.LnInBwd
public import proofs.«01_k».proof.Proof.Gen.LnInBwd.Frame
public import proofs.«01_k».proof.Proof.LnInBwd
public import proofs.«01_k».proof.Proof.Gen.Proj
public import proofs.«01_k».proof.Proof.Gen.Proj.Frame
public import proofs.«01_k».proof.Proof.Proj
public import proofs.«01_k».proof.Proof.Gen.BranchProj
public import proofs.«01_k».proof.Proof.Gen.BranchProj.Frame
public import proofs.«01_k».proof.Proof.BranchProj
public import proofs.«01_k».proof.Proof.Gen.MlpUp
public import proofs.«01_k».proof.Proof.Gen.MlpUp.Frame
public import proofs.«01_k».proof.Proof.MlpUp
public import proofs.«01_k».proof.Proof.Gen.OutProjLn
public import proofs.«01_k».proof.Proof.Gen.OutProjLn.Frame
public import proofs.«01_k».proof.Proof.OutProjLn
public import proofs.«01_k».proof.Proof.Gen.MlpDownLn
public import proofs.«01_k».proof.Proof.Gen.MlpDownLn.Frame
public import proofs.«01_k».proof.Proof.MlpDownLn
public import proofs.«01_k».proof.Proof.Gen.MergeBwd
public import proofs.«01_k».proof.Proof.MergeBwd
public import proofs.«01_k».proof.Proof.Gen.Merge
public import proofs.«01_k».proof.Proof.Gen.Merge.Frame
public import proofs.«01_k».proof.Proof.Merge
public import proofs.«01_k».proof.Proof.Gen.LnIn
public import proofs.«01_k».proof.Proof.Gen.LnIn.Frame
public import proofs.«01_k».proof.Proof.LnIn
public import proofs.«01_k».proof.Proof.Gen.Normgate
public import proofs.«01_k».proof.Proof.Gen.Normgate.Frame
public import proofs.«01_k».proof.Proof.Normgate
public import Idealize.ShloMosaic.Lib.Quiescent
public import Idealize.ShloMosaic.Lib.Claim
public import Idealize.ShloMosaic.Adequacy
public import Idealize.ShloMosaic.Init

/-! The certificate, put together: per kernel the frame of the kernel as written, the frame of the kernel on the
    extended reals, the frame of its reference, and the value claim that joins the last two. The value claims are proved
    in the module that bears the kernel's name. -/

@[expose] public section

noncomputable section

namespace Cert.Proof

open Idealize.ShloMosaic Idealize.SL.Sem

/-- The reference of `MlpDownBwd` runs to its end and leaves its arguments and the counters as they were. -/
theorem refMlpDownBwd : Cert.quiescent_MlpDownBwdRefIdeal (hMlpDownBwdRefIdeal := Cert.MlpDownBwdRefIdeal.Gen.facts) :=
  fun m g _ => (θ_run Cert.MlpDownBwdRefIdeal.defs _ _).mono
    (fun r h => ⟨fun c => (h c).2, Idealize.ShloMosaic.sem_eq_zero_of_no_sems (by decide) r.2⟩)
    (Cert.MlpDownBwdRefIdeal.Value.run (F := Ideal) m g)

/-- The reference of `MlpDownWgrad` runs to its end and leaves its arguments and the counters as they were. -/
theorem refMlpDownWgrad : Cert.quiescent_MlpDownWgradRefIdeal (hMlpDownWgradRefIdeal := Cert.MlpDownWgradRefIdeal.Gen.facts) :=
  fun m g _ => (θ_run Cert.MlpDownWgradRefIdeal.defs _ _).mono
    (fun r h => ⟨fun c => (h c).2, Idealize.ShloMosaic.sem_eq_zero_of_no_sems (by decide) r.2⟩)
    (Cert.MlpDownWgradRefIdeal.Value.run (F := Ideal) m g)

/-- The reference of `MlpUpBwd` runs to its end and leaves its arguments and the counters as they were. -/
theorem refMlpUpBwd : Cert.quiescent_MlpUpBwdRefIdeal (hMlpUpBwdRefIdeal := Cert.MlpUpBwdRefIdeal.Gen.facts) :=
  fun m g _ => (θ_run Cert.MlpUpBwdRefIdeal.defs _ _).mono
    (fun r h => ⟨fun c => (h c).2, Idealize.ShloMosaic.sem_eq_zero_of_no_sems (by decide) r.2⟩)
    (Cert.MlpUpBwdRefIdeal.Value.run (F := Ideal) m g)

/-- The reference of `MlpUpWgrad` runs to its end and leaves its arguments and the counters as they were. -/
theorem refMlpUpWgrad : Cert.quiescent_MlpUpWgradRefIdeal (hMlpUpWgradRefIdeal := Cert.MlpUpWgradRefIdeal.Gen.facts) :=
  fun m g _ => (θ_run Cert.MlpUpWgradRefIdeal.defs _ _).mono
    (fun r h => ⟨fun c => (h c).2, Idealize.ShloMosaic.sem_eq_zero_of_no_sems (by decide) r.2⟩)
    (Cert.MlpUpWgradRefIdeal.Value.run (F := Ideal) m g)

/-- The reference of `OutBwd` runs to its end and leaves its arguments and the counters as they were. -/
theorem refOutBwd : Cert.quiescent_OutBwdRefIdeal (hOutBwdRefIdeal := Cert.OutBwdRefIdeal.Gen.facts) :=
  fun m g _ => (θ_run Cert.OutBwdRefIdeal.defs _ _).mono
    (fun r h => ⟨fun c => (h c).2, Idealize.ShloMosaic.sem_eq_zero_of_no_sems (by decide) r.2⟩)
    (Cert.OutBwdRefIdeal.Value.run (F := Ideal) m g)

/-- The reference of `OutWgrad` runs to its end and leaves its arguments and the counters as they were. -/
theorem refOutWgrad : Cert.quiescent_OutWgradRefIdeal (hOutWgradRefIdeal := Cert.OutWgradRefIdeal.Gen.facts) :=
  fun m g _ => (θ_run Cert.OutWgradRefIdeal.defs _ _).mono
    (fun r h => ⟨fun c => (h c).2, Idealize.ShloMosaic.sem_eq_zero_of_no_sems (by decide) r.2⟩)
    (Cert.OutWgradRefIdeal.Value.run (F := Ideal) m g)

/-- The reference of `BranchBwdA` runs to its end and leaves its arguments and the counters as they were. -/
theorem refBranchBwdA : Cert.quiescent_BranchBwdARefIdeal (hBranchBwdARefIdeal := Cert.BranchBwdARefIdeal.Gen.facts) :=
  fun m g _ => (θ_run Cert.BranchBwdARefIdeal.defs _ _).mono
    (fun r h => ⟨fun c => (h c).2, Idealize.ShloMosaic.sem_eq_zero_of_no_sems (by decide) r.2⟩)
    (Cert.BranchBwdARefIdeal.Value.run (F := Ideal) m g)

/-- The reference of `BranchBwd` runs to its end and leaves its arguments and the counters as they were. -/
theorem refBranchBwd : Cert.quiescent_BranchBwdRefIdeal (hBranchBwdRefIdeal := Cert.BranchBwdRefIdeal.Gen.facts) :=
  fun m g _ => (θ_run Cert.BranchBwdRefIdeal.defs _ _).mono
    (fun r h => ⟨fun c => (h c).2, Idealize.ShloMosaic.sem_eq_zero_of_no_sems (by decide) r.2⟩)
    (Cert.BranchBwdRefIdeal.Value.run (F := Ideal) m g)

/-- The reference of `BranchWgrad` runs to its end and leaves its arguments and the counters as they were. -/
theorem refBranchWgrad : Cert.quiescent_BranchWgradRefIdeal (hBranchWgradRefIdeal := Cert.BranchWgradRefIdeal.Gen.facts) :=
  fun m g _ => (θ_run Cert.BranchWgradRefIdeal.defs _ _).mono
    (fun r h => ⟨fun c => (h c).2, Idealize.ShloMosaic.sem_eq_zero_of_no_sems (by decide) r.2⟩)
    (Cert.BranchWgradRefIdeal.Value.run (F := Ideal) m g)

/-- The reference of `ProjWgrad` runs to its end and leaves its arguments and the counters as they were. -/
theorem refProjWgrad : Cert.quiescent_ProjWgradRefIdeal (hProjWgradRefIdeal := Cert.ProjWgradRefIdeal.Gen.facts) :=
  fun m g _ => (θ_run Cert.ProjWgradRefIdeal.defs _ _).mono
    (fun r h => ⟨fun c => (h c).2, Idealize.ShloMosaic.sem_eq_zero_of_no_sems (by decide) r.2⟩)
    (Cert.ProjWgradRefIdeal.Value.run (F := Ideal) m g)

/-- The reference of `ProjBwd` runs to its end and leaves its arguments and the counters as they were. -/
theorem refProjBwd : Cert.quiescent_ProjBwdRefIdeal (hProjBwdRefIdeal := Cert.ProjBwdRefIdeal.Gen.facts) :=
  fun m g _ => (θ_run Cert.ProjBwdRefIdeal.defs _ _).mono
    (fun r h => ⟨fun c => (h c).2, Idealize.ShloMosaic.sem_eq_zero_of_no_sems (by decide) r.2⟩)
    (Cert.ProjBwdRefIdeal.Value.run (F := Ideal) m g)

/-- The reference of `LnBwd` runs to its end and leaves its arguments and the counters as they were. -/
theorem refLnBwd : Cert.quiescent_LnBwdRefIdeal (hLnBwdRefIdeal := Cert.LnBwdRefIdeal.Gen.facts) :=
  fun m g _ => (θ_run Cert.LnBwdRefIdeal.defs _ _).mono
    (fun r h => ⟨fun c => (h c).2.2.2.2, Idealize.ShloMosaic.sem_eq_zero_of_no_sems (by decide) r.2⟩)
    (Cert.LnBwdRefIdeal.Value.run (F := Ideal) m g)

/-- The reference of `LnInBwd` runs to its end and leaves its arguments and the counters as they were. -/
theorem refLnInBwd : Cert.quiescent_LnInBwdRefIdeal (hLnInBwdRefIdeal := Cert.LnInBwdRefIdeal.Gen.facts) :=
  fun m g _ => (θ_run Cert.LnInBwdRefIdeal.defs _ _).mono
    (fun r h => ⟨fun c => (h c).2.2.2, Idealize.ShloMosaic.sem_eq_zero_of_no_sems (by decide) r.2⟩)
    (Cert.LnInBwdRefIdeal.Value.run (F := Ideal) m g)

/-- The reference of `Proj` runs to its end and leaves its arguments and the counters as they were. -/
theorem refProj : Cert.quiescent_ProjRefIdeal (hProjRefIdeal := Cert.ProjRefIdeal.Gen.facts) :=
  fun m g _ => (θ_run Cert.ProjRefIdeal.defs _ _).mono
    (fun r h => ⟨fun c => (h c).2, Idealize.ShloMosaic.sem_eq_zero_of_no_sems (by decide) r.2⟩)
    (Cert.ProjRefIdeal.Value.run (F := Ideal) m g)

/-- The reference of `BranchProj` runs to its end and leaves its arguments and the counters as they were. -/
theorem refBranchProj : Cert.quiescent_BranchProjRefIdeal (hBranchProjRefIdeal := Cert.BranchProjRefIdeal.Gen.facts) :=
  fun m g _ => (θ_run Cert.BranchProjRefIdeal.defs _ _).mono
    (fun r h => ⟨fun c => (h c).2, Idealize.ShloMosaic.sem_eq_zero_of_no_sems (by decide) r.2⟩)
    (Cert.BranchProjRefIdeal.Value.run (F := Ideal) m g)

/-- The reference of `MlpUp` runs to its end and leaves its arguments and the counters as they were. -/
theorem refMlpUp : Cert.quiescent_MlpUpRefIdeal (hMlpUpRefIdeal := Cert.MlpUpRefIdeal.Gen.facts) :=
  fun m g _ => (θ_run Cert.MlpUpRefIdeal.defs _ _).mono
    (fun r h => ⟨fun c => (h c).2.2, Idealize.ShloMosaic.sem_eq_zero_of_no_sems (by decide) r.2⟩)
    (Cert.MlpUpRefIdeal.Value.run (F := Ideal) m g)

/-- The reference of `OutProjLn` runs to its end and leaves its arguments and the counters as they were. -/
theorem refOutProjLn : Cert.quiescent_OutProjLnRefIdeal (hOutProjLnRefIdeal := Cert.OutProjLnRefIdeal.Gen.facts) :=
  fun m g _ => (θ_run Cert.OutProjLnRefIdeal.defs _ _).mono
    (fun r h => ⟨fun c => (h c).2.2.2, Idealize.ShloMosaic.sem_eq_zero_of_no_sems (by decide) r.2⟩)
    (Cert.OutProjLnRefIdeal.Value.run (F := Ideal) m g)

/-- The reference of `MlpDownLn` runs to its end and leaves its arguments and the counters as they were. -/
theorem refMlpDownLn : Cert.quiescent_MlpDownLnRefIdeal (hMlpDownLnRefIdeal := Cert.MlpDownLnRefIdeal.Gen.facts) :=
  fun m g _ => (θ_run Cert.MlpDownLnRefIdeal.defs _ _).mono
    (fun r h => ⟨fun c => (h c).2.2.2, Idealize.ShloMosaic.sem_eq_zero_of_no_sems (by decide) r.2⟩)
    (Cert.MlpDownLnRefIdeal.Value.run (F := Ideal) m g)

/-- The reference of `MergeBwd` runs to its end and leaves its arguments and the counters as they were. -/
theorem refMergeBwd : Cert.quiescent_MergeBwdRefIdeal (hMergeBwdRefIdeal := Cert.MergeBwdRefIdeal.Gen.facts) :=
  fun m g _ => (θ_run Cert.MergeBwdRefIdeal.defs _ _).mono
    (fun r h => ⟨fun c => (h c).2.2.2.2, Idealize.ShloMosaic.sem_eq_zero_of_no_sems (by decide) r.2⟩)
    (Cert.MergeBwdRefIdeal.Value.run (F := Ideal) m g)

/-- The reference of `Merge` runs to its end and leaves its arguments and the counters as they were. -/
theorem refMerge : Cert.quiescent_MergeRefIdeal (hMergeRefIdeal := Cert.MergeRefIdeal.Gen.facts) :=
  fun m g _ => (θ_run Cert.MergeRefIdeal.defs _ _).mono
    (fun r h => ⟨fun c => (h c).2, Idealize.ShloMosaic.sem_eq_zero_of_no_sems (by decide) r.2⟩)
    (Cert.MergeRefIdeal.Value.run (F := Ideal) m g)

/-- The reference of `LnIn` runs to its end and leaves its arguments and the counters as they were. -/
theorem refLnIn : Cert.quiescent_LnInRefIdeal (hLnInRefIdeal := Cert.LnInRefIdeal.Gen.facts) :=
  fun m g _ => (θ_run Cert.LnInRefIdeal.defs _ _).mono
    (fun r h => ⟨fun c => (h c).2.2, Idealize.ShloMosaic.sem_eq_zero_of_no_sems (by decide) r.2⟩)
    (Cert.LnInRefIdeal.Value.run (F := Ideal) m g)

/-- The reference of `Normgate` runs to its end and leaves its arguments and the counters as they were. -/
theorem refNormgate : Cert.quiescent_NormgateRefIdeal (hNormgateRefIdeal := Cert.NormgateRefIdeal.Gen.facts) :=
  fun m g _ => (θ_run Cert.NormgateRefIdeal.defs _ _).mono
    (fun r h => ⟨fun c => (h c).2.2, Idealize.ShloMosaic.sem_eq_zero_of_no_sems (by decide) r.2⟩)
    (Cert.NormgateRefIdeal.Value.run (F := Ideal) m g)

/-- Everything the certificate claims. -/
theorem claim : Cert.Claim :=
  ⟨Cert.MlpDownBwd.Gen.facts,
    Cert.MlpDownBwdIdeal.Gen.facts,
    Cert.MlpDownBwdRefIdeal.Gen.facts,
    Cert.MlpDownWgrad.Gen.facts,
    Cert.MlpDownWgradIdeal.Gen.facts,
    Cert.MlpDownWgradRefIdeal.Gen.facts,
    Cert.MlpUpBwd.Gen.facts,
    Cert.MlpUpBwdIdeal.Gen.facts,
    Cert.MlpUpBwdRefIdeal.Gen.facts,
    Cert.MlpUpWgrad.Gen.facts,
    Cert.MlpUpWgradIdeal.Gen.facts,
    Cert.MlpUpWgradRefIdeal.Gen.facts,
    Cert.OutBwd.Gen.facts,
    Cert.OutBwdIdeal.Gen.facts,
    Cert.OutBwdRefIdeal.Gen.facts,
    Cert.OutWgrad.Gen.facts,
    Cert.OutWgradIdeal.Gen.facts,
    Cert.OutWgradRefIdeal.Gen.facts,
    Cert.BranchBwdA.Gen.facts,
    Cert.BranchBwdAIdeal.Gen.facts,
    Cert.BranchBwdARefIdeal.Gen.facts,
    Cert.BranchBwd.Gen.facts,
    Cert.BranchBwdIdeal.Gen.facts,
    Cert.BranchBwdRefIdeal.Gen.facts,
    Cert.BranchWgrad.Gen.facts,
    Cert.BranchWgradIdeal.Gen.facts,
    Cert.BranchWgradRefIdeal.Gen.facts,
    Cert.ProjWgrad.Gen.facts,
    Cert.ProjWgradIdeal.Gen.facts,
    Cert.ProjWgradRefIdeal.Gen.facts,
    Cert.ProjBwd.Gen.facts,
    Cert.ProjBwdIdeal.Gen.facts,
    Cert.ProjBwdRefIdeal.Gen.facts,
    Cert.LnBwd.Gen.facts,
    Cert.LnBwdIdeal.Gen.facts,
    Cert.LnBwdRefIdeal.Gen.facts,
    Cert.LnInBwd.Gen.facts,
    Cert.LnInBwdIdeal.Gen.facts,
    Cert.LnInBwdRefIdeal.Gen.facts,
    Cert.Proj.Gen.facts,
    Cert.ProjIdeal.Gen.facts,
    Cert.ProjRefIdeal.Gen.facts,
    Cert.BranchProj.Gen.facts,
    Cert.BranchProjIdeal.Gen.facts,
    Cert.BranchProjRefIdeal.Gen.facts,
    Cert.MlpUp.Gen.facts,
    Cert.MlpUpIdeal.Gen.facts,
    Cert.MlpUpRefIdeal.Gen.facts,
    Cert.OutProjLn.Gen.facts,
    Cert.OutProjLnIdeal.Gen.facts,
    Cert.OutProjLnRefIdeal.Gen.facts,
    Cert.MlpDownLn.Gen.facts,
    Cert.MlpDownLnIdeal.Gen.facts,
    Cert.MlpDownLnRefIdeal.Gen.facts,
    Cert.MergeBwd.Gen.facts,
    Cert.MergeBwdIdeal.Gen.facts,
    Cert.MergeBwdRefIdeal.Gen.facts,
    Cert.Merge.Gen.facts,
    Cert.MergeIdeal.Gen.facts,
    Cert.MergeRefIdeal.Gen.facts,
    Cert.LnIn.Gen.facts,
    Cert.LnInIdeal.Gen.facts,
    Cert.LnInRefIdeal.Gen.facts,
    Cert.Normgate.Gen.facts,
    Cert.NormgateIdeal.Gen.facts,
    Cert.NormgateRefIdeal.Gen.facts,
    fun m g _ => Cert.MlpDownBwd.Gen.frame m g,
    fun m g _ => Cert.MlpDownBwdIdeal.Gen.frame m g,
    refMlpDownBwd,
    fun m g _ => Cert.MlpDownWgrad.Gen.frame m g,
    fun m g _ => Cert.MlpDownWgradIdeal.Gen.frame m g,
    refMlpDownWgrad,
    fun m g _ => Cert.MlpUpBwd.Gen.frame m g,
    fun m g _ => Cert.MlpUpBwdIdeal.Gen.frame m g,
    refMlpUpBwd,
    fun m g _ => Cert.MlpUpWgrad.Gen.frame m g,
    fun m g _ => Cert.MlpUpWgradIdeal.Gen.frame m g,
    refMlpUpWgrad,
    fun m g _ => Cert.OutBwd.Gen.frame m g,
    fun m g _ => Cert.OutBwdIdeal.Gen.frame m g,
    refOutBwd,
    fun m g _ => Cert.OutWgrad.Gen.frame m g,
    fun m g _ => Cert.OutWgradIdeal.Gen.frame m g,
    refOutWgrad,
    fun m g _ => Cert.BranchBwdA.Gen.frame m g,
    fun m g _ => Cert.BranchBwdAIdeal.Gen.frame m g,
    refBranchBwdA,
    fun m g _ => Cert.BranchBwd.Gen.frame m g,
    fun m g _ => Cert.BranchBwdIdeal.Gen.frame m g,
    refBranchBwd,
    fun m g _ => Cert.BranchWgrad.Gen.frame m g,
    fun m g _ => Cert.BranchWgradIdeal.Gen.frame m g,
    refBranchWgrad,
    fun m g _ => Cert.ProjWgrad.Gen.frame m g,
    fun m g _ => Cert.ProjWgradIdeal.Gen.frame m g,
    refProjWgrad,
    fun m g _ => Cert.ProjBwd.Gen.frame m g,
    fun m g _ => Cert.ProjBwdIdeal.Gen.frame m g,
    refProjBwd,
    fun m g _ => Cert.LnBwd.Gen.frame m g,
    fun m g _ => Cert.LnBwdIdeal.Gen.frame m g,
    refLnBwd,
    fun m g _ => Cert.LnInBwd.Gen.frame m g,
    fun m g _ => Cert.LnInBwdIdeal.Gen.frame m g,
    refLnInBwd,
    fun m g _ => Cert.Proj.Gen.frame m g,
    fun m g _ => Cert.ProjIdeal.Gen.frame m g,
    refProj,
    fun m g _ => Cert.BranchProj.Gen.frame m g,
    fun m g _ => Cert.BranchProjIdeal.Gen.frame m g,
    refBranchProj,
    fun m g _ => Cert.MlpUp.Gen.frame m g,
    fun m g _ => Cert.MlpUpIdeal.Gen.frame m g,
    refMlpUp,
    fun m g _ => Cert.OutProjLn.Gen.frame m g,
    fun m g _ => Cert.OutProjLnIdeal.Gen.frame m g,
    refOutProjLn,
    fun m g _ => Cert.MlpDownLn.Gen.frame m g,
    fun m g _ => Cert.MlpDownLnIdeal.Gen.frame m g,
    refMlpDownLn,
    Cert.MergeBwdIdeal.Hand.frame_kernel,
    fun m g _ => Cert.MergeBwdIdeal.Hand.frame m g,
    refMergeBwd,
    fun m g _ => Cert.Merge.Gen.frame m g,
    fun m g _ => Cert.MergeIdeal.Gen.frame m g,
    refMerge,
    fun m g _ => Cert.LnIn.Gen.frame m g,
    fun m g _ => Cert.LnInIdeal.Gen.frame m g,
    refLnIn,
    fun m g _ => Cert.Normgate.Gen.frame m g,
    fun m g _ => Cert.NormgateIdeal.Gen.frame m g,
    refNormgate,
    trivial,
    Cert.MlpDownBwdIdeal.Product.algebraic,
    trivial,
    Cert.MlpDownWgradIdeal.Product.algebraic,
    trivial,
    Cert.MlpUpBwdIdeal.Product.algebraic,
    trivial,
    Cert.MlpUpWgradIdeal.Product.algebraic,
    trivial,
    Cert.OutBwdIdeal.Product.algebraic,
    trivial,
    Cert.OutWgradIdeal.Product.algebraic,
    trivial,
    Cert.BranchBwdAIdeal.Product.algebraic,
    trivial,
    Cert.BranchBwdIdeal.Product.algebraic,
    trivial,
    Cert.BranchWgradIdeal.Product.algebraic,
    trivial,
    Cert.ProjWgradIdeal.Product.algebraic,
    trivial,
    Cert.ProjBwdIdeal.Product.algebraic,
    trivial,
    Cert.LnBwdIdeal.Product.algebraic,
    trivial,
    Cert.LnInBwdIdeal.Product.algebraic,
    trivial,
    Cert.ProjIdeal.Product.algebraic,
    trivial,
    Cert.BranchProjIdeal.Product.algebraic,
    trivial,
    Cert.MlpUpIdeal.Product.algebraic,
    trivial,
    Cert.OutProjLnIdeal.Product.algebraic,
    trivial,
    Cert.MlpDownLnIdeal.Product.algebraic,
    trivial,
    Cert.MergeBwdIdeal.Product.algebraic,
    trivial,
    Cert.MergeIdeal.Product.algebraic,
    trivial,
    Cert.LnInIdeal.Product.algebraic,
    trivial,
    Cert.NormgateIdeal.Product.algebraic⟩

end Cert.Proof

end
